-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "gelu_cubic" .bf16 0x3D37#16 ((12003091 / 268435456 : ℝ) : EReal)
  ∧ IdealRules.named_const.Statement Cert.KernelIdeal.κ "sqrt_two_over_pi" .bf16 0x3F4C#16 ((6693141 / 8388608 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x512x28x28 : Shape := ⟨4, ![8, 512, 28, 28]⟩
abbrev S784 : Shape := ⟨1, ![784]⟩
abbrev S2x512 : Shape := ⟨2, ![2, 512]⟩
abbrev S2x512x512 : Shape := ⟨3, ![2, 512, 512]⟩
abbrev S2x64x64 : Shape := ⟨3, ![2, 64, 64]⟩
abbrev S2x512x24 : Shape := ⟨3, ![2, 512, 24]⟩
abbrev S2x2048x512 : Shape := ⟨3, ![2, 2048, 512]⟩
abbrev S2x2048 : Shape := ⟨2, ![2, 2048]⟩
abbrev S2x512x2048 : Shape := ⟨3, ![2, 512, 2048]⟩
abbrev S_ : Shape := ⟨0, ![]⟩

class Facts : Prop where
  bcast_S_S8x512x28x28 : S_.BroadcastsInDim S8x512x28x28 (![] : Fin 0 → Fin S8x512x28x28.rank)
  reducesTo_S8x512x28x28_S_d0_1_2_3 : S8x512x28x28.ReducesTo [0, 1, 2, 3] S_
  h_S_ : 0 < S_.numel
  bcast_S_S784 : S_.BroadcastsInDim S784 (![] : Fin 0 → Fin S784.rank)
  reducesTo_S784_S_d0 : S784.ReducesTo [0] S_
  bcast_S_S2x512 : S_.BroadcastsInDim S2x512 (![] : Fin 0 → Fin S2x512.rank)
  reducesTo_S2x512_S_d0_1 : S2x512.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x64x64 : S_.BroadcastsInDim S2x64x64 (![] : Fin 0 → Fin S2x64x64.rank)
  reducesTo_S2x64x64_S_d0_1_2 : S2x64x64.ReducesTo [0, 1, 2] S_
  bcast_S_S2x512x24 : S_.BroadcastsInDim S2x512x24 (![] : Fin 0 → Fin S2x512x24.rank)
  reducesTo_S2x512x24_S_d0_1_2 : S2x512x24.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x512x2048 : S_.BroadcastsInDim S2x512x2048 (![] : Fin 0 → Fin S2x512x2048.rank)
  reducesTo_S2x512x2048_S_d0_1_2 : S2x512x2048.ReducesTo [0, 1, 2] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg12 : FVec F S2x2048x512 .f32) (main_arg13 : FVec F S2x2048 .f32) (main_arg14 : FVec F S2x512x2048 .f32) (main_arg15 : FVec F S2x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S2x2048x512 .f32 := Host.absf main_arg12
  let main_cst_22 : FVec F S_ .f32 := constant S_ .f32 0x7F800000#32
  let main_v49 : FVec F S2x2048x512 .f32 := broadcastInDim S2x2048x512 ![] bcast_S_S2x2048x512 main_cst_22
  let main_v50 : IVec S2x2048x512 1 := cmpf .olt main_v48 main_v49
  let main_c_23 : IVec S_ 1 := constantI S_ 1 1#1
  let main_v51 : IVec S_ 1 := (fun x v => Host.reduce IntOp.andi x v reducesTo_S2x2048x512_S_d0_1_2 h_S_) main_v50 main_c_23
  let main_v52 : FVec F S2x2048 .f32 := Host.absf main_arg13
  let main_cst_24 : FVec F S_ .f32 := constant S_ .f32 0x7F800000#32
  let main_v53 : FVec F S2x2048 .f32 := broadcastInDim S2x2048 ![] bcast_S_S2x2048 main_cst_24
  let main_v54 : IVec S2x2048 1 := cmpf .olt main_v52 main_v53
  let main_c_25 : IVec S_ 1 := constantI S_ 1 1#1
  let main_v55 : IVec S_ 1 := (fun x v => Host.reduce IntOp.andi x v reducesTo_S2x2048_S_d0_1 h_S_) main_v54 main_c_25
  let main_v56 : FVec F S2x512x2048 .f32 := Host.absf main_arg14
  let main_cst_26 : FVec F S_ .f32 := constant S_ .f32 0x7F800000#32
  let main_v57 : FVec F S2x512x2048 .f32 := broadcastInDim S2x512x2048 ![] bcast_S_S2x512x2048 main_cst_26
  let main_v58 : IVec S2x512x2048 1 := cmpf .olt main_v56 main_v57
  let main_c_27 : IVec S_ 1 := constantI S_ 1 1#1
  let main_v59 : IVec S_ 1 := (fun x v => Host.reduce IntOp.andi x v reducesTo_S2x512x2048_S_d0_1_2 h_S_) main_v58 main_c_27
  let main_v60 : FVec F S2x512 .f32 := Host.absf main_arg15
  let main_cst_28 : FVec F S_ .f32 := constant S_ .f32 0x7F800000#32
  let main_v61 : FVec F S2x512 .f32 := broadcastInDim S2x512 ![] bcast_S_S2x512 main_cst_28
  let main_v62 : IVec S2x512 1 := cmpf .olt main_v60 main_v61
  let main_c_29 : IVec S_ 1 := constantI S_ 1 1#1
  let main_v63 : IVec S_ 1 := (fun x v => Host.reduce IntOp.andi x v reducesTo_S2x512_S_d0_1 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg8 : FVec F S2x512x24 .f32) (main_arg9 : FVec F S2x512x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x512x24 .f32 := Host.absf main_arg8
  let main_cst_14 : FVec F S_ .f32 := constant S_ .f32 0x7F800000#32
  let main_v33 : FVec F S2x512x24 .f32 := broadcastInDim S2x512x24 ![] bcast_S_S2x512x24 main_cst_14
  let main_v34 : IVec S2x512x24 1 := cmpf .olt main_v32 main_v33
  let main_c_15 : IVec S_ 1 := constantI S_ 1 1#1
  let main_v35 : IVec S_ 1 := (fun x v => Host.reduce IntOp.andi x v reducesTo_S2x512x24_S_d0_1_2 h_S_) main_v34 main_c_15
  let main_v36 : FVec F S2x512x512 .f32 := Host.absf main_arg9
  let main_cst_16 : FVec F S_ .f32 := constant S_ .f32 0x7F800000#32
  let main_v37 : FVec F S2x512x512 .f32 := broadcastInDim S2x512x512 ![] bcast_S_S2x512x512 main_cst_16
  let main_v38 : IVec S2x512x512 1 := cmpf .olt main_v36 main_v37
  let main_c_17 : IVec S_ 1 := constantI S_ 1 1#1
  let main_v39 : IVec S_ 1 := (fun x v => Host.reduce IntOp.andi x v reducesTo_S2x512x512_S_d0_1_2 h_S_) main_v38 main_c_17
  let main_v40 : FVec F S2x512 .f32 := Host.absf main_arg10
  let main_cst_18 : FVec F S_ .f32 := constant S_ .f32 0x7F800000#32
  let main_v41 : FVec F S2x512 .f32 := broadcastInDim S2x512 ![] bcast_S_S2x512 main_cst_18
  let main_v42 : IVec S2x512 1 := cmpf .olt main_v40 main_v41
  let main_c_19 : IVec S_ 1 := constantI S_ 1 1#1
  let main_v43 : IVec S_ 1 := (fun x v => Host.reduce IntOp.andi x v reducesTo_S2x512_S_d0_1 h_S_) main_v42 main_c_19
  let main_v44 : FVec F S2x512 .f32 := Host.absf main_arg11
  let main_cst_20 : FVec F S_ .f32 := constant S_ .f32 0x7F800000#32
  let main_v45 : FVec F S2x512 .f32 := broadcastInDim S2x512 ![] bcast_S_S2x512 main_cst_20
  let main_v46 : IVec S2x512 1 := cmpf .olt main_v44 main_v45
  let main_c_21 : IVec S_ 1 := constantI S_ 1 1#1
  let main_v47 : IVec S_ 1 := (fun x v => Host.reduce IntOp.andi x v reducesTo_S2x512_S_d0_1 h_S_) main_v46 main_c_21
  fn_part3 (F := F) main_arg12 main_arg13 main_arg14 main_arg15 main_v3 main_v7 main_v11 main_v15 main_v19 main_v23 main_v27 main_v31 main_v35 main_v39 main_v43 main_v47

def fn_part1 {F : FTy → Type} [FloatOps F] (main_arg4 : FVec F S2x512x512 .f32) (main_arg5 : FVec F S2x512x512 .f32) (main_arg6 : FVec F S2x64x64 .f32) (main_arg7 : FVec F S2x64x64 .f32) (main_arg8 : FVec F S2x512x24 .f32) (main_arg9 : FVec F S2x512x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) (main_v3 : IVec S_ 1) (main_v7 : IVec S_ 1) (main_v11 : IVec S_ 1) (main_v15 : IVec S_ 1) : IVec S_ 1 :=
  let main_v16 : FVec F S2x512x512 .f32 := Host.absf main_arg4
  let main_cst_6 : FVec F S_ .f32 := constant S_ .f32 0x7F800000#32
  let main_v17 : FVec F S2x512x512 .f32 := broadcastInDim S2x512x512 ![] bcast_S_S2x512x512 main_cst_6
  let main_v18 : IVec S2x512x512 1 := cmpf .olt main_v16 main_v17
  let main_c_7 : IVec S_ 1 := constantI S_ 1 1#1
  let main_v19 : IVec S_ 1 := (fun x v => Host.reduce IntOp.andi x v reducesTo_S2x512x512_S_d0_1_2 h_S_) main_v18 main_c_7
  let main_v20 : FVec F S2x512x512 .f32 := Host.absf main_arg5
  let main_cst_8 : FVec F S_ .f32 := constant S_ .f32 0x7F800000#32
  let main_v21 : FVec F S2x512x512 .f32 := broadcastInDim S2x512x512 ![] bcast_S_S2x512x512 main_cst_8
  let main_v22 : IVec S2x512x512 1 := cmpf .olt main_v20 main_v21
  let main_c_9 : IVec S_ 1 := constantI S_ 1 1#1
  let main_v23 : IVec S_ 1 := (fun x v => Host.reduce IntOp.andi x v reducesTo_S2x512x512_S_d0_1_2 h_S_) main_v22 main_c_9
  let main_v24 : FVec F S2x64x64 .f32 := Host.absf main_arg6
  let main_cst_10 : FVec F S_ .f32 := constant S_ .f32 0x7F800000#32
  let main_v25 : FVec F S2x64x64 .f32 := broadcastInDim S2x64x64 ![] bcast_S_S2x64x64 main_cst_10
  let main_v26 : IVec S2x64x64 1 := cmpf .olt main_v24 main_v25
  let main_c_11 : IVec S_ 1 := constantI S_ 1 1#1
  let main_v27 : IVec S_ 1 := (fun x v => Host.reduce IntOp.andi x v reducesTo_S2x64x64_S_d0_1_2 h_S_) main_v26 main_c_11
  let main_v28 : FVec F S2x64x64 .f32 := Host.absf main_arg7
  let main_cst_12 : FVec F S_ .f32 := constant S_ .f32 0x7F800000#32
  let main_v29 : FVec F S2x64x64 .f32 := broadcastInDim S2x64x64 ![] bcast_S_S2x64x64 main_cst_12
  let main_v30 : IVec S2x64x64 1 := cmpf .olt main_v28 main_v29
  let main_c_13 : IVec S_ 1 := constantI S_ 1 1#1
  let main_v31 : IVec S_ 1 := (fun x v => Host.reduce IntOp.andi x v reducesTo_S2x64x64_S_d0_1_2 h_S_) main_v30 main_c_13
  fn_part2 (F := F) main_arg8 main_arg9 main_arg10 main_arg11 main_arg12 main_arg13 main_arg14 main_arg15 main_v3 main_v7 main_v11 main_v15 main_v19 main_v23 main_v27 main_v31

def fn {F : FTy → Type} [FloatOps F] (main_arg0 : FVec F S8x512x28x28 .f32) (main_arg1 : FVec F S784 .f32) (main_arg2 : FVec F S2x512 .f32) (main_arg3 : FVec F S2x512x512 .f32) (main_arg4 : FVec F S2x512x512 .f32) (main_arg5 : FVec F S2x512x512 .f32) (main_arg6 : FVec F S2x64x64 .f32) (main_arg7 : FVec F S2x64x64 .f32) (main_arg8 : FVec F S2x512x24 .f32) (main_arg9 : FVec F S2x512x512 .f32) (main_arg10 : FVec F S2x512 .f32) (main_arg11 : FVec F S2x512 .f32) (main_arg12 : FVec F S2x2048x512 .f32) (main_arg13 : FVec F S2x2048 .f32) (main_arg14 : FVec F S2x512x2048 .f32) (main_arg15 : FVec F S2x512 .f32) : IVec S_ 1 :=
  let main_v0 : FVec F S8x512x28x28 .f32 := Host.absf main_arg0
  let main_cst : FVec F S_ .f32 := constant S_ .f32 0x7F800000#32
  let main_v1 : FVec F S8x512x28x28 .f32 := broadcastInDim S8x512x28x28 ![] bcast_S_S8x512x28x28 main_cst
  let main_v2 : IVec S8x512x28x28 1 := cmpf .olt main_v0 main_v1
  let main_c : IVec S_ 1 := constantI S_ 1 1#1
  let main_v3 : IVec S_ 1 := (fun x v => Host.reduce IntOp.andi x v reducesTo_S8x512x28x28_S_d0_1_2_3 h_S_) main_v2 main_c
  let main_v4 : FVec F S784 .f32 := Host.absf main_arg1
  let main_cst_0 : FVec F S_ .f32 := constant S_ .f32 0x7F800000#32
  let main_v5 : FVec F S784 .f32 := broadcastInDim S784 ![] bcast_S_S784 main_cst_0
  let main_v6 : IVec S784 1 := cmpf .olt main_v4 main_v5
  let main_c_1 : IVec S_ 1 := constantI S_ 1 1#1
  let main_v7 : IVec S_ 1 := (fun x v => Host.reduce IntOp.andi x v reducesTo_S784_S_d0 h_S_) main_v6 main_c_1
  let main_v8 : FVec F S2x512 .f32 := Host.absf main_arg2
  let main_cst_2 : FVec F S_ .f32 := constant S_ .f32 0x7F800000#32
  let main_v9 : FVec F S2x512 .f32 := broadcastInDim S2x512 ![] bcast_S_S2x512 main_cst_2
  let main_v10 : IVec S2x512 1 := cmpf .olt main_v8 main_v9
  let main_c_3 : IVec S_ 1 := constantI S_ 1 1#1
  let main_v11 : IVec S_ 1 := (fun x v => Host.reduce IntOp.andi x v reducesTo_S2x512_S_d0_1 h_S_) main_v10 main_c_3
  let main_v12 : FVec F S2x512x512 .f32 := Host.absf main_arg3
  let main_cst_4 : FVec F S_ .f32 := constant S_ .f32 0x7F800000#32
  let main_v13 : FVec F S2x512x512 .f32 := broadcastInDim S2x512x512 ![] bcast_S_S2x512x512 main_cst_4
  let main_v14 : IVec S2x512x512 1 := cmpf .olt main_v12 main_v13
  let main_c_5 : IVec S_ 1 := constantI S_ 1 1#1
  let main_v15 : IVec S_ 1 := (fun x v => Host.reduce IntOp.andi x v reducesTo_S2x512x512_S_d0_1_2 h_S_) main_v14 main_c_5
  fn_part1 (F := F) main_arg4 main_arg5 main_arg6 main_arg7 main_arg8 main_arg9 main_arg10 main_arg11 main_arg12 main_arg13 main_arg14 main_arg15 main_v3 main_v7 main_v11 main_v15
-- ==== Kernel.lean ====
abbrev S8x512x28x28 : Shape := ⟨4, ![8, 512, 28, 28]⟩
abbrev S784 : Shape := ⟨1, ![784]⟩
abbrev S2x512 : Shape := ⟨2, ![2, 512]⟩
abbrev S2x512x512 : Shape := ⟨3, ![2, 512, 512]⟩
abbrev S2x64x64 : Shape := ⟨3, ![2, 64, 64]⟩
abbrev S2x512x24 : Shape := ⟨3, ![2, 512, 24]⟩
abbrev S2x2048x512 : Shape := ⟨3, ![2, 2048, 512]⟩
abbrev S2x2048 : Shape := ⟨2, ![2, 2048]⟩
abbrev S2x512x2048 : Shape := ⟨3, ![2, 512, 2048]⟩
abbrev S8x512x784 : Shape := ⟨3, ![8, 512, 784]⟩
abbrev S1x784 : Shape := ⟨2, ![1, 784]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x512x24 : Shape := ⟨3, ![1, 512, 24]⟩
abbrev S512x24 : Shape := ⟨2, ![512, 24]⟩
abbrev S1x64x64 : Shape := ⟨3, ![1, 64, 64]⟩
abbrev S64x64 : Shape := ⟨2, ![64, 64]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S8x784x512 : Shape := ⟨3, ![8, 784, 512]⟩
abbrev S1x512x784 : Shape := ⟨3, ![1, 512, 784]⟩
abbrev S1x784x512 : Shape := ⟨3, ![1, 784, 512]⟩
abbrev S512x784 : Shape := ⟨2, ![512, 784]⟩
abbrev S784x512 : Shape := ⟨2, ![784, 512]⟩
abbrev S784x1 : Shape := ⟨2, ![784, 1]⟩
abbrev S784x24 : Shape := ⟨2, ![784, 24]⟩
abbrev S784x784 : Shape := ⟨2, ![784, 784]⟩
abbrev S392x512 : Shape := ⟨2, ![392, 512]⟩
abbrev S3x512 : Shape := ⟨2, ![3, 512]⟩
abbrev S512x2 : Shape := ⟨2, ![512, 2]⟩
abbrev S512x16 : Shape := ⟨2, ![512, 16]⟩
abbrev S784x16 : Shape := ⟨2, ![784, 16]⟩
abbrev S784x64 : Shape := ⟨2, ![784, 64]⟩
abbrev S784x65 : Shape := ⟨2, ![784, 65]⟩
abbrev S3x64 : Shape := ⟨2, ![3, 64]⟩
abbrev S784x3 : Shape := ⟨2, ![784, 3]⟩
abbrev S784x2048 : Shape := ⟨2, ![784, 2048]⟩

abbrev nBuf : Space → Nat
  | .hbm => 149
  | .vmem => 31
  | .smem => 0
  | _ => 0

abbrev hbmTy0_0 (i : Nat) : BufTy := match i % 128 with
  | 0 => ⟨S8x512x28x28, .f32⟩
  | 1 => ⟨S784, .f32⟩
  | 2 => ⟨S2x512, .f32⟩
  | 3 => ⟨S2x512x512, .f32⟩
  | 4 => ⟨S2x512x512, .f32⟩
  | 5 => ⟨S2x512x512, .f32⟩
  | 6 => ⟨S2x64x64, .f32⟩
  | 7 => ⟨S2x64x64, .f32⟩
  | 8 => ⟨S2x512x24, .f32⟩
  | 9 => ⟨S2x512x512, .f32⟩
  | 10 => ⟨S2x512, .f32⟩
  | 11 => ⟨S2x512, .f32⟩
  | 12 => ⟨S2x2048x512, .f32⟩
  | 13 => ⟨S2x2048, .f32⟩
  | 14 => ⟨S2x512x2048, .f32⟩
  | 15 => ⟨S2x512, .f32⟩
  | 16 => ⟨S8x512x784, .f32⟩
  | 17 => ⟨S1x784, .f32⟩
  | 18 => ⟨S1x512x512, .f32⟩
  | 19 => ⟨S512x512, .f32⟩
  | 20 => ⟨S1x512, .f32⟩
  | 21 => ⟨S512, .f32⟩
  | 22 => ⟨S512x1, .f32⟩
  | 23 => ⟨S512x512, .f32⟩
  | 24 => ⟨S512x512, .f32⟩
  | 25 => ⟨S512x512, .bf16⟩
  | 26 => ⟨S1x512x512, .f32⟩
  | 27 => ⟨S512x512, .f32⟩
  | 28 => ⟨S1x512, .f32⟩
  | 29 => ⟨S512, .f32⟩
  | 30 => ⟨S512x1, .f32⟩
  | 31 => ⟨S512x512, .f32⟩
  | 32 => ⟨S512x512, .f32⟩
  | 33 => ⟨S512x512, .bf16⟩
  | 34 => ⟨S1x512x512, .f32⟩
  | 35 => ⟨S512x512, .f32⟩
  | 36 => ⟨S1x512, .f32⟩
  | 37 => ⟨S512, .f32⟩
  | 38 => ⟨S512x1, .f32⟩
  | 39 => ⟨S512x512, .f32⟩
  | 40 => ⟨S512x512, .f32⟩
  | 41 => ⟨S512x512, .bf16⟩
  | 42 => ⟨S1x512x24, .f32⟩
  | 43 => ⟨S512x24, .f32⟩
  | 44 => ⟨S1x512, .f32⟩
  | 45 => ⟨S512, .f32⟩
  | 46 => ⟨S512x1, .f32⟩
  | 47 => ⟨S512x24, .f32⟩
  | 48 => ⟨S512x24, .f32⟩
  | 49 => ⟨S512x24, .bf16⟩
  | 50 => ⟨S1x64x64, .f32⟩
  | 51 => ⟨S64x64, .f32⟩
  | 52 => ⟨S64x64, .bf16⟩
  | 53 => ⟨S1x64x64, .f32⟩
  | 54 => ⟨S64x64, .f32⟩
  | 55 => ⟨S64x64, .bf16⟩
  | 56 => ⟨S1x512x512, .f32⟩
  | 57 => ⟨S512x512, .f32⟩
  | 58 => ⟨S512x512, .bf16⟩
  | 59 => ⟨S1x2048x512, .f32⟩
  | 60 => ⟨S2048x512, .f32⟩
  | 61 => ⟨S1x512, .f32⟩
  | 62 => ⟨S512, .f32⟩
  | 63 => ⟨S1x512, .f32⟩
  | 64 => ⟨S2048x512, .f32⟩
  | 65 => ⟨S2048x512, .f32⟩
  | 66 => ⟨S2048x512, .bf16⟩
  | 67 => ⟨S1x2048, .f32⟩
  | 68 => ⟨S2048, .f32⟩
  | 69 => ⟨S1x2048x512, .f32⟩
  | 70 => ⟨S2048x512, .f32⟩
  | 71 => ⟨S1x512, .f32⟩
  | 72 => ⟨S512, .f32⟩
  | 73 => ⟨S2048, .f32⟩
  | 74 => ⟨S2048, .f32⟩
  | 75 => ⟨S1x2048, .f32⟩
  | 76 => ⟨S1x512x2048, .f32⟩
  | 77 => ⟨S512x2048, .f32⟩
  | 78 => ⟨S512x2048, .bf16⟩
  | 79 => ⟨S1x512, .f32⟩
  | 80 => ⟨S512, .f32⟩
  | 81 => ⟨S1x512, .f32⟩
  | 82 => ⟨S8x784x512, .f32⟩
  | 83 => ⟨S1x512x512, .f32⟩
  | 84 => ⟨S512x512, .f32⟩
  | 85 => ⟨S1x512, .f32⟩
  | 86 => ⟨S512, .f32⟩
  | 87 => ⟨S512x1, .f32⟩
  | 88 => ⟨S512x512, .f32⟩
  | 89 => ⟨S512x512, .f32⟩
  | 90 => ⟨S512x512, .bf16⟩
  | 91 => ⟨S1x512x512, .f32⟩
  | 92 => ⟨S512x512, .f32⟩
  | 93 => ⟨S1x512, .f32⟩
  | 94 => ⟨S512, .f32⟩
  | 95 => ⟨S512x1, .f32⟩
  | 96 => ⟨S512x512, .f32⟩
  | 97 => ⟨S512x512, .f32⟩
  | 98 => ⟨S512x512, .bf16⟩
  | 99 => ⟨S1x512x512, .f32⟩
  | 100 => ⟨S512x512, .f32⟩
  | 101 => ⟨S1x512, .f32⟩
  | 102 => ⟨S512, .f32⟩
  | 103 => ⟨S512x1, .f32⟩
  | 104 => ⟨S512x512, .f32⟩
  | 105 => ⟨S512x512, .f32⟩
  | 106 => ⟨S512x512, .bf16⟩
  | 107 => ⟨S1x512x24, .f32⟩
  | 108 => ⟨S512x24, .f32⟩
  | 109 => ⟨S1x512, .f32⟩
  | 110 => ⟨S512, .f32⟩
  | 111 => ⟨S512x1, .f32⟩
  | 112 => ⟨S512x24, .f32⟩
  | 113 => ⟨S512x24, .f32⟩
  | 114 => ⟨S512x24, .bf16⟩
  | 115 => ⟨S1x64x64, .f32⟩
  | 116 => ⟨S64x64, .f32⟩
  | 117 => ⟨S64x64, .bf16⟩
  | 118 => ⟨S1x64x64, .f32⟩
  | 119 => ⟨S64x64, .f32⟩
  | 120 => ⟨S64x64, .bf16⟩
  | 121 => ⟨S1x512x512, .f32⟩
  | 122 => ⟨S512x512, .f32⟩
  | 123 => ⟨S512x512, .bf16⟩
  | 124 => ⟨S1x2048x512, .f32⟩
  | 125 => ⟨S2048x512, .f32⟩
  | 126 => ⟨S1x512, .f32⟩
  | 127 => ⟨S512, .f32⟩
  | _ => ⟨S8x512x28x28, .f32⟩

abbrev hbmTy0_1 (i : Nat) : BufTy := match i % 128 with
  | 0 => ⟨S1x512, .f32⟩
  | 1 => ⟨S2048x512, .f32⟩
  | 2 => ⟨S2048x512, .f32⟩
  | 3 => ⟨S2048x512, .bf16⟩
  | 4 => ⟨S1x2048, .f32⟩
  | 5 => ⟨S2048, .f32⟩
  | 6 => ⟨S1x2048x512, .f32⟩
  | 7 => ⟨S2048x512, .f32⟩
  | 8 => ⟨S1x512, .f32⟩
  | 9 => ⟨S512, .f32⟩
  | 10 => ⟨S2048, .f32⟩
  | 11 => ⟨S2048, .f32⟩
  | 12 => ⟨S1x2048, .f32⟩
  | 13 => ⟨S1x512x2048, .f32⟩
  | 14 => ⟨S512x2048, .f32⟩
  | 15 => ⟨S512x2048, .bf16⟩
  | 16 => ⟨S1x512, .f32⟩
  | 17 => ⟨S512, .f32⟩
  | 18 => ⟨S1x512, .f32⟩
  | 19 => ⟨S8x512x784, .f32⟩
  | 20 => ⟨S8x512x28x28, .f32⟩
  | _ => ⟨S8x512x28x28, .f32⟩

abbrev hbmTy (i : Nat) : BufTy := match i / 128 with
  | 0 => hbmTy0_0 i
  | 1 => hbmTy0_1 i
  | _ => ⟨S8x512x28x28, .f32⟩

abbrev bufTy : (tb : Table) → Fin (tcTables nBuf tb) → BufTy
  | .hbm, ⟨i, _⟩ => hbmTy i
  | .local _ .vmem, ⟨0, _⟩ => ⟨S1x512x784, .f32⟩
  | .local _ .vmem, ⟨1, _⟩ => ⟨S1x512x784, .f32⟩
  | .local _ .vmem, ⟨2, _⟩ => ⟨S1x784, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x24, .bf16⟩
  | .local _ .vmem, ⟨7, _⟩ => ⟨S64x64, .bf16⟩
  | .local _ .vmem, ⟨8, _⟩ => ⟨S64x64, .bf16⟩
  | .local _ .vmem, ⟨9, _⟩ => ⟨S512x512, .bf16⟩
  | .local _ .vmem, ⟨10, _⟩ => ⟨S2048x512, .bf16⟩
  | .local _ .vmem, ⟨11, _⟩ => ⟨S1x2048, .f32⟩
  | .local _ .vmem, ⟨12, _⟩ => ⟨S512x2048, .bf16⟩
  | .local _ .vmem, ⟨13, _⟩ => ⟨S1x512, .f32⟩
  | .local _ .vmem, ⟨14, _⟩ => ⟨S1x784x512, .f32⟩
  | .local _ .vmem, ⟨15, _⟩ => ⟨S1x784x512, .f32⟩
  | .local _ .vmem, ⟨16, _⟩ => ⟨S1x784x512, .f32⟩
  | .local _ .vmem, ⟨17, _⟩ => ⟨S1x784x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x24, .bf16⟩
  | .local _ .vmem, ⟨22, _⟩ => ⟨S64x64, .bf16⟩
  | .local _ .vmem, ⟨23, _⟩ => ⟨S64x64, .bf16⟩
  | .local _ .vmem, ⟨24, _⟩ => ⟨S512x512, .bf16⟩
  | .local _ .vmem, ⟨25, _⟩ => ⟨S2048x512, .bf16⟩
  | .local _ .vmem, ⟨26, _⟩ => ⟨S1x2048, .f32⟩
  | .local _ .vmem, ⟨27, _⟩ => ⟨S512x2048, .bf16⟩
  | .local _ .vmem, ⟨28, _⟩ => ⟨S1x512, .f32⟩
  | .local _ .vmem, ⟨29, _⟩ => ⟨S1x512x784, .f32⟩
  | .local _ .vmem, ⟨30, _⟩ => ⟨S1x512x784, .f32⟩
  | _, _ => ⟨S8x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_v49 : Ref sig .tc := ⟨.hbm, 65, rfl⟩
abbrev main_call0_v50 : Ref sig .tc := ⟨.hbm, 66, rfl⟩
abbrev main_call0_v51 : Ref sig .tc := ⟨.hbm, 67, rfl⟩
abbrev main_call0_v52 : Ref sig .tc := ⟨.hbm, 68, rfl⟩
abbrev main_call0_v53 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_v60 : Ref sig .tc := ⟨.hbm, 76, rfl⟩
abbrev main_call0_v61 : Ref sig .tc := ⟨.hbm, 77, rfl⟩
abbrev main_call0_v62 : Ref sig .tc := ⟨.hbm, 78, rfl⟩
abbrev main_call0_v63 : Ref sig .tc := ⟨.hbm, 79, rfl⟩
abbrev main_call0_v64 : Ref sig .tc := ⟨.hbm, 80, rfl⟩
abbrev main_call0_v65 : Ref sig .tc := ⟨.hbm, 81, rfl⟩
abbrev main_call0_v66 : Ref sig .tc := ⟨.hbm, 82, rfl⟩
abbrev main_call0_v67 : Ref sig .tc := ⟨.hbm, 83, rfl⟩
abbrev main_call0_v68 : Ref sig .tc := ⟨.hbm, 84, rfl⟩
abbrev main_call0_v69 : Ref sig .tc := ⟨.hbm, 85, rfl⟩
abbrev main_call0_v70 : Ref sig .tc := ⟨.hbm, 86, rfl⟩
abbrev main_call0_v71 : Ref sig .tc := ⟨.hbm, 87, rfl⟩
abbrev main_call0_v72 : Ref sig .tc := ⟨.hbm, 88, rfl⟩
abbrev main_call0_v73 : Ref sig .tc := ⟨.hbm, 89, rfl⟩
abbrev main_call0_v74 : Ref sig .tc := ⟨.hbm, 90, rfl⟩
abbrev main_call0_v75 : Ref sig .tc := ⟨.hbm, 91, rfl⟩
abbrev main_call0_v76 : Ref sig .tc := ⟨.hbm, 92, rfl⟩
abbrev main_call0_v77 : Ref sig .tc := ⟨.hbm, 93, rfl⟩
abbrev main_call0_v78 : Ref sig .tc := ⟨.hbm, 94, rfl⟩
abbrev main_call0_v79 : Ref sig .tc := ⟨.hbm, 95, rfl⟩
abbrev main_call0_v80 : Ref sig .tc := ⟨.hbm, 96, rfl⟩
abbrev main_call0_v81 : Ref sig .tc := ⟨.hbm, 97, rfl⟩
abbrev main_call0_v82 : Ref sig .tc := ⟨.hbm, 98, rfl⟩
abbrev main_call0_v83 : Ref sig .tc := ⟨.hbm, 99, rfl⟩
abbrev main_call0_v84 : Ref sig .tc := ⟨.hbm, 100, rfl⟩
abbrev main_call0_v85 : Ref sig .tc := ⟨.hbm, 101, rfl⟩
abbrev main_call0_v86 : Ref sig .tc := ⟨.hbm, 102, rfl⟩
abbrev main_call0_v87 : Ref sig .tc := ⟨.hbm, 103, rfl⟩
abbrev main_call0_v88 : Ref sig .tc := ⟨.hbm, 104, rfl⟩
abbrev main_call0_v89 : Ref sig .tc := ⟨.hbm, 105, rfl⟩
abbrev main_call0_v90 : Ref sig .tc := ⟨.hbm, 106, rfl⟩
abbrev main_call0_v91 : Ref sig .tc := ⟨.hbm, 107, rfl⟩
abbrev main_call0_v92 : Ref sig .tc := ⟨.hbm, 108, rfl⟩
abbrev main_call0_v93 : Ref sig .tc := ⟨.hbm, 109, rfl⟩
abbrev main_call0_v94 : Ref sig .tc := ⟨.hbm, 110, rfl⟩
abbrev main_call0_v95 : Ref sig .tc := ⟨.hbm, 111, rfl⟩
abbrev main_call0_v96 : Ref sig .tc := ⟨.hbm, 112, rfl⟩
abbrev main_call0_v97 : Ref sig .tc := ⟨.hbm, 113, rfl⟩
abbrev main_call0_v98 : Ref sig .tc := ⟨.hbm, 114, rfl⟩
abbrev main_call0_v99 : Ref sig .tc := ⟨.hbm, 115, rfl⟩
abbrev main_call0_v100 : Ref sig .tc := ⟨.hbm, 116, rfl⟩
abbrev main_call0_v101 : Ref sig .tc := ⟨.hbm, 117, rfl⟩
abbrev main_call0_v102 : Ref sig .tc := ⟨.hbm, 118, rfl⟩
abbrev main_call0_v103 : Ref sig .tc := ⟨.hbm, 119, rfl⟩
abbrev main_call0_v104 : Ref sig .tc := ⟨.hbm, 120, rfl⟩
abbrev main_call0_v105 : Ref sig .tc := ⟨.hbm, 121, rfl⟩
abbrev main_call0_v106 : Ref sig .tc := ⟨.hbm, 122, rfl⟩
abbrev main_call0_v107 : Ref sig .tc := ⟨.hbm, 123, rfl⟩
abbrev main_call0_v108 : Ref sig .tc := ⟨.hbm, 124, rfl⟩
abbrev main_call0_v109 : Ref sig .tc := ⟨.hbm, 125, rfl⟩
abbrev main_call0_v110 : Ref sig .tc := ⟨.hbm, 126, rfl⟩
abbrev main_call0_v111 : Ref sig .tc := ⟨.hbm, 127, rfl⟩
abbrev main_call0_v112 : Ref sig .tc := ⟨.hbm, 128, rfl⟩
abbrev main_call0_v113 : Ref sig .tc := ⟨.hbm, 129, rfl⟩
abbrev main_call0_v114 : Ref sig .tc := ⟨.hbm, 130, rfl⟩
abbrev main_call0_v115 : Ref sig .tc := ⟨.hbm, 131, rfl⟩
abbrev main_call0_v116 : Ref sig .tc := ⟨.hbm, 132, rfl⟩
abbrev main_call0_v117 : Ref sig .tc := ⟨.hbm, 133, rfl⟩
abbrev main_call0_v118 : Ref sig .tc := ⟨.hbm, 134, rfl⟩
abbrev main_call0_v119 : Ref sig .tc := ⟨.hbm, 135, rfl⟩
abbrev main_call0_v120 : Ref sig .tc := ⟨.hbm, 136, rfl⟩
abbrev main_call0_v121 : Ref sig .tc := ⟨.hbm, 137, rfl⟩
abbrev main_call0_v122 : Ref sig .tc := ⟨.hbm, 138, rfl⟩
abbrev main_call0_v123 : Ref sig .tc := ⟨.hbm, 139, rfl⟩
abbrev main_call0_v124 : Ref sig .tc := ⟨.hbm, 140, rfl⟩
abbrev main_call0_v125 : Ref sig .tc := ⟨.hbm, 141, rfl⟩
abbrev main_call0_v126 : Ref sig .tc := ⟨.hbm, 142, rfl⟩
abbrev main_call0_v127 : Ref sig .tc := ⟨.hbm, 143, rfl⟩
abbrev main_call0_v128 : Ref sig .tc := ⟨.hbm, 144, rfl⟩
abbrev main_call0_v129 : Ref sig .tc := ⟨.hbm, 145, rfl⟩
abbrev main_call0_v130 : Ref sig .tc := ⟨.hbm, 146, rfl⟩
abbrev main_call0_v131 : Ref sig .tc := ⟨.hbm, 147, rfl⟩
abbrev main_v0 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg12_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem12_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x24 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x784x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x784x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x24 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x2048 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x512x784 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "gelu_cubic" => some ((12003091 / 268435456 : ℝ) : EReal)
  | "sqrt_two_over_pi" => some ((6693141 / 8388608 : ℝ) : EReal)
  | _ => none
-- ==== ReferenceIdeal.lean ====
abbrev S8x512x28x28 : Shape := ⟨4, ![8, 512, 28, 28]⟩
abbrev S784 : Shape := ⟨1, ![784]⟩
abbrev S2x512 : Shape := ⟨2, ![2, 512]⟩
abbrev S2x512x512 : Shape := ⟨3, ![2, 512, 512]⟩
abbrev S2x64x64 : Shape := ⟨3, ![2, 64, 64]⟩
abbrev S2x512x24 : Shape := ⟨3, ![2, 512, 24]⟩
abbrev S2x2048x512 : Shape := ⟨3, ![2, 2048, 512]⟩
abbrev S2x2048 : Shape := ⟨2, ![2, 2048]⟩
abbrev S2x512x2048 : Shape := ⟨3, ![2, 512, 2048]⟩
abbrev S1x1x28x28 : Shape := ⟨4, ![1, 1, 28, 28]⟩
abbrev S8x512x784 : Shape := ⟨3, ![8, 512, 784]⟩
abbrev S8x784x512 : Shape := ⟨3, ![8, 784, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x64x64 : Shape := ⟨3, ![1, 64, 64]⟩
abbrev S64x64 : Shape := ⟨2, ![64, 64]⟩
abbrev S1x512x24 : Shape := ⟨3, ![1, 512, 24]⟩
abbrev S512x24 : Shape := ⟨2, ![512, 24]⟩
abbrev S_ : Shape := ⟨0, ![]⟩
abbrev S8x784 : Shape := ⟨2, ![8, 784]⟩
abbrev S8x784x1 : Shape := ⟨3, ![8, 784, 1]⟩
abbrev S1x1x512 : Shape := ⟨3, ![1, 1, 512]⟩
abbrev S8x784x8x64 : Shape := ⟨4, ![8, 784, 8, 64]⟩
abbrev S8x8x784x64 : Shape := ⟨4, ![8, 8, 784, 64]⟩
abbrev S3 : Shape := ⟨1, ![3]⟩
abbrev S3x1 : Shape := ⟨2, ![3, 1]⟩
abbrev S392 : Shape := ⟨1, ![392]⟩
abbrev S1x392 : Shape := ⟨2, ![1, 392]⟩
abbrev S3x392 : Shape := ⟨2, ![3, 392]⟩
abbrev S3x392x1 : Shape := ⟨3, ![3, 392, 1]⟩
abbrev S1 : Shape := ⟨1, ![1]⟩
abbrev S1x1x1 : Shape := ⟨3, ![1, 1, 1]⟩
abbrev S8x8x3x392x64 : Shape := ⟨5, ![8, 8, 3, 392, 64]⟩
abbrev S8x8x3x64 : Shape := ⟨4, ![8, 8, 3, 64]⟩
abbrev S8x8x784x3 : Shape := ⟨4, ![8, 8, 784, 3]⟩
abbrev S8x8x784 : Shape := ⟨3, ![8, 8, 784]⟩
abbrev S8x8x784x1 : Shape := ⟨4, ![8, 8, 784, 1]⟩
abbrev S8x8x784x784 : Shape := ⟨4, ![8, 8, 784, 784]⟩
abbrev S8x8x2x392x64 : Shape := ⟨5, ![8, 8, 2, 392, 64]⟩
abbrev S8x8x2x64 : Shape := ⟨4, ![8, 8, 2, 64]⟩
abbrev S8x8x784x2 : Shape := ⟨4, ![8, 8, 784, 2]⟩
abbrev S2 : Shape := ⟨1, ![2]⟩
abbrev S1x1x1x784 : Shape := ⟨4, ![1, 1, 1, 784]⟩
abbrev S784x1 : Shape := ⟨2, ![784, 1]⟩
abbrev S1x784 : Shape := ⟨2, ![1, 784]⟩
abbrev S784x784 : Shape := ⟨2, ![784, 784]⟩
abbrev S1x1x784x784 : Shape := ⟨4, ![1, 1, 784, 784]⟩
abbrev S8x784x24 : Shape := ⟨3, ![8, 784, 24]⟩
abbrev S8x784x8x3 : Shape := ⟨4, ![8, 784, 8, 3]⟩
abbrev S8x28x28 : Shape := ⟨3, ![8, 28, 28]⟩
abbrev S8x1x28x28 : Shape := ⟨4, ![8, 1, 28, 28]⟩
abbrev S1x512x1x1 : Shape := ⟨4, ![1, 512, 1, 1]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S2048x8x28x28 : Shape := ⟨4, ![2048, 8, 28, 28]⟩
abbrev S8x2048x28x28 : Shape := ⟨4, ![8, 2048, 28, 28]⟩
abbrev S1x2048x1x1 : Shape := ⟨4, ![1, 2048, 1, 1]⟩
abbrev S512x8x28x28 : Shape := ⟨4, ![512, 8, 28, 28]⟩

abbrev nBuf : Space → Nat
  | .hbm => 699
  | .vmem => 0
  | .smem => 0
  | _ => 0

abbrev hbmTy0_0 (i : Nat) : BufTy := match i % 128 with
  | 0 => ⟨S8x512x28x28, .f32⟩
  | 1 => ⟨S784, .f32⟩
  | 2 => ⟨S2x512, .f32⟩
  | 3 => ⟨S2x512x512, .f32⟩
  | 4 => ⟨S2x512x512, .f32⟩
  | 5 => ⟨S2x512x512, .f32⟩
  | 6 => ⟨S2x64x64, .f32⟩
  | 7 => ⟨S2x64x64, .f32⟩
  | 8 => ⟨S2x512x24, .f32⟩
  | 9 => ⟨S2x512x512, .f32⟩
  | 10 => ⟨S2x512, .f32⟩
  | 11 => ⟨S2x512, .f32⟩
  | 12 => ⟨S2x2048x512, .f32⟩
  | 13 => ⟨S2x2048, .f32⟩
  | 14 => ⟨S2x512x2048, .f32⟩
  | 15 => ⟨S2x512, .f32⟩
  | 16 => ⟨S1x1x28x28, .f32⟩
  | 17 => ⟨S8x512x28x28, .f32⟩
  | 18 => ⟨S8x512x28x28, .f32⟩
  | 19 => ⟨S8x512x784, .f32⟩
  | 20 => ⟨S8x784x512, .f32⟩
  | 21 => ⟨S1x512, .f32⟩
  | 22 => ⟨S512, .f32⟩
  | 23 => ⟨S1x512x512, .f32⟩
  | 24 => ⟨S512x512, .f32⟩
  | 25 => ⟨S1x512x512, .f32⟩
  | 26 => ⟨S512x512, .f32⟩
  | 27 => ⟨S1x512x512, .f32⟩
  | 28 => ⟨S512x512, .f32⟩
  | 29 => ⟨S1x64x64, .f32⟩
  | 30 => ⟨S64x64, .f32⟩
  | 31 => ⟨S1x64x64, .f32⟩
  | 32 => ⟨S64x64, .f32⟩
  | 33 => ⟨S1x512x24, .f32⟩
  | 34 => ⟨S512x24, .f32⟩
  | 35 => ⟨S1x512x512, .f32⟩
  | 36 => ⟨S512x512, .f32⟩
  | 37 => ⟨S8x784x512, .f32⟩
  | 38 => ⟨S_, .f32⟩
  | 39 => ⟨S8x784, .f32⟩
  | 40 => ⟨S8x784x1, .f32⟩
  | 41 => ⟨S_, .f32⟩
  | 42 => ⟨S8x784x1, .f32⟩
  | 43 => ⟨S8x784x1, .f32⟩
  | 44 => ⟨S_, .f32⟩
  | 45 => ⟨S8x784x1, .f32⟩
  | 46 => ⟨S8x784x1, .f32⟩
  | 47 => ⟨S8x784x1, .f32⟩
  | 48 => ⟨S8x784x512, .f32⟩
  | 49 => ⟨S8x784x512, .f32⟩
  | 50 => ⟨S1x1x512, .f32⟩
  | 51 => ⟨S8x784x512, .f32⟩
  | 52 => ⟨S8x784x512, .f32⟩
  | 53 => ⟨S8x784x512, .f32⟩
  | 54 => ⟨S8x784x8x64, .f32⟩
  | 55 => ⟨S8x8x784x64, .f32⟩
  | 56 => ⟨S8x784x512, .f32⟩
  | 57 => ⟨S8x784x8x64, .f32⟩
  | 58 => ⟨S8x8x784x64, .f32⟩
  | 59 => ⟨S8x784x512, .f32⟩
  | 60 => ⟨S8x784x8x64, .f32⟩
  | 61 => ⟨S8x8x784x64, .f32⟩
  | 62 => ⟨S3, .i32⟩
  | 63 => ⟨S3x1, .i32⟩
  | 64 => ⟨S_, .i32⟩
  | 65 => ⟨S3x1, .i32⟩
  | 66 => ⟨S3x1, .i32⟩
  | 67 => ⟨S392, .i32⟩
  | 68 => ⟨S1x392, .i32⟩
  | 69 => ⟨S3x392, .i32⟩
  | 70 => ⟨S3x392, .i32⟩
  | 71 => ⟨S3x392, .i32⟩
  | 72 => ⟨S_, .i32⟩
  | 73 => ⟨S3x392, .i32⟩
  | 74 => ⟨S3x392, .i1⟩
  | 75 => ⟨S_, .i32⟩
  | 76 => ⟨S3x392, .i32⟩
  | 77 => ⟨S3x392, .i32⟩
  | 78 => ⟨S3x392, .i32⟩
  | 79 => ⟨S3x392x1, .i32⟩
  | 80 => ⟨S1, .i32⟩
  | 81 => ⟨S_, .i32⟩
  | 82 => ⟨S3x392x1, .i32⟩
  | 83 => ⟨S3x392x1, .i1⟩
  | 84 => ⟨S1x1x1, .i32⟩
  | 85 => ⟨S3x392x1, .i32⟩
  | 86 => ⟨S3x392x1, .i1⟩
  | 87 => ⟨S3x392x1, .i1⟩
  | 88 => ⟨S_, .i1⟩
  | 89 => ⟨S3x392, .i1⟩
  | 90 => ⟨S8x8x3x392x64, .f32⟩
  | 91 => ⟨S8x8x3x392x64, .i1⟩
  | 92 => ⟨S_, .f32⟩
  | 93 => ⟨S8x8x3x392x64, .f32⟩
  | 94 => ⟨S8x8x3x392x64, .f32⟩
  | 95 => ⟨S_, .f32⟩
  | 96 => ⟨S8x8x3x64, .f32⟩
  | 97 => ⟨S_, .f32⟩
  | 98 => ⟨S8x8x3x64, .f32⟩
  | 99 => ⟨S8x8x3x64, .f32⟩
  | 100 => ⟨S8x8x3x64, .f32⟩
  | 101 => ⟨S_, .i32⟩
  | 102 => ⟨S3x392, .i32⟩
  | 103 => ⟨S3x392, .i1⟩
  | 104 => ⟨S_, .i32⟩
  | 105 => ⟨S3x392, .i32⟩
  | 106 => ⟨S3x392, .i32⟩
  | 107 => ⟨S3x392, .i32⟩
  | 108 => ⟨S3x392x1, .i32⟩
  | 109 => ⟨S1, .i32⟩
  | 110 => ⟨S_, .i32⟩
  | 111 => ⟨S3x392x1, .i32⟩
  | 112 => ⟨S3x392x1, .i1⟩
  | 113 => ⟨S1x1x1, .i32⟩
  | 114 => ⟨S3x392x1, .i32⟩
  | 115 => ⟨S3x392x1, .i1⟩
  | 116 => ⟨S3x392x1, .i1⟩
  | 117 => ⟨S_, .i1⟩
  | 118 => ⟨S3x392, .i1⟩
  | 119 => ⟨S8x8x3x392x64, .f32⟩
  | 120 => ⟨S8x8x3x392x64, .i1⟩
  | 121 => ⟨S_, .f32⟩
  | 122 => ⟨S8x8x3x392x64, .f32⟩
  | 123 => ⟨S8x8x3x392x64, .f32⟩
  | 124 => ⟨S_, .f32⟩
  | 125 => ⟨S8x8x3x64, .f32⟩
  | 126 => ⟨S_, .f32⟩
  | 127 => ⟨S8x8x3x64, .f32⟩
  | _ => ⟨S8x512x28x28, .f32⟩

abbrev hbmTy0_1 (i : Nat) : BufTy := match i % 128 with
  | 0 => ⟨S8x8x3x64, .f32⟩
  | 1 => ⟨S8x8x3x64, .f32⟩
  | 2 => ⟨S8x8x784x3, .f32⟩
  | 3 => ⟨S_, .f32⟩
  | 4 => ⟨S8x8x784x3, .f32⟩
  | 5 => ⟨S8x8x784x3, .f32⟩
  | 6 => ⟨S_, .f32⟩
  | 7 => ⟨S8x8x784, .f32⟩
  | 8 => ⟨S_, .f32⟩
  | 9 => ⟨S8x8x784, .f32⟩
  | 10 => ⟨S8x8x784, .f32⟩
  | 11 => ⟨S8x8x784x1, .f32⟩
  | 12 => ⟨S8x8x784x3, .f32⟩
  | 13 => ⟨S8x8x784x3, .f32⟩
  | 14 => ⟨S8x8x784x3, .f32⟩
  | 15 => ⟨S_, .f32⟩
  | 16 => ⟨S8x8x784, .f32⟩
  | 17 => ⟨S8x8x784x1, .f32⟩
  | 18 => ⟨S8x8x784x3, .f32⟩
  | 19 => ⟨S8x8x784x3, .f32⟩
  | 20 => ⟨S8x8x784x64, .f32⟩
  | 21 => ⟨S8x8x784x784, .f32⟩
  | 22 => ⟨S_, .f32⟩
  | 23 => ⟨S8x8x784x784, .f32⟩
  | 24 => ⟨S8x8x784x784, .f32⟩
  | 25 => ⟨S8x8x2x392x64, .f32⟩
  | 26 => ⟨S_, .f32⟩
  | 27 => ⟨S8x8x2x64, .f32⟩
  | 28 => ⟨S_, .f32⟩
  | 29 => ⟨S8x8x2x64, .f32⟩
  | 30 => ⟨S8x8x2x64, .f32⟩
  | 31 => ⟨S8x8x784x2, .f32⟩
  | 32 => ⟨S_, .f32⟩
  | 33 => ⟨S8x8x784, .f32⟩
  | 34 => ⟨S8x8x784x1, .f32⟩
  | 35 => ⟨S8x8x784x2, .f32⟩
  | 36 => ⟨S8x8x784x2, .i1⟩
  | 37 => ⟨S2, .i32⟩
  | 38 => ⟨S_, .i32⟩
  | 39 => ⟨S_, .i32⟩
  | 40 => ⟨S8x8x784x2, .i32⟩
  | 41 => ⟨S8x8x784x2, .i32⟩
  | 42 => ⟨S8x8x784x2, .i32⟩
  | 43 => ⟨S_, .i32⟩
  | 44 => ⟨S8x8x784, .i32⟩
  | 45 => ⟨S784, .i32⟩
  | 46 => ⟨S_, .i32⟩
  | 47 => ⟨S_, .i32⟩
  | 48 => ⟨S784, .i32⟩
  | 49 => ⟨S784, .i32⟩
  | 50 => ⟨S784, .i32⟩
  | 51 => ⟨S_, .i32⟩
  | 52 => ⟨S784, .i32⟩
  | 53 => ⟨S784, .i1⟩
  | 54 => ⟨S784, .i32⟩
  | 55 => ⟨S784, .i32⟩
  | 56 => ⟨S_, .i32⟩
  | 57 => ⟨S784, .i32⟩
  | 58 => ⟨S784, .i1⟩
  | 59 => ⟨S784, .i1⟩
  | 60 => ⟨S_, .i32⟩
  | 61 => ⟨S784, .i32⟩
  | 62 => ⟨S784, .i32⟩
  | 63 => ⟨S784, .i32⟩
  | 64 => ⟨S8x8x784x1, .i32⟩
  | 65 => ⟨S1x1x1x784, .i32⟩
  | 66 => ⟨S8x8x784x784, .i32⟩
  | 67 => ⟨S8x8x784x784, .i32⟩
  | 68 => ⟨S8x8x784x784, .i1⟩
  | 69 => ⟨S_, .f32⟩
  | 70 => ⟨S_, .f32⟩
  | 71 => ⟨S8x8x784x784, .f32⟩
  | 72 => ⟨S8x8x784x784, .f32⟩
  | 73 => ⟨S_, .f32⟩
  | 74 => ⟨S8x8x784, .f32⟩
  | 75 => ⟨S_, .f32⟩
  | 76 => ⟨S8x8x784, .f32⟩
  | 77 => ⟨S8x8x784, .f32⟩
  | 78 => ⟨S8x8x784x1, .f32⟩
  | 79 => ⟨S8x8x784x784, .f32⟩
  | 80 => ⟨S8x8x784x784, .f32⟩
  | 81 => ⟨S8x8x784x784, .f32⟩
  | 82 => ⟨S_, .f32⟩
  | 83 => ⟨S8x8x784, .f32⟩
  | 84 => ⟨S8x8x784x1, .f32⟩
  | 85 => ⟨S8x8x784x784, .f32⟩
  | 86 => ⟨S8x8x784x784, .f32⟩
  | 87 => ⟨S8x8x784x64, .f32⟩
  | 88 => ⟨S784, .i32⟩
  | 89 => ⟨S784x1, .i32⟩
  | 90 => ⟨S1x784, .i32⟩
  | 91 => ⟨S784x784, .i32⟩
  | 92 => ⟨S784x784, .i32⟩
  | 93 => ⟨S784x784, .i32⟩
  | 94 => ⟨S784x784, .i32⟩
  | 95 => ⟨S_, .i32⟩
  | 96 => ⟨S784x784, .i32⟩
  | 97 => ⟨S784x784, .i1⟩
  | 98 => ⟨S1x1x784x784, .i1⟩
  | 99 => ⟨S_, .f32⟩
  | 100 => ⟨S_, .f32⟩
  | 101 => ⟨S8x8x784x784, .i1⟩
  | 102 => ⟨S8x8x784x784, .f32⟩
  | 103 => ⟨S8x8x784x784, .f32⟩
  | 104 => ⟨S_, .f32⟩
  | 105 => ⟨S8x8x784, .f32⟩
  | 106 => ⟨S_, .f32⟩
  | 107 => ⟨S8x8x784, .f32⟩
  | 108 => ⟨S8x8x784, .f32⟩
  | 109 => ⟨S8x8x784x1, .f32⟩
  | 110 => ⟨S8x8x784x784, .f32⟩
  | 111 => ⟨S8x8x784x784, .f32⟩
  | 112 => ⟨S8x8x784x784, .f32⟩
  | 113 => ⟨S_, .f32⟩
  | 114 => ⟨S8x8x784, .f32⟩
  | 115 => ⟨S8x8x784x1, .f32⟩
  | 116 => ⟨S8x8x784x784, .f32⟩
  | 117 => ⟨S8x8x784x784, .f32⟩
  | 118 => ⟨S8x8x784x64, .f32⟩
  | 119 => ⟨S8x784x24, .f32⟩
  | 120 => ⟨S8x784x24, .f32⟩
  | 121 => ⟨S8x784x24, .f32⟩
  | 122 => ⟨S_, .f32⟩
  | 123 => ⟨S8x784x24, .f32⟩
  | 124 => ⟨S8x784x24, .f32⟩
  | 125 => ⟨S_, .f32⟩
  | 126 => ⟨S8x784x24, .f32⟩
  | 127 => ⟨S8x784x24, .f32⟩
  | _ => ⟨S8x512x28x28, .f32⟩

abbrev hbmTy0_2 (i : Nat) : BufTy := match i % 128 with
  | 0 => ⟨S8x784x8x3, .f32⟩
  | 1 => ⟨S8x8x784x3, .f32⟩
  | 2 => ⟨S8x8x784x1, .f32⟩
  | 3 => ⟨S8x8x784x64, .f32⟩
  | 4 => ⟨S8x8x784x64, .f32⟩
  | 5 => ⟨S8x8x784x1, .f32⟩
  | 6 => ⟨S8x8x784x64, .f32⟩
  | 7 => ⟨S8x8x784x64, .f32⟩
  | 8 => ⟨S8x8x784x64, .f32⟩
  | 9 => ⟨S8x8x784x1, .f32⟩
  | 10 => ⟨S8x8x784x64, .f32⟩
  | 11 => ⟨S8x8x784x64, .f32⟩
  | 12 => ⟨S8x8x784x64, .f32⟩
  | 13 => ⟨S8x784x8x64, .f32⟩
  | 14 => ⟨S8x784x512, .f32⟩
  | 15 => ⟨S8x784x512, .f32⟩
  | 16 => ⟨S8x784x512, .f32⟩
  | 17 => ⟨S8x512x784, .f32⟩
  | 18 => ⟨S8x512x28x28, .f32⟩
  | 19 => ⟨S1x512, .f32⟩
  | 20 => ⟨S512, .f32⟩
  | 21 => ⟨S1x512, .f32⟩
  | 22 => ⟨S512, .f32⟩
  | 23 => ⟨S_, .f32⟩
  | 24 => ⟨S8x28x28, .f32⟩
  | 25 => ⟨S8x1x28x28, .f32⟩
  | 26 => ⟨S_, .f32⟩
  | 27 => ⟨S8x1x28x28, .f32⟩
  | 28 => ⟨S8x1x28x28, .f32⟩
  | 29 => ⟨S_, .i32⟩
  | 30 => ⟨S_, .f32⟩
  | 31 => ⟨S8x28x28, .f32⟩
  | 32 => ⟨S8x1x28x28, .f32⟩
  | 33 => ⟨S_, .f32⟩
  | 34 => ⟨S8x1x28x28, .f32⟩
  | 35 => ⟨S8x1x28x28, .f32⟩
  | 36 => ⟨S8x512x28x28, .f32⟩
  | 37 => ⟨S8x512x28x28, .f32⟩
  | 38 => ⟨S8x512x28x28, .f32⟩
  | 39 => ⟨S_, .f32⟩
  | 40 => ⟨S_, .f32⟩
  | 41 => ⟨S_, .f32⟩
  | 42 => ⟨S_, .f32⟩
  | 43 => ⟨S8x28x28, .f32⟩
  | 44 => ⟨S8x1x28x28, .f32⟩
  | 45 => ⟨S8x1x28x28, .f32⟩
  | 46 => ⟨S8x1x28x28, .f32⟩
  | 47 => ⟨S_, .f32⟩
  | 48 => ⟨S_, .i1⟩
  | 49 => ⟨S_, .f32⟩
  | 50 => ⟨S_, .f32⟩
  | 51 => ⟨S8x1x28x28, .f32⟩
  | 52 => ⟨S8x1x28x28, .f32⟩
  | 53 => ⟨S8x512x28x28, .f32⟩
  | 54 => ⟨S8x512x28x28, .f32⟩
  | 55 => ⟨S_, .f32⟩
  | 56 => ⟨S8x1x28x28, .f32⟩
  | 57 => ⟨S8x1x28x28, .f32⟩
  | 58 => ⟨S8x1x28x28, .f32⟩
  | 59 => ⟨S8x512x28x28, .f32⟩
  | 60 => ⟨S8x512x28x28, .f32⟩
  | 61 => ⟨S1x512x1x1, .f32⟩
  | 62 => ⟨S8x512x28x28, .f32⟩
  | 63 => ⟨S8x512x28x28, .f32⟩
  | 64 => ⟨S1x512x1x1, .f32⟩
  | 65 => ⟨S8x512x28x28, .f32⟩
  | 66 => ⟨S8x512x28x28, .f32⟩
  | 67 => ⟨S1x2048x512, .f32⟩
  | 68 => ⟨S2048x512, .f32⟩
  | 69 => ⟨S1x2048, .f32⟩
  | 70 => ⟨S2048, .f32⟩
  | 71 => ⟨S1x512x2048, .f32⟩
  | 72 => ⟨S512x2048, .f32⟩
  | 73 => ⟨S1x512, .f32⟩
  | 74 => ⟨S512, .f32⟩
  | 75 => ⟨S2048x8x28x28, .f32⟩
  | 76 => ⟨S8x2048x28x28, .f32⟩
  | 77 => ⟨S1x2048x1x1, .f32⟩
  | 78 => ⟨S8x2048x28x28, .f32⟩
  | 79 => ⟨S8x2048x28x28, .f32⟩
  | 80 => ⟨S8x2048x28x28, .f32⟩
  | 81 => ⟨S8x2048x28x28, .f32⟩
  | 82 => ⟨S_, .f32⟩
  | 83 => ⟨S8x2048x28x28, .f32⟩
  | 84 => ⟨S8x2048x28x28, .f32⟩
  | 85 => ⟨S8x2048x28x28, .f32⟩
  | 86 => ⟨S_, .f32⟩
  | 87 => ⟨S8x2048x28x28, .f32⟩
  | 88 => ⟨S8x2048x28x28, .f32⟩
  | 89 => ⟨S8x2048x28x28, .f32⟩
  | 90 => ⟨S_, .f32⟩
  | 91 => ⟨S8x2048x28x28, .f32⟩
  | 92 => ⟨S8x2048x28x28, .f32⟩
  | 93 => ⟨S_, .f32⟩
  | 94 => ⟨S8x2048x28x28, .f32⟩
  | 95 => ⟨S8x2048x28x28, .f32⟩
  | 96 => ⟨S8x2048x28x28, .f32⟩
  | 97 => ⟨S512x8x28x28, .f32⟩
  | 98 => ⟨S8x512x28x28, .f32⟩
  | 99 => ⟨S1x512x1x1, .f32⟩
  | 100 => ⟨S8x512x28x28, .f32⟩
  | 101 => ⟨S8x512x28x28, .f32⟩
  | 102 => ⟨S8x512x28x28, .f32⟩
  | 103 => ⟨S8x512x784, .f32⟩
  | 104 => ⟨S8x784x512, .f32⟩
  | 105 => ⟨S1x512, .f32⟩
  | 106 => ⟨S512, .f32⟩
  | 107 => ⟨S1x512x512, .f32⟩
  | 108 => ⟨S512x512, .f32⟩
  | 109 => ⟨S1x512x512, .f32⟩
  | 110 => ⟨S512x512, .f32⟩
  | 111 => ⟨S1x512x512, .f32⟩
  | 112 => ⟨S512x512, .f32⟩
  | 113 => ⟨S1x64x64, .f32⟩
  | 114 => ⟨S64x64, .f32⟩
  | 115 => ⟨S1x64x64, .f32⟩
  | 116 => ⟨S64x64, .f32⟩
  | 117 => ⟨S1x512x24, .f32⟩
  | 118 => ⟨S512x24, .f32⟩
  | 119 => ⟨S1x512x512, .f32⟩
  | 120 => ⟨S512x512, .f32⟩
  | 121 => ⟨S8x784x512, .f32⟩
  | 122 => ⟨S_, .f32⟩
  | 123 => ⟨S8x784, .f32⟩
  | 124 => ⟨S8x784x1, .f32⟩
  | 125 => ⟨S_, .f32⟩
  | 126 => ⟨S8x784x1, .f32⟩
  | 127 => ⟨S8x784x1, .f32⟩
  | _ => ⟨S8x512x28x28, .f32⟩

abbrev hbmTy0_3 (i : Nat) : BufTy := match i % 128 with
  | 0 => ⟨S_, .f32⟩
  | 1 => ⟨S8x784x1, .f32⟩
  | 2 => ⟨S8x784x1, .f32⟩
  | 3 => ⟨S8x784x1, .f32⟩
  | 4 => ⟨S8x784x512, .f32⟩
  | 5 => ⟨S8x784x512, .f32⟩
  | 6 => ⟨S1x1x512, .f32⟩
  | 7 => ⟨S8x784x512, .f32⟩
  | 8 => ⟨S8x784x512, .f32⟩
  | 9 => ⟨S8x784x512, .f32⟩
  | 10 => ⟨S8x784x8x64, .f32⟩
  | 11 => ⟨S8x8x784x64, .f32⟩
  | 12 => ⟨S8x784x512, .f32⟩
  | 13 => ⟨S8x784x8x64, .f32⟩
  | 14 => ⟨S8x8x784x64, .f32⟩
  | 15 => ⟨S8x784x512, .f32⟩
  | 16 => ⟨S8x784x8x64, .f32⟩
  | 17 => ⟨S8x8x784x64, .f32⟩
  | 18 => ⟨S3, .i32⟩
  | 19 => ⟨S3x1, .i32⟩
  | 20 => ⟨S_, .i32⟩
  | 21 => ⟨S3x1, .i32⟩
  | 22 => ⟨S3x1, .i32⟩
  | 23 => ⟨S392, .i32⟩
  | 24 => ⟨S1x392, .i32⟩
  | 25 => ⟨S3x392, .i32⟩
  | 26 => ⟨S3x392, .i32⟩
  | 27 => ⟨S3x392, .i32⟩
  | 28 => ⟨S_, .i32⟩
  | 29 => ⟨S3x392, .i32⟩
  | 30 => ⟨S3x392, .i1⟩
  | 31 => ⟨S_, .i32⟩
  | 32 => ⟨S3x392, .i32⟩
  | 33 => ⟨S3x392, .i32⟩
  | 34 => ⟨S3x392, .i32⟩
  | 35 => ⟨S3x392x1, .i32⟩
  | 36 => ⟨S1, .i32⟩
  | 37 => ⟨S_, .i32⟩
  | 38 => ⟨S3x392x1, .i32⟩
  | 39 => ⟨S3x392x1, .i1⟩
  | 40 => ⟨S1x1x1, .i32⟩
  | 41 => ⟨S3x392x1, .i32⟩
  | 42 => ⟨S3x392x1, .i1⟩
  | 43 => ⟨S3x392x1, .i1⟩
  | 44 => ⟨S_, .i1⟩
  | 45 => ⟨S3x392, .i1⟩
  | 46 => ⟨S8x8x3x392x64, .f32⟩
  | 47 => ⟨S8x8x3x392x64, .i1⟩
  | 48 => ⟨S_, .f32⟩
  | 49 => ⟨S8x8x3x392x64, .f32⟩
  | 50 => ⟨S8x8x3x392x64, .f32⟩
  | 51 => ⟨S_, .f32⟩
  | 52 => ⟨S8x8x3x64, .f32⟩
  | 53 => ⟨S_, .f32⟩
  | 54 => ⟨S8x8x3x64, .f32⟩
  | 55 => ⟨S8x8x3x64, .f32⟩
  | 56 => ⟨S8x8x3x64, .f32⟩
  | 57 => ⟨S_, .i32⟩
  | 58 => ⟨S3x392, .i32⟩
  | 59 => ⟨S3x392, .i1⟩
  | 60 => ⟨S_, .i32⟩
  | 61 => ⟨S3x392, .i32⟩
  | 62 => ⟨S3x392, .i32⟩
  | 63 => ⟨S3x392, .i32⟩
  | 64 => ⟨S3x392x1, .i32⟩
  | 65 => ⟨S1, .i32⟩
  | 66 => ⟨S_, .i32⟩
  | 67 => ⟨S3x392x1, .i32⟩
  | 68 => ⟨S3x392x1, .i1⟩
  | 69 => ⟨S1x1x1, .i32⟩
  | 70 => ⟨S3x392x1, .i32⟩
  | 71 => ⟨S3x392x1, .i1⟩
  | 72 => ⟨S3x392x1, .i1⟩
  | 73 => ⟨S_, .i1⟩
  | 74 => ⟨S3x392, .i1⟩
  | 75 => ⟨S8x8x3x392x64, .f32⟩
  | 76 => ⟨S8x8x3x392x64, .i1⟩
  | 77 => ⟨S_, .f32⟩
  | 78 => ⟨S8x8x3x392x64, .f32⟩
  | 79 => ⟨S8x8x3x392x64, .f32⟩
  | 80 => ⟨S_, .f32⟩
  | 81 => ⟨S8x8x3x64, .f32⟩
  | 82 => ⟨S_, .f32⟩
  | 83 => ⟨S8x8x3x64, .f32⟩
  | 84 => ⟨S8x8x3x64, .f32⟩
  | 85 => ⟨S8x8x3x64, .f32⟩
  | 86 => ⟨S8x8x784x3, .f32⟩
  | 87 => ⟨S_, .f32⟩
  | 88 => ⟨S8x8x784x3, .f32⟩
  | 89 => ⟨S8x8x784x3, .f32⟩
  | 90 => ⟨S_, .f32⟩
  | 91 => ⟨S8x8x784, .f32⟩
  | 92 => ⟨S_, .f32⟩
  | 93 => ⟨S8x8x784, .f32⟩
  | 94 => ⟨S8x8x784, .f32⟩
  | 95 => ⟨S8x8x784x1, .f32⟩
  | 96 => ⟨S8x8x784x3, .f32⟩
  | 97 => ⟨S8x8x784x3, .f32⟩
  | 98 => ⟨S8x8x784x3, .f32⟩
  | 99 => ⟨S_, .f32⟩
  | 100 => ⟨S8x8x784, .f32⟩
  | 101 => ⟨S8x8x784x1, .f32⟩
  | 102 => ⟨S8x8x784x3, .f32⟩
  | 103 => ⟨S8x8x784x3, .f32⟩
  | 104 => ⟨S8x8x784x64, .f32⟩
  | 105 => ⟨S8x8x784x784, .f32⟩
  | 106 => ⟨S_, .f32⟩
  | 107 => ⟨S8x8x784x784, .f32⟩
  | 108 => ⟨S8x8x784x784, .f32⟩
  | 109 => ⟨S8x8x2x392x64, .f32⟩
  | 110 => ⟨S_, .f32⟩
  | 111 => ⟨S8x8x2x64, .f32⟩
  | 112 => ⟨S_, .f32⟩
  | 113 => ⟨S8x8x2x64, .f32⟩
  | 114 => ⟨S8x8x2x64, .f32⟩
  | 115 => ⟨S8x8x784x2, .f32⟩
  | 116 => ⟨S_, .f32⟩
  | 117 => ⟨S8x8x784, .f32⟩
  | 118 => ⟨S8x8x784x1, .f32⟩
  | 119 => ⟨S8x8x784x2, .f32⟩
  | 120 => ⟨S8x8x784x2, .i1⟩
  | 121 => ⟨S2, .i32⟩
  | 122 => ⟨S_, .i32⟩
  | 123 => ⟨S_, .i32⟩
  | 124 => ⟨S8x8x784x2, .i32⟩
  | 125 => ⟨S8x8x784x2, .i32⟩
  | 126 => ⟨S8x8x784x2, .i32⟩
  | 127 => ⟨S_, .i32⟩
  | _ => ⟨S8x512x28x28, .f32⟩

abbrev hbmTy0_4 (i : Nat) : BufTy := match i % 128 with
  | 0 => ⟨S8x8x784, .i32⟩
  | 1 => ⟨S784, .i32⟩
  | 2 => ⟨S_, .i32⟩
  | 3 => ⟨S_, .i32⟩
  | 4 => ⟨S784, .i32⟩
  | 5 => ⟨S784, .i32⟩
  | 6 => ⟨S784, .i32⟩
  | 7 => ⟨S_, .i32⟩
  | 8 => ⟨S784, .i32⟩
  | 9 => ⟨S784, .i1⟩
  | 10 => ⟨S784, .i32⟩
  | 11 => ⟨S784, .i32⟩
  | 12 => ⟨S_, .i32⟩
  | 13 => ⟨S784, .i32⟩
  | 14 => ⟨S784, .i1⟩
  | 15 => ⟨S784, .i1⟩
  | 16 => ⟨S_, .i32⟩
  | 17 => ⟨S784, .i32⟩
  | 18 => ⟨S784, .i32⟩
  | 19 => ⟨S784, .i32⟩
  | 20 => ⟨S8x8x784x1, .i32⟩
  | 21 => ⟨S1x1x1x784, .i32⟩
  | 22 => ⟨S8x8x784x784, .i32⟩
  | 23 => ⟨S8x8x784x784, .i32⟩
  | 24 => ⟨S8x8x784x784, .i1⟩
  | 25 => ⟨S_, .f32⟩
  | 26 => ⟨S_, .f32⟩
  | 27 => ⟨S8x8x784x784, .f32⟩
  | 28 => ⟨S8x8x784x784, .f32⟩
  | 29 => ⟨S_, .f32⟩
  | 30 => ⟨S8x8x784, .f32⟩
  | 31 => ⟨S_, .f32⟩
  | 32 => ⟨S8x8x784, .f32⟩
  | 33 => ⟨S8x8x784, .f32⟩
  | 34 => ⟨S8x8x784x1, .f32⟩
  | 35 => ⟨S8x8x784x784, .f32⟩
  | 36 => ⟨S8x8x784x784, .f32⟩
  | 37 => ⟨S8x8x784x784, .f32⟩
  | 38 => ⟨S_, .f32⟩
  | 39 => ⟨S8x8x784, .f32⟩
  | 40 => ⟨S8x8x784x1, .f32⟩
  | 41 => ⟨S8x8x784x784, .f32⟩
  | 42 => ⟨S8x8x784x784, .f32⟩
  | 43 => ⟨S8x8x784x64, .f32⟩
  | 44 => ⟨S784, .i32⟩
  | 45 => ⟨S784x1, .i32⟩
  | 46 => ⟨S1x784, .i32⟩
  | 47 => ⟨S784x784, .i32⟩
  | 48 => ⟨S784x784, .i32⟩
  | 49 => ⟨S784x784, .i32⟩
  | 50 => ⟨S784x784, .i32⟩
  | 51 => ⟨S_, .i32⟩
  | 52 => ⟨S784x784, .i32⟩
  | 53 => ⟨S784x784, .i1⟩
  | 54 => ⟨S1x1x784x784, .i1⟩
  | 55 => ⟨S_, .f32⟩
  | 56 => ⟨S_, .f32⟩
  | 57 => ⟨S8x8x784x784, .i1⟩
  | 58 => ⟨S8x8x784x784, .f32⟩
  | 59 => ⟨S8x8x784x784, .f32⟩
  | 60 => ⟨S_, .f32⟩
  | 61 => ⟨S8x8x784, .f32⟩
  | 62 => ⟨S_, .f32⟩
  | 63 => ⟨S8x8x784, .f32⟩
  | 64 => ⟨S8x8x784, .f32⟩
  | 65 => ⟨S8x8x784x1, .f32⟩
  | 66 => ⟨S8x8x784x784, .f32⟩
  | 67 => ⟨S8x8x784x784, .f32⟩
  | 68 => ⟨S8x8x784x784, .f32⟩
  | 69 => ⟨S_, .f32⟩
  | 70 => ⟨S8x8x784, .f32⟩
  | 71 => ⟨S8x8x784x1, .f32⟩
  | 72 => ⟨S8x8x784x784, .f32⟩
  | 73 => ⟨S8x8x784x784, .f32⟩
  | 74 => ⟨S8x8x784x64, .f32⟩
  | 75 => ⟨S8x784x24, .f32⟩
  | 76 => ⟨S8x784x24, .f32⟩
  | 77 => ⟨S8x784x24, .f32⟩
  | 78 => ⟨S_, .f32⟩
  | 79 => ⟨S8x784x24, .f32⟩
  | 80 => ⟨S8x784x24, .f32⟩
  | 81 => ⟨S_, .f32⟩
  | 82 => ⟨S8x784x24, .f32⟩
  | 83 => ⟨S8x784x24, .f32⟩
  | 84 => ⟨S8x784x8x3, .f32⟩
  | 85 => ⟨S8x8x784x3, .f32⟩
  | 86 => ⟨S8x8x784x1, .f32⟩
  | 87 => ⟨S8x8x784x64, .f32⟩
  | 88 => ⟨S8x8x784x64, .f32⟩
  | 89 => ⟨S8x8x784x1, .f32⟩
  | 90 => ⟨S8x8x784x64, .f32⟩
  | 91 => ⟨S8x8x784x64, .f32⟩
  | 92 => ⟨S8x8x784x64, .f32⟩
  | 93 => ⟨S8x8x784x1, .f32⟩
  | 94 => ⟨S8x8x784x64, .f32⟩
  | 95 => ⟨S8x8x784x64, .f32⟩
  | 96 => ⟨S8x8x784x64, .f32⟩
  | 97 => ⟨S8x784x8x64, .f32⟩
  | 98 => ⟨S8x784x512, .f32⟩
  | 99 => ⟨S8x784x512, .f32⟩
  | 100 => ⟨S8x784x512, .f32⟩
  | 101 => ⟨S8x512x784, .f32⟩
  | 102 => ⟨S8x512x28x28, .f32⟩
  | 103 => ⟨S1x512, .f32⟩
  | 104 => ⟨S512, .f32⟩
  | 105 => ⟨S1x512, .f32⟩
  | 106 => ⟨S512, .f32⟩
  | 107 => ⟨S_, .f32⟩
  | 108 => ⟨S8x28x28, .f32⟩
  | 109 => ⟨S8x1x28x28, .f32⟩
  | 110 => ⟨S_, .f32⟩
  | 111 => ⟨S8x1x28x28, .f32⟩
  | 112 => ⟨S8x1x28x28, .f32⟩
  | 113 => ⟨S_, .i32⟩
  | 114 => ⟨S_, .f32⟩
  | 115 => ⟨S8x28x28, .f32⟩
  | 116 => ⟨S8x1x28x28, .f32⟩
  | 117 => ⟨S_, .f32⟩
  | 118 => ⟨S8x1x28x28, .f32⟩
  | 119 => ⟨S8x1x28x28, .f32⟩
  | 120 => ⟨S8x512x28x28, .f32⟩
  | 121 => ⟨S8x512x28x28, .f32⟩
  | 122 => ⟨S8x512x28x28, .f32⟩
  | 123 => ⟨S_, .f32⟩
  | 124 => ⟨S_, .f32⟩
  | 125 => ⟨S_, .f32⟩
  | 126 => ⟨S_, .f32⟩
  | 127 => ⟨S8x28x28, .f32⟩
  | _ => ⟨S8x512x28x28, .f32⟩

abbrev hbmTy0_5 (i : Nat) : BufTy := match i % 128 with
  | 0 => ⟨S8x1x28x28, .f32⟩
  | 1 => ⟨S8x1x28x28, .f32⟩
  | 2 => ⟨S8x1x28x28, .f32⟩
  | 3 => ⟨S_, .f32⟩
  | 4 => ⟨S_, .i1⟩
  | 5 => ⟨S_, .f32⟩
  | 6 => ⟨S_, .f32⟩
  | 7 => ⟨S8x1x28x28, .f32⟩
  | 8 => ⟨S8x1x28x28, .f32⟩
  | 9 => ⟨S8x512x28x28, .f32⟩
  | 10 => ⟨S8x512x28x28, .f32⟩
  | 11 => ⟨S_, .f32⟩
  | 12 => ⟨S8x1x28x28, .f32⟩
  | 13 => ⟨S8x1x28x28, .f32⟩
  | 14 => ⟨S8x1x28x28, .f32⟩
  | 15 => ⟨S8x512x28x28, .f32⟩
  | 16 => ⟨S8x512x28x28, .f32⟩
  | 17 => ⟨S1x512x1x1, .f32⟩
  | 18 => ⟨S8x512x28x28, .f32⟩
  | 19 => ⟨S8x512x28x28, .f32⟩
  | 20 => ⟨S1x512x1x1, .f32⟩
  | 21 => ⟨S8x512x28x28, .f32⟩
  | 22 => ⟨S8x512x28x28, .f32⟩
  | 23 => ⟨S1x2048x512, .f32⟩
  | 24 => ⟨S2048x512, .f32⟩
  | 25 => ⟨S1x2048, .f32⟩
  | 26 => ⟨S2048, .f32⟩
  | 27 => ⟨S1x512x2048, .f32⟩
  | 28 => ⟨S512x2048, .f32⟩
  | 29 => ⟨S1x512, .f32⟩
  | 30 => ⟨S512, .f32⟩
  | 31 => ⟨S2048x8x28x28, .f32⟩
  | 32 => ⟨S8x2048x28x28, .f32⟩
  | 33 => ⟨S1x2048x1x1, .f32⟩
  | 34 => ⟨S8x2048x28x28, .f32⟩
  | 35 => ⟨S8x2048x28x28, .f32⟩
  | 36 => ⟨S8x2048x28x28, .f32⟩
  | 37 => ⟨S8x2048x28x28, .f32⟩
  | 38 => ⟨S_, .f32⟩
  | 39 => ⟨S8x2048x28x28, .f32⟩
  | 40 => ⟨S8x2048x28x28, .f32⟩
  | 41 => ⟨S8x2048x28x28, .f32⟩
  | 42 => ⟨S_, .f32⟩
  | 43 => ⟨S8x2048x28x28, .f32⟩
  | 44 => ⟨S8x2048x28x28, .f32⟩
  | 45 => ⟨S8x2048x28x28, .f32⟩
  | 46 => ⟨S_, .f32⟩
  | 47 => ⟨S8x2048x28x28, .f32⟩
  | 48 => ⟨S8x2048x28x28, .f32⟩
  | 49 => ⟨S_, .f32⟩
  | 50 => ⟨S8x2048x28x28, .f32⟩
  | 51 => ⟨S8x2048x28x28, .f32⟩
  | 52 => ⟨S8x2048x28x28, .f32⟩
  | 53 => ⟨S512x8x28x28, .f32⟩
  | 54 => ⟨S8x512x28x28, .f32⟩
  | 55 => ⟨S1x512x1x1, .f32⟩
  | 56 => ⟨S8x512x28x28, .f32⟩
  | 57 => ⟨S8x512x28x28, .f32⟩
  | 58 => ⟨S8x512x28x28, .f32⟩
  | _ => ⟨S8x512x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x512x28x28, .f32⟩

abbrev bufTy : (tb : Table) → Fin (tcTables nBuf tb) → BufTy
  | .hbm, ⟨i, _⟩ => hbmTy i
  | _, _ => ⟨S8x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_c : Ref sig .tc := ⟨.hbm, 72, rfl⟩
abbrev main_call0_v0 : Ref sig .tc := ⟨.hbm, 73, rfl⟩
abbrev main_call0_v1 : Ref sig .tc := ⟨.hbm, 74, rfl⟩
abbrev main_call0_c_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_c_1 : Ref sig .tc := ⟨.hbm, 80, rfl⟩
abbrev main_call0_c_2 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_c_3 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_call0_cst : Ref sig .tc := ⟨.hbm, 92, rfl⟩
abbrev main_call0_v15 : Ref sig .tc := ⟨.hbm, 93, rfl⟩
abbrev main_v52 : Ref sig .tc := ⟨.hbm, 94, rfl⟩
abbrev main_cst_2 : Ref sig .tc := ⟨.hbm, 95, rfl⟩
abbrev main_v53 : Ref sig .tc := ⟨.hbm, 96, rfl⟩
abbrev main_cst_3 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_c_2 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_3 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_cst : Ref sig .tc := ⟨.hbm, 121, rfl⟩
abbrev main_call1_v15 : Ref sig .tc := ⟨.hbm, 122, rfl⟩
abbrev main_v57 : Ref sig .tc := ⟨.hbm, 123, rfl⟩
abbrev main_cst_4 : Ref sig .tc := ⟨.hbm, 124, rfl⟩
abbrev main_v58 : Ref sig .tc := ⟨.hbm, 125, rfl⟩
abbrev main_cst_5 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_cst_6 : Ref sig .tc := ⟨.hbm, 131, rfl⟩
abbrev main_v63 : Ref sig .tc := ⟨.hbm, 132, rfl⟩
abbrev main_v64 : Ref sig .tc := ⟨.hbm, 133, rfl⟩
abbrev main_cst_7 : Ref sig .tc := ⟨.hbm, 134, rfl⟩
abbrev main_v65 : Ref sig .tc := ⟨.hbm, 135, rfl⟩
abbrev main_cst_8 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_9 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_cst_10 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_cst_11 : Ref sig .tc := ⟨.hbm, 154, rfl⟩
abbrev main_v81 : Ref sig .tc := ⟨.hbm, 155, rfl⟩
abbrev main_cst_12 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_cst_13 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_c_14 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_v90 : Ref sig .tc := ⟨.hbm, 170, rfl⟩
abbrev main_c_15 : Ref sig .tc := ⟨.hbm, 171, rfl⟩
abbrev main_v91 : Ref sig .tc := ⟨.hbm, 172, rfl⟩
abbrev main_v92 : Ref sig .tc := ⟨.hbm, 173, rfl⟩
abbrev main_c_16 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_call3_v3 : Ref sig .tc := ⟨.hbm, 178, rfl⟩
abbrev main_call3_v4 : Ref sig .tc := ⟨.hbm, 179, rfl⟩
abbrev main_call3_v5 : Ref sig .tc := ⟨.hbm, 180, rfl⟩
abbrev main_call3_v6 : Ref sig .tc := ⟨.hbm, 181, rfl⟩
abbrev main_call3_v7 : Ref sig .tc := ⟨.hbm, 182, rfl⟩
abbrev main_call3_v8 : Ref sig .tc := ⟨.hbm, 183, rfl⟩
abbrev main_call3_c : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_c_0 : Ref sig .tc := ⟨.hbm, 188, rfl⟩
abbrev main_call3_v12 : Ref sig .tc := ⟨.hbm, 189, rfl⟩
abbrev main_call3_v13 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_cst_17 : Ref sig .tc := ⟨.hbm, 197, rfl⟩
abbrev main_call4_v0 : Ref sig .tc := ⟨.hbm, 198, rfl⟩
abbrev main_call4_v1 : Ref sig .tc := ⟨.hbm, 199, rfl⟩
abbrev main_v99 : Ref sig .tc := ⟨.hbm, 200, rfl⟩
abbrev main_cst_18 : Ref sig .tc := ⟨.hbm, 201, rfl⟩
abbrev main_v100 : Ref sig .tc := ⟨.hbm, 202, rfl⟩
abbrev main_cst_19 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_20 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_c_21 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_cst_22 : Ref sig .tc := ⟨.hbm, 227, rfl⟩
abbrev main_call5_v0 : Ref sig .tc := ⟨.hbm, 228, rfl⟩
abbrev main_call5_v1 : Ref sig .tc := ⟨.hbm, 229, rfl⟩
abbrev main_call5_v2 : Ref sig .tc := ⟨.hbm, 230, rfl⟩
abbrev main_v122 : Ref sig .tc := ⟨.hbm, 231, rfl⟩
abbrev main_cst_23 : Ref sig .tc := ⟨.hbm, 232, rfl⟩
abbrev main_v123 : Ref sig .tc := ⟨.hbm, 233, rfl⟩
abbrev main_cst_24 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_cst_25 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_cst_26 : Ref sig .tc := ⟨.hbm, 250, rfl⟩
abbrev main_v138 : Ref sig .tc := ⟨.hbm, 251, rfl⟩
abbrev main_v139 : Ref sig .tc := ⟨.hbm, 252, rfl⟩
abbrev main_cst_27 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_cst_28 : Ref sig .tc := ⟨.hbm, 279, rfl⟩
abbrev main_v165 : Ref sig .tc := ⟨.hbm, 280, rfl⟩
abbrev main_v166 : Ref sig .tc := ⟨.hbm, 281, rfl⟩
abbrev main_cst_29 : Ref sig .tc := ⟨.hbm, 282, rfl⟩
abbrev main_v167 : Ref sig .tc := ⟨.hbm, 283, rfl⟩
abbrev main_v168 : Ref sig .tc := ⟨.hbm, 284, rfl⟩
abbrev main_c_30 : Ref sig .tc := ⟨.hbm, 285, rfl⟩
abbrev main_call6_cst : Ref sig .tc := ⟨.hbm, 286, rfl⟩
abbrev main_call6_v0 : Ref sig .tc := ⟨.hbm, 287, rfl⟩
abbrev main_call6_v1 : Ref sig .tc := ⟨.hbm, 288, rfl⟩
abbrev main_call6_cst_0 : Ref sig .tc := ⟨.hbm, 289, rfl⟩
abbrev main_call6_v2 : Ref sig .tc := ⟨.hbm, 290, rfl⟩
abbrev main_call6_v3 : Ref sig .tc := ⟨.hbm, 291, rfl⟩
abbrev main_call6_v4 : Ref sig .tc := ⟨.hbm, 292, rfl⟩
abbrev main_call6_v5 : Ref sig .tc := ⟨.hbm, 293, rfl⟩
abbrev main_call6_v6 : Ref sig .tc := ⟨.hbm, 294, rfl⟩
abbrev main_call6_v7 : Ref sig .tc := ⟨.hbm, 295, rfl⟩
abbrev main_call6_cst_1 : Ref sig .tc := ⟨.hbm, 296, rfl⟩
abbrev main_call6_v8 : Ref sig .tc := ⟨.hbm, 297, rfl⟩
abbrev main_call6_cst_2 : Ref sig .tc := ⟨.hbm, 298, rfl⟩
abbrev main_call6_v9 : Ref sig .tc := ⟨.hbm, 299, rfl⟩
abbrev main_call6_v10 : Ref sig .tc := ⟨.hbm, 300, rfl⟩
abbrev main_call6_v11 : Ref sig .tc := ⟨.hbm, 301, rfl⟩
abbrev main_call6_v12 : Ref sig .tc := ⟨.hbm, 302, rfl⟩
abbrev main_call6_cst_3 : Ref sig .tc := ⟨.hbm, 303, rfl⟩
abbrev main_call6_v13 : Ref sig .tc := ⟨.hbm, 304, rfl⟩
abbrev main_call6_cst_4 : Ref sig .tc := ⟨.hbm, 305, rfl⟩
abbrev main_call6_call0_v0 : Ref sig .tc := ⟨.hbm, 306, rfl⟩
abbrev main_call6_call0_v1 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_cst_31 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_cst_32 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_cst_33 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_cst_34 : Ref sig .tc := ⟨.hbm, 346, rfl⟩
abbrev main_v204 : Ref sig .tc := ⟨.hbm, 347, rfl⟩
abbrev main_v205 : Ref sig .tc := ⟨.hbm, 348, rfl⟩
abbrev main_cst_35 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_v231 : Ref sig .tc := ⟨.hbm, 375, rfl⟩
abbrev main_v232 : Ref sig .tc := ⟨.hbm, 376, rfl⟩
abbrev main_v233 : Ref sig .tc := ⟨.hbm, 377, rfl⟩
abbrev main_cst_36 : Ref sig .tc := ⟨.hbm, 378, rfl⟩
abbrev main_v234 : Ref sig .tc := ⟨.hbm, 379, rfl⟩
abbrev main_v235 : Ref sig .tc := ⟨.hbm, 380, rfl⟩
abbrev main_cst_37 : Ref sig .tc := ⟨.hbm, 381, rfl⟩
abbrev main_v236 : Ref sig .tc := ⟨.hbm, 382, rfl⟩
abbrev main_v237 : Ref sig .tc := ⟨.hbm, 383, rfl⟩
abbrev main_cst_38 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_v241 : Ref sig .tc := ⟨.hbm, 388, rfl⟩
abbrev main_v242 : Ref sig .tc := ⟨.hbm, 389, rfl⟩
abbrev main_v243 : Ref sig .tc := ⟨.hbm, 390, rfl⟩
abbrev main_v244 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_v248 : Ref sig .tc := ⟨.hbm, 395, rfl⟩
abbrev main_v249 : Ref sig .tc := ⟨.hbm, 396, rfl⟩
abbrev main_v250 : Ref sig .tc := ⟨.hbm, 397, rfl⟩
abbrev main_v251 : Ref sig .tc := ⟨.hbm, 398, rfl⟩
abbrev main_v252 : Ref sig .tc := ⟨.hbm, 399, rfl⟩
abbrev main_v253 : Ref sig .tc := ⟨.hbm, 400, rfl⟩
abbrev main_v254 : Ref sig .tc := ⟨.hbm, 401, rfl⟩
abbrev main_v255 : Ref sig .tc := ⟨.hbm, 402, rfl⟩
abbrev main_v256 : Ref sig .tc := ⟨.hbm, 403, rfl⟩
abbrev main_c_39 : Ref sig .tc := ⟨.hbm, 404, rfl⟩
abbrev main_v257 : Ref sig .tc := ⟨.hbm, 405, rfl⟩
abbrev main_v258 : Ref sig .tc := ⟨.hbm, 406, rfl⟩
abbrev main_v259 : Ref sig .tc := ⟨.hbm, 407, rfl⟩
abbrev main_v260 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_call7_c : Ref sig .tc := ⟨.hbm, 412, rfl⟩
abbrev main_call7_v0 : Ref sig .tc := ⟨.hbm, 413, rfl⟩
abbrev main_call7_v1 : Ref sig .tc := ⟨.hbm, 414, rfl⟩
abbrev main_call7_c_0 : Ref sig .tc := ⟨.hbm, 415, rfl⟩
abbrev main_call7_v2 : Ref sig .tc := ⟨.hbm, 416, rfl⟩
abbrev main_call7_v3 : Ref sig .tc := ⟨.hbm, 417, rfl⟩
abbrev main_call7_v4 : Ref sig .tc := ⟨.hbm, 418, rfl⟩
abbrev main_call7_v5 : Ref sig .tc := ⟨.hbm, 419, rfl⟩
abbrev main_call7_c_1 : Ref sig .tc := ⟨.hbm, 420, rfl⟩
abbrev main_call7_c_2 : Ref sig .tc := ⟨.hbm, 421, rfl⟩
abbrev main_call7_v6 : Ref sig .tc := ⟨.hbm, 422, rfl⟩
abbrev main_call7_v7 : Ref sig .tc := ⟨.hbm, 423, rfl⟩
abbrev main_call7_v8 : Ref sig .tc := ⟨.hbm, 424, rfl⟩
abbrev main_call7_v9 : Ref sig .tc := ⟨.hbm, 425, rfl⟩
abbrev main_call7_v10 : Ref sig .tc := ⟨.hbm, 426, rfl⟩
abbrev main_call7_v11 : Ref sig .tc := ⟨.hbm, 427, rfl⟩
abbrev main_call7_c_3 : Ref sig .tc := ⟨.hbm, 428, rfl⟩
abbrev main_call7_v12 : Ref sig .tc := ⟨.hbm, 429, rfl⟩
abbrev main_call7_v13 : Ref sig .tc := ⟨.hbm, 430, rfl⟩
abbrev main_call7_v14 : Ref sig .tc := ⟨.hbm, 431, rfl⟩
abbrev main_call7_cst : Ref sig .tc := ⟨.hbm, 432, rfl⟩
abbrev main_call7_v15 : Ref sig .tc := ⟨.hbm, 433, rfl⟩
abbrev main_v264 : Ref sig .tc := ⟨.hbm, 434, rfl⟩
abbrev main_cst_40 : Ref sig .tc := ⟨.hbm, 435, rfl⟩
abbrev main_v265 : Ref sig .tc := ⟨.hbm, 436, rfl⟩
abbrev main_cst_41 : Ref sig .tc := ⟨.hbm, 437, rfl⟩
abbrev main_v266 : Ref sig .tc := ⟨.hbm, 438, rfl⟩
abbrev main_v267 : Ref sig .tc := ⟨.hbm, 439, rfl⟩
abbrev main_v268 : Ref sig .tc := ⟨.hbm, 440, rfl⟩
abbrev main_call8_c : Ref sig .tc := ⟨.hbm, 441, rfl⟩
abbrev main_call8_v0 : Ref sig .tc := ⟨.hbm, 442, rfl⟩
abbrev main_call8_v1 : Ref sig .tc := ⟨.hbm, 443, rfl⟩
abbrev main_call8_c_0 : Ref sig .tc := ⟨.hbm, 444, rfl⟩
abbrev main_call8_v2 : Ref sig .tc := ⟨.hbm, 445, rfl⟩
abbrev main_call8_v3 : Ref sig .tc := ⟨.hbm, 446, rfl⟩
abbrev main_call8_v4 : Ref sig .tc := ⟨.hbm, 447, rfl⟩
abbrev main_call8_v5 : Ref sig .tc := ⟨.hbm, 448, rfl⟩
abbrev main_call8_c_1 : Ref sig .tc := ⟨.hbm, 449, rfl⟩
abbrev main_call8_c_2 : Ref sig .tc := ⟨.hbm, 450, rfl⟩
abbrev main_call8_v6 : Ref sig .tc := ⟨.hbm, 451, rfl⟩
abbrev main_call8_v7 : Ref sig .tc := ⟨.hbm, 452, rfl⟩
abbrev main_call8_v8 : Ref sig .tc := ⟨.hbm, 453, rfl⟩
abbrev main_call8_v9 : Ref sig .tc := ⟨.hbm, 454, rfl⟩
abbrev main_call8_v10 : Ref sig .tc := ⟨.hbm, 455, rfl⟩
abbrev main_call8_v11 : Ref sig .tc := ⟨.hbm, 456, rfl⟩
abbrev main_call8_c_3 : Ref sig .tc := ⟨.hbm, 457, rfl⟩
abbrev main_call8_v12 : Ref sig .tc := ⟨.hbm, 458, rfl⟩
abbrev main_call8_v13 : Ref sig .tc := ⟨.hbm, 459, rfl⟩
abbrev main_call8_v14 : Ref sig .tc := ⟨.hbm, 460, rfl⟩
abbrev main_call8_cst : Ref sig .tc := ⟨.hbm, 461, rfl⟩
abbrev main_call8_v15 : Ref sig .tc := ⟨.hbm, 462, rfl⟩
abbrev main_v269 : Ref sig .tc := ⟨.hbm, 463, rfl⟩
abbrev main_cst_42 : Ref sig .tc := ⟨.hbm, 464, rfl⟩
abbrev main_v270 : Ref sig .tc := ⟨.hbm, 465, rfl⟩
abbrev main_cst_43 : Ref sig .tc := ⟨.hbm, 466, rfl⟩
abbrev main_v271 : Ref sig .tc := ⟨.hbm, 467, rfl⟩
abbrev main_v272 : Ref sig .tc := ⟨.hbm, 468, rfl⟩
abbrev main_v273 : Ref sig .tc := ⟨.hbm, 469, rfl⟩
abbrev main_v274 : Ref sig .tc := ⟨.hbm, 470, rfl⟩
abbrev main_cst_44 : Ref sig .tc := ⟨.hbm, 471, rfl⟩
abbrev main_v275 : Ref sig .tc := ⟨.hbm, 472, rfl⟩
abbrev main_v276 : Ref sig .tc := ⟨.hbm, 473, rfl⟩
abbrev main_cst_45 : Ref sig .tc := ⟨.hbm, 474, rfl⟩
abbrev main_v277 : Ref sig .tc := ⟨.hbm, 475, rfl⟩
abbrev main_cst_46 : Ref sig .tc := ⟨.hbm, 476, rfl⟩
abbrev main_v278 : Ref sig .tc := ⟨.hbm, 477, rfl⟩
abbrev main_v279 : Ref sig .tc := ⟨.hbm, 478, rfl⟩
abbrev main_v280 : Ref sig .tc := ⟨.hbm, 479, rfl⟩
abbrev main_v281 : Ref sig .tc := ⟨.hbm, 480, rfl⟩
abbrev main_v282 : Ref sig .tc := ⟨.hbm, 481, rfl⟩
abbrev main_v283 : Ref sig .tc := ⟨.hbm, 482, rfl⟩
abbrev main_cst_47 : Ref sig .tc := ⟨.hbm, 483, rfl⟩
abbrev main_v284 : Ref sig .tc := ⟨.hbm, 484, rfl⟩
abbrev main_v285 : Ref sig .tc := ⟨.hbm, 485, rfl⟩
abbrev main_v286 : Ref sig .tc := ⟨.hbm, 486, rfl⟩
abbrev main_v287 : Ref sig .tc := ⟨.hbm, 487, rfl⟩
abbrev main_v288 : Ref sig .tc := ⟨.hbm, 488, rfl⟩
abbrev main_v289 : Ref sig .tc := ⟨.hbm, 489, rfl⟩
abbrev main_cst_48 : Ref sig .tc := ⟨.hbm, 490, rfl⟩
abbrev main_v290 : Ref sig .tc := ⟨.hbm, 491, rfl⟩
abbrev main_v291 : Ref sig .tc := ⟨.hbm, 492, rfl⟩
abbrev main_v292 : Ref sig .tc := ⟨.hbm, 493, rfl⟩
abbrev main_cst_49 : Ref sig .tc := ⟨.hbm, 494, rfl⟩
abbrev main_v293 : Ref sig .tc := ⟨.hbm, 495, rfl⟩
abbrev main_cst_50 : Ref sig .tc := ⟨.hbm, 496, rfl⟩
abbrev main_v294 : Ref sig .tc := ⟨.hbm, 497, rfl⟩
abbrev main_v295 : Ref sig .tc := ⟨.hbm, 498, rfl⟩
abbrev main_v296 : Ref sig .tc := ⟨.hbm, 499, rfl⟩
abbrev main_cst_51 : Ref sig .tc := ⟨.hbm, 500, rfl⟩
abbrev main_v297 : Ref sig .tc := ⟨.hbm, 501, rfl⟩
abbrev main_v298 : Ref sig .tc := ⟨.hbm, 502, rfl⟩
abbrev main_v299 : Ref sig .tc := ⟨.hbm, 503, rfl⟩
abbrev main_v300 : Ref sig .tc := ⟨.hbm, 504, rfl⟩
abbrev main_v301 : Ref sig .tc := ⟨.hbm, 505, rfl⟩
abbrev main_c_52 : Ref sig .tc := ⟨.hbm, 506, rfl⟩
abbrev main_call9_v0 : Ref sig .tc := ⟨.hbm, 507, rfl⟩
abbrev main_call9_v1 : Ref sig .tc := ⟨.hbm, 508, rfl⟩
abbrev main_call9_v2 : Ref sig .tc := ⟨.hbm, 509, rfl⟩
abbrev main_v302 : Ref sig .tc := ⟨.hbm, 510, rfl⟩
abbrev main_c_53 : Ref sig .tc := ⟨.hbm, 511, rfl⟩
abbrev main_v303 : Ref sig .tc := ⟨.hbm, 512, rfl⟩
abbrev main_v304 : Ref sig .tc := ⟨.hbm, 513, rfl⟩
abbrev main_c_54 : Ref sig .tc := ⟨.hbm, 514, rfl⟩
abbrev main_call10_v0 : Ref sig .tc := ⟨.hbm, 515, rfl⟩
abbrev main_call10_v1 : Ref sig .tc := ⟨.hbm, 516, rfl⟩
abbrev main_call10_v2 : Ref sig .tc := ⟨.hbm, 517, rfl⟩
abbrev main_call10_v3 : Ref sig .tc := ⟨.hbm, 518, rfl⟩
abbrev main_call10_v4 : Ref sig .tc := ⟨.hbm, 519, rfl⟩
abbrev main_call10_v5 : Ref sig .tc := ⟨.hbm, 520, rfl⟩
abbrev main_call10_v6 : Ref sig .tc := ⟨.hbm, 521, rfl⟩
abbrev main_call10_v7 : Ref sig .tc := ⟨.hbm, 522, rfl⟩
abbrev main_call10_v8 : Ref sig .tc := ⟨.hbm, 523, rfl⟩
abbrev main_call10_c : Ref sig .tc := ⟨.hbm, 524, rfl⟩
abbrev main_call10_v9 : Ref sig .tc := ⟨.hbm, 525, rfl⟩
abbrev main_call10_v10 : Ref sig .tc := ⟨.hbm, 526, rfl⟩
abbrev main_call10_v11 : Ref sig .tc := ⟨.hbm, 527, rfl⟩
abbrev main_call10_c_0 : Ref sig .tc := ⟨.hbm, 528, rfl⟩
abbrev main_call10_v12 : Ref sig .tc := ⟨.hbm, 529, rfl⟩
abbrev main_call10_v13 : Ref sig .tc := ⟨.hbm, 530, rfl⟩
abbrev main_v305 : Ref sig .tc := ⟨.hbm, 531, rfl⟩
abbrev main_v306 : Ref sig .tc := ⟨.hbm, 532, rfl⟩
abbrev main_v307 : Ref sig .tc := ⟨.hbm, 533, rfl⟩
abbrev main_v308 : Ref sig .tc := ⟨.hbm, 534, rfl⟩
abbrev main_v309 : Ref sig .tc := ⟨.hbm, 535, rfl⟩
abbrev main_v310 : Ref sig .tc := ⟨.hbm, 536, rfl⟩
abbrev main_cst_55 : Ref sig .tc := ⟨.hbm, 537, rfl⟩
abbrev main_call11_v0 : Ref sig .tc := ⟨.hbm, 538, rfl⟩
abbrev main_call11_v1 : Ref sig .tc := ⟨.hbm, 539, rfl⟩
abbrev main_v311 : Ref sig .tc := ⟨.hbm, 540, rfl⟩
abbrev main_cst_56 : Ref sig .tc := ⟨.hbm, 541, rfl⟩
abbrev main_v312 : Ref sig .tc := ⟨.hbm, 542, rfl⟩
abbrev main_cst_57 : Ref sig .tc := ⟨.hbm, 543, rfl⟩
abbrev main_v313 : Ref sig .tc := ⟨.hbm, 544, rfl⟩
abbrev main_v314 : Ref sig .tc := ⟨.hbm, 545, rfl⟩
abbrev main_v315 : Ref sig .tc := ⟨.hbm, 546, rfl⟩
abbrev main_v316 : Ref sig .tc := ⟨.hbm, 547, rfl⟩
abbrev main_v317 : Ref sig .tc := ⟨.hbm, 548, rfl⟩
abbrev main_v318 : Ref sig .tc := ⟨.hbm, 549, rfl⟩
abbrev main_cst_58 : Ref sig .tc := ⟨.hbm, 550, rfl⟩
abbrev main_v319 : Ref sig .tc := ⟨.hbm, 551, rfl⟩
abbrev main_v320 : Ref sig .tc := ⟨.hbm, 552, rfl⟩
abbrev main_v321 : Ref sig .tc := ⟨.hbm, 553, rfl⟩
abbrev main_v322 : Ref sig .tc := ⟨.hbm, 554, rfl⟩
abbrev main_v323 : Ref sig .tc := ⟨.hbm, 555, rfl⟩
abbrev main_v324 : Ref sig .tc := ⟨.hbm, 556, rfl⟩
abbrev main_v325 : Ref sig .tc := ⟨.hbm, 557, rfl⟩
abbrev main_v326 : Ref sig .tc := ⟨.hbm, 558, rfl⟩
abbrev main_v327 : Ref sig .tc := ⟨.hbm, 559, rfl⟩
abbrev main_v328 : Ref sig .tc := ⟨.hbm, 560, rfl⟩
abbrev main_v329 : Ref sig .tc := ⟨.hbm, 561, rfl⟩
abbrev main_v330 : Ref sig .tc := ⟨.hbm, 562, rfl⟩
abbrev main_c_59 : Ref sig .tc := ⟨.hbm, 563, rfl⟩
abbrev main_v331 : Ref sig .tc := ⟨.hbm, 564, rfl⟩
abbrev main_v332 : Ref sig .tc := ⟨.hbm, 565, rfl⟩
abbrev main_v333 : Ref sig .tc := ⟨.hbm, 566, rfl⟩
abbrev main_cst_60 : Ref sig .tc := ⟨.hbm, 567, rfl⟩
abbrev main_call12_v0 : Ref sig .tc := ⟨.hbm, 568, rfl⟩
abbrev main_call12_v1 : Ref sig .tc := ⟨.hbm, 569, rfl⟩
abbrev main_call12_v2 : Ref sig .tc := ⟨.hbm, 570, rfl⟩
abbrev main_v334 : Ref sig .tc := ⟨.hbm, 571, rfl⟩
abbrev main_cst_61 : Ref sig .tc := ⟨.hbm, 572, rfl⟩
abbrev main_v335 : Ref sig .tc := ⟨.hbm, 573, rfl⟩
abbrev main_cst_62 : Ref sig .tc := ⟨.hbm, 574, rfl⟩
abbrev main_v336 : Ref sig .tc := ⟨.hbm, 575, rfl⟩
abbrev main_v337 : Ref sig .tc := ⟨.hbm, 576, rfl⟩
abbrev main_v338 : Ref sig .tc := ⟨.hbm, 577, rfl⟩
abbrev main_v339 : Ref sig .tc := ⟨.hbm, 578, rfl⟩
abbrev main_v340 : Ref sig .tc := ⟨.hbm, 579, rfl⟩
abbrev main_v341 : Ref sig .tc := ⟨.hbm, 580, rfl⟩
abbrev main_cst_63 : Ref sig .tc := ⟨.hbm, 581, rfl⟩
abbrev main_v342 : Ref sig .tc := ⟨.hbm, 582, rfl⟩
abbrev main_v343 : Ref sig .tc := ⟨.hbm, 583, rfl⟩
abbrev main_v344 : Ref sig .tc := ⟨.hbm, 584, rfl⟩
abbrev main_v345 : Ref sig .tc := ⟨.hbm, 585, rfl⟩
abbrev main_v346 : Ref sig .tc := ⟨.hbm, 586, rfl⟩
abbrev main_v347 : Ref sig .tc := ⟨.hbm, 587, rfl⟩
abbrev main_v348 : Ref sig .tc := ⟨.hbm, 588, rfl⟩
abbrev main_v349 : Ref sig .tc := ⟨.hbm, 589, rfl⟩
abbrev main_cst_64 : Ref sig .tc := ⟨.hbm, 590, rfl⟩
abbrev main_v350 : Ref sig .tc := ⟨.hbm, 591, rfl⟩
abbrev main_v351 : Ref sig .tc := ⟨.hbm, 592, rfl⟩
abbrev main_cst_65 : Ref sig .tc := ⟨.hbm, 593, rfl⟩
abbrev main_v352 : Ref sig .tc := ⟨.hbm, 594, rfl⟩
abbrev main_v353 : Ref sig .tc := ⟨.hbm, 595, rfl⟩
abbrev main_v354 : Ref sig .tc := ⟨.hbm, 596, rfl⟩
abbrev main_v355 : Ref sig .tc := ⟨.hbm, 597, rfl⟩
abbrev main_v356 : Ref sig .tc := ⟨.hbm, 598, rfl⟩
abbrev main_v357 : Ref sig .tc := ⟨.hbm, 599, rfl⟩
abbrev main_v358 : Ref sig .tc := ⟨.hbm, 600, rfl⟩
abbrev main_v359 : Ref sig .tc := ⟨.hbm, 601, rfl⟩
abbrev main_v360 : Ref sig .tc := ⟨.hbm, 602, rfl⟩
abbrev main_v361 : Ref sig .tc := ⟨.hbm, 603, rfl⟩
abbrev main_v362 : Ref sig .tc := ⟨.hbm, 604, rfl⟩
abbrev main_v363 : Ref sig .tc := ⟨.hbm, 605, rfl⟩
abbrev main_v364 : Ref sig .tc := ⟨.hbm, 606, rfl⟩
abbrev main_v365 : Ref sig .tc := ⟨.hbm, 607, rfl⟩
abbrev main_v366 : Ref sig .tc := ⟨.hbm, 608, rfl⟩
abbrev main_v367 : Ref sig .tc := ⟨.hbm, 609, rfl⟩
abbrev main_v368 : Ref sig .tc := ⟨.hbm, 610, rfl⟩
abbrev main_v369 : Ref sig .tc := ⟨.hbm, 611, rfl⟩
abbrev main_v370 : Ref sig .tc := ⟨.hbm, 612, rfl⟩
abbrev main_v371 : Ref sig .tc := ⟨.hbm, 613, rfl⟩
abbrev main_v372 : Ref sig .tc := ⟨.hbm, 614, rfl⟩
abbrev main_v373 : Ref sig .tc := ⟨.hbm, 615, rfl⟩
abbrev main_v374 : Ref sig .tc := ⟨.hbm, 616, rfl⟩
abbrev main_v375 : Ref sig .tc := ⟨.hbm, 617, rfl⟩
abbrev main_v376 : Ref sig .tc := ⟨.hbm, 618, rfl⟩
abbrev main_cst_66 : Ref sig .tc := ⟨.hbm, 619, rfl⟩
abbrev main_v377 : Ref sig .tc := ⟨.hbm, 620, rfl⟩
abbrev main_v378 : Ref sig .tc := ⟨.hbm, 621, rfl⟩
abbrev main_cst_67 : Ref sig .tc := ⟨.hbm, 622, rfl⟩
abbrev main_v379 : Ref sig .tc := ⟨.hbm, 623, rfl⟩
abbrev main_v380 : Ref sig .tc := ⟨.hbm, 624, rfl⟩
abbrev main_c_68 : Ref sig .tc := ⟨.hbm, 625, rfl⟩
abbrev main_call13_cst : Ref sig .tc := ⟨.hbm, 626, rfl⟩
abbrev main_call13_v0 : Ref sig .tc := ⟨.hbm, 627, rfl⟩
abbrev main_call13_v1 : Ref sig .tc := ⟨.hbm, 628, rfl⟩
abbrev main_call13_cst_0 : Ref sig .tc := ⟨.hbm, 629, rfl⟩
abbrev main_call13_v2 : Ref sig .tc := ⟨.hbm, 630, rfl⟩
abbrev main_call13_v3 : Ref sig .tc := ⟨.hbm, 631, rfl⟩
abbrev main_call13_v4 : Ref sig .tc := ⟨.hbm, 632, rfl⟩
abbrev main_call13_v5 : Ref sig .tc := ⟨.hbm, 633, rfl⟩
abbrev main_call13_v6 : Ref sig .tc := ⟨.hbm, 634, rfl⟩
abbrev main_call13_v7 : Ref sig .tc := ⟨.hbm, 635, rfl⟩
abbrev main_call13_cst_1 : Ref sig .tc := ⟨.hbm, 636, rfl⟩
abbrev main_call13_v8 : Ref sig .tc := ⟨.hbm, 637, rfl⟩
abbrev main_call13_cst_2 : Ref sig .tc := ⟨.hbm, 638, rfl⟩
abbrev main_call13_v9 : Ref sig .tc := ⟨.hbm, 639, rfl⟩
abbrev main_call13_v10 : Ref sig .tc := ⟨.hbm, 640, rfl⟩
abbrev main_call13_v11 : Ref sig .tc := ⟨.hbm, 641, rfl⟩
abbrev main_call13_v12 : Ref sig .tc := ⟨.hbm, 642, rfl⟩
abbrev main_call13_cst_3 : Ref sig .tc := ⟨.hbm, 643, rfl⟩
abbrev main_call13_v13 : Ref sig .tc := ⟨.hbm, 644, rfl⟩
abbrev main_call13_cst_4 : Ref sig .tc := ⟨.hbm, 645, rfl⟩
abbrev main_call13_call0_v0 : Ref sig .tc := ⟨.hbm, 646, rfl⟩
abbrev main_call13_call0_v1 : Ref sig .tc := ⟨.hbm, 647, rfl⟩
abbrev main_v381 : Ref sig .tc := ⟨.hbm, 648, rfl⟩
abbrev main_v382 : Ref sig .tc := ⟨.hbm, 649, rfl⟩
abbrev main_v383 : Ref sig .tc := ⟨.hbm, 650, rfl⟩
abbrev main_cst_69 : Ref sig .tc := ⟨.hbm, 651, rfl⟩
abbrev main_v384 : Ref sig .tc := ⟨.hbm, 652, rfl⟩
abbrev main_v385 : Ref sig .tc := ⟨.hbm, 653, rfl⟩
abbrev main_v386 : Ref sig .tc := ⟨.hbm, 654, rfl⟩
abbrev main_v387 : Ref sig .tc := ⟨.hbm, 655, rfl⟩
abbrev main_v388 : Ref sig .tc := ⟨.hbm, 656, rfl⟩
abbrev main_v389 : Ref sig .tc := ⟨.hbm, 657, rfl⟩
abbrev main_v390 : Ref sig .tc := ⟨.hbm, 658, rfl⟩
abbrev main_v391 : Ref sig .tc := ⟨.hbm, 659, rfl⟩
abbrev main_v392 : Ref sig .tc := ⟨.hbm, 660, rfl⟩
abbrev main_v393 : Ref sig .tc := ⟨.hbm, 661, rfl⟩
abbrev main_v394 : Ref sig .tc := ⟨.hbm, 662, rfl⟩
abbrev main_v395 : Ref sig .tc := ⟨.hbm, 663, rfl⟩
abbrev main_v396 : Ref sig .tc := ⟨.hbm, 664, rfl⟩
abbrev main_v397 : Ref sig .tc := ⟨.hbm, 665, rfl⟩
abbrev main_v398 : Ref sig .tc := ⟨.hbm, 666, rfl⟩
abbrev main_v399 : Ref sig .tc := ⟨.hbm, 667, rfl⟩
abbrev main_v400 : Ref sig .tc := ⟨.hbm, 668, rfl⟩
abbrev main_v401 : Ref sig .tc := ⟨.hbm, 669, rfl⟩
abbrev main_v402 : Ref sig .tc := ⟨.hbm, 670, rfl⟩
abbrev main_v403 : Ref sig .tc := ⟨.hbm, 671, rfl⟩
abbrev main_v404 : Ref sig .tc := ⟨.hbm, 672, rfl⟩
abbrev main_v405 : Ref sig .tc := ⟨.hbm, 673, rfl⟩
abbrev main_v406 : Ref sig .tc := ⟨.hbm, 674, rfl⟩
abbrev main_v407 : Ref sig .tc := ⟨.hbm, 675, rfl⟩
abbrev main_v408 : Ref sig .tc := ⟨.hbm, 676, rfl⟩
abbrev main_v409 : Ref sig .tc := ⟨.hbm, 677, rfl⟩
abbrev main_cst_70 : Ref sig .tc := ⟨.hbm, 678, rfl⟩
abbrev main_v410 : Ref sig .tc := ⟨.hbm, 679, rfl⟩
abbrev main_v411 : Ref sig .tc := ⟨.hbm, 680, rfl⟩
abbrev main_v412 : Ref sig .tc := ⟨.hbm, 681, rfl⟩
abbrev main_cst_71 : Ref sig .tc := ⟨.hbm, 682, rfl⟩
abbrev main_v413 : Ref sig .tc := ⟨.hbm, 683, rfl⟩
abbrev main_v414 : Ref sig .tc := ⟨.hbm, 684, rfl⟩
abbrev main_v415 : Ref sig .tc := ⟨.hbm, 685, rfl⟩
abbrev main_cst_72 : Ref sig .tc := ⟨.hbm, 686, rfl⟩
abbrev main_v416 : Ref sig .tc := ⟨.hbm, 687, rfl⟩
abbrev main_v417 : Ref sig .tc := ⟨.hbm, 688, rfl⟩
abbrev main_cst_73 : Ref sig .tc := ⟨.hbm, 689, rfl⟩
abbrev main_v418 : Ref sig .tc := ⟨.hbm, 690, rfl⟩
abbrev main_v419 : Ref sig .tc := ⟨.hbm, 691, rfl⟩
abbrev main_v420 : Ref sig .tc := ⟨.hbm, 692, rfl⟩
abbrev main_v421 : Ref sig .tc := ⟨.hbm, 693, rfl⟩
abbrev main_v422 : Ref sig .tc := ⟨.hbm, 694, rfl⟩
abbrev main_v423 : Ref sig .tc := ⟨.hbm, 695, rfl⟩
abbrev main_v424 : Ref sig .tc := ⟨.hbm, 696, rfl⟩
abbrev main_v425 : Ref sig .tc := ⟨.hbm, 697, rfl⟩
abbrev main_v426 : Ref sig .tc := ⟨.hbm, 698, rfl⟩

abbrev nD : Nat := 1
abbrev τ : Topo := Topo.v7x

variable {F : FTy → Type} [FloatOps F]
-- ==== Proof.KernelRun.lean ====
/- The run of the idealised kernel's program with its result: every execution ends, the arguments are as launched, and the
   result buffer holds the last segment boundary's contents. -/
module

public import proofs.«01_k».proof.Proof.Gen.KernelIdeal.Frame

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends; at the end the result buffer holds the last boundary's contents and every
    argument is as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v0 (by decide)),
       (h c _ (mem_uc main_arg0 (by decide))).trans (W5_args m ρ c main_arg0 (by decide)),
       (h c _ (mem_uc main_arg1 (by decide))).trans (W5_args m ρ c main_arg1 (by decide)),
       (h c _ (mem_uc main_arg2 (by decide))).trans (W5_args m ρ c main_arg2 (by decide)),
       (h c _ (mem_uc main_arg3 (by decide))).trans (W5_args m ρ c main_arg3 (by decide)),
       (h c _ (mem_uc main_arg4 (by decide))).trans (W5_args m ρ c main_arg4 (by decide)),
       (h c _ (mem_uc main_arg5 (by decide))).trans (W5_args m ρ c main_arg5 (by decide)),
       (h c _ (mem_uc main_arg6 (by decide))).trans (W5_args m ρ c main_arg6 (by decide)),
       (h c _ (mem_uc main_arg7 (by decide))).trans (W5_args m ρ c main_arg7 (by decide)),
       (h c _ (mem_uc main_arg8 (by decide))).trans (W5_args m ρ c main_arg8 (by decide)),
       (h c _ (mem_uc main_arg9 (by decide))).trans (W5_args m ρ c main_arg9 (by decide)),
       (h c _ (mem_uc main_arg10 (by decide))).trans (W5_args m ρ c main_arg10 (by decide)),
       (h c _ (mem_uc main_arg11 (by decide))).trans (W5_args m ρ c main_arg11 (by decide)),
       (h c _ (mem_uc main_arg12 (by decide))).trans (W5_args m ρ c main_arg12 (by decide)),
       (h c _ (mem_uc main_arg13 (by decide))).trans (W5_args m ρ c main_arg13 (by decide)),
       (h c _ (mem_uc main_arg14 (by decide))).trans (W5_args m ρ c main_arg14 (by decide)),
       (h c _ (mem_uc main_arg15 (by decide))).trans (W5_args m ρ c main_arg15 (by decide))⟩)

end Cert.Layer

end
-- ==== Proof.Body.lean ====
/- One layer of the two grid kernels as ONE function of its operands, in this development's own words: `body` takes the tokens
   and the layer's weights and is what both kernels compute between reading their blocks and writing their result. The
   eight attention heads are one definition, `head`, at the head's offsets. The printed block values are this function by
   definition unfolding (`out0_eq`, `out1_eq`). -/
module

public import proofs.«01_k».proof.Proof.Gen.KernelIdeal.Frame
public import Idealize.ShloMosaic.Lib.Pipeline.Value

@[expose] public section

set_option maxRecDepth 16384

noncomputable section

namespace Cert.Layer

open Idealize.ShloMosaic Idealize.ShloMosaic.TcCoe
open Cert.KernelIdeal Cert.KernelIdeal.Gen

variable {F : FTy → Type} [FloatOps F] [Named F]

/-- Root-mean-square normalised tokens, without the gain. -/
def rmsn (x : FVec F S784x512 .f32) : FVec F S784x512 .bf16 :=
  truncf .bf16 (mulf x (broadcastTo S784x512 (rsqrt (addf (divf (shapeCast S784x1
    (multiReduction .add [1] S784 (mulf x x) 0x00000000#32 reduces_S784x512_S784 (.inl rfl) rfl) shapeCasts_S784_S784x1)
    (broadcast S784x1 (Scalar.ofBits .f32 0x44000000#32))) (broadcast S784x1 (Scalar.ofBits .f32 0x358637BD#32))))
    broadcasts_S784x1_S784x512)) bitsLt_bf16_f32

/-- A 512-column projection of the normalised tokens. -/
def proj (xn : FVec F S784x512 .bf16) (w : Vec F S512x512 .bf16) : FVec F S784x512 .f32 :=
  matmul dot_S784x512_S512x512_S784x512_1_0_0_1_n_n none xn (shapeCast S512x512 w shapeCasts_S512x512_S512x512)
    (constant S784x512 .f32 0x00000000#32)

/-- The three gates of every head. -/
def gate (xn : FVec F S784x512 .bf16) (w : Vec F S512x24 .bf16) : FVec F S784x24 .f32 :=
  logistic (matmul dot_S784x512_S512x24_S784x24_1_0_0_1_n_n none xn (shapeCast S512x24 w shapeCasts_S512x24_S512x24)
    (constant S784x24 .f32 0x00000000#32))

/-- The scaled queries. -/
def scaled (q : FVec F S784x512 .f32) : FVec F S784x512 .bf16 :=
  truncf .bf16 (mulf q (broadcast S784x512 (Scalar.ofBits .f32 0x3E000000#32))) bitsLt_bf16_f32

def rowIx : IVec S784x784 32 := iota .tc S784x784 32 [0] iota_S784x784_d0_w32
def colIx : IVec S784x784 32 := iota .tc S784x784 32 [1] iota_S784x784_d1_w32

/-- A 0/1 array from a condition. -/
def ind (s : Shape) (c : IVec s 1) : FVec F s .f32 :=
  select c (broadcast s (Scalar.ofBits .f32 0x3F800000#32)) (broadcast s (Scalar.ofBits .f32 0x00000000#32))

/-- The sliding band: 1 where the positions are nearer than 196. -/
def band : FVec F S784x784 .bf16 :=
  truncf .bf16 (ind S784x784 (cmpi .slt (absi (subi rowIx colIx)) (broadcast S784x784 196#32))) bitsLt_bf16_f32

/-- 1 in the first half of the columns. -/
def half : FVec F S784x784 .bf16 :=
  truncf .bf16 (ind S784x784 (cmpi .slt colIx (broadcast S784x784 392#32))) bitsLt_bf16_f32

/-- 1 in the second half of the columns and -1 in the first. -/
def flip : FVec F S784x784 .bf16 :=
  truncf .bf16 (select (cmpi .sge colIx (broadcast S784x784 392#32))
    (broadcast S784x784 (Scalar.ofBits .f32 0x3F800000#32)) (broadcast S784x784 (Scalar.ofBits .f32 0xBF800000#32))) bitsLt_bf16_f32

def onesCol : FVec F S784x1 .bf16 := broadcast S784x1 (Scalar.ofBits .bf16 0x3F80#16)

/-- The mean of the 392 rows from row `o`. -/
def avg (o : ℕ) (h : S784x512.Slices ![o, 0] S392x512) (v : FVec F S784x512 .f32) : FVec F S1x512 .f32 :=
  divf (shapeCast S1x512 (multiReduction .add [0] S512 (extractStridedSlice S392x512 ![o, 0] v h) 0x00000000#32
    reduces_S392x512_S512 (.inl rfl) rfl) shapeCasts_S512_S1x512) (broadcast S1x512 (Scalar.ofBits .f32 0x43C40000#32))

/-- The three overlapping block means. -/
def pool (v : FVec F S784x512 .f32) : FVec F S3x512 .bf16 :=
  truncf .bf16 (concatenate S3x512 0 [⟨S1x512, avg 0 slices_S784x512_o0_0_S392x512 v⟩,
    ⟨S1x512, avg 196 slices_S784x512_o196_0_S392x512 v⟩, ⟨S1x512, avg 392 slices_S784x512_o392_0_S392x512 v⟩]
    concatenates_S1x512_S1x512_S1x512_S3x512_d0) bitsLt_bf16_f32

/-- The two selection-block means, one per column. -/
def means (v : FVec F S784x512 .f32) : FVec F S512x2 .f32 :=
  transpose S512x2 [1, 0] (concatenate S2x512 0 [⟨S1x512, avg 0 slices_S784x512_o0_0_S392x512 v⟩,
    ⟨S1x512, avg 392 slices_S784x512_o392_0_S392x512 v⟩] concatenates_S1x512_S1x512_S2x512_d0) transposes_S2x512_p1_0_S512x2

/-- The head every one of the 512 columns belongs to. -/
def headOf : IVec S512x1 32 := k0_pay22 k0_pay20 k0_pay21

/-- The means of one head's columns, the other heads' columns at zero. -/
def meansAt (h : BitVec 32) (v : FVec F S784x512 .f32) : FVec F S512x2 .f32 :=
  mulf (means v) (broadcastTo S512x2 (ind S512x1 (cmpi .eq headOf (broadcast S512x1 h))) broadcasts_S512x1_S512x2)

/-- Every head's score of its two selection blocks, by query. -/
def imp (q k : FVec F S784x512 .f32) : FVec F S784x16 .f32 :=
  matmul dot_S784x512_S512x16_S784x16_1_0_0_1_n_n none q (concatenate S512x16 1 [⟨S512x2, meansAt 0#32 k⟩,
    ⟨S512x2, meansAt 1#32 k⟩, ⟨S512x2, meansAt 2#32 k⟩, ⟨S512x2, meansAt 3#32 k⟩, ⟨S512x2, meansAt 4#32 k⟩,
    ⟨S512x2, meansAt 5#32 k⟩, ⟨S512x2, meansAt 6#32 k⟩, ⟨S512x2, meansAt 7#32 k⟩]
    concatenates_S512x2_S512x2_S512x2_S512x2_S512x2_S512x2_S512x2_S512x2_S512x16_d1) (constant S784x16 .f32 0x00000000#32)

/-- That the slices of one head are in range: its 64 columns start at `o`, its gates at `g`, its scores at `c`. -/
structure At (o g c : ℕ) : Prop where
  q : S784x512.Slices ![0, o] S784x64
  p : S3x512.Slices ![0, o] S3x64
  g0 : S784x24.Slices ![0, g] S784x1
  g1 : S784x24.Slices ![0, g + 1] S784x1
  g2 : S784x24.Slices ![0, g + 2] S784x1
  c0 : S784x16.Slices ![0, c] S784x1
  c1 : S784x16.Slices ![0, c + 1] S784x1

theorem at0 : At 0 0 0 := ⟨slices_S784x512_o0_0_S784x64, slices_S3x512_o0_0_S3x64, slices_S784x24_o0_0_S784x1, slices_S784x24_o0_1_S784x1, slices_S784x24_o0_2_S784x1, slices_S784x16_o0_0_S784x1, slices_S784x16_o0_1_S784x1⟩
theorem at1 : At 64 3 2 := ⟨slices_S784x512_o0_64_S784x64, slices_S3x512_o0_64_S3x64, slices_S784x24_o0_3_S784x1, slices_S784x24_o0_4_S784x1, slices_S784x24_o0_5_S784x1, slices_S784x16_o0_2_S784x1, slices_S784x16_o0_3_S784x1⟩
theorem at2 : At 128 6 4 := ⟨slices_S784x512_o0_128_S784x64, slices_S3x512_o0_128_S3x64, slices_S784x24_o0_6_S784x1, slices_S784x24_o0_7_S784x1, slices_S784x24_o0_8_S784x1, slices_S784x16_o0_4_S784x1, slices_S784x16_o0_5_S784x1⟩
theorem at3 : At 192 9 6 := ⟨slices_S784x512_o0_192_S784x64, slices_S3x512_o0_192_S3x64, slices_S784x24_o0_9_S784x1, slices_S784x24_o0_10_S784x1, slices_S784x24_o0_11_S784x1, slices_S784x16_o0_6_S784x1, slices_S784x16_o0_7_S784x1⟩
theorem at4 : At 256 12 8 := ⟨slices_S784x512_o0_256_S784x64, slices_S3x512_o0_256_S3x64, slices_S784x24_o0_12_S784x1, slices_S784x24_o0_13_S784x1, slices_S784x24_o0_14_S784x1, slices_S784x16_o0_8_S784x1, slices_S784x16_o0_9_S784x1⟩
theorem at5 : At 320 15 10 := ⟨slices_S784x512_o0_320_S784x64, slices_S3x512_o0_320_S3x64, slices_S784x24_o0_15_S784x1, slices_S784x24_o0_16_S784x1, slices_S784x24_o0_17_S784x1, slices_S784x16_o0_10_S784x1, slices_S784x16_o0_11_S784x1⟩
theorem at6 : At 384 18 12 := ⟨slices_S784x512_o0_384_S784x64, slices_S3x512_o0_384_S3x64, slices_S784x24_o0_18_S784x1, slices_S784x24_o0_19_S784x1, slices_S784x24_o0_20_S784x1, slices_S784x16_o0_12_S784x1, slices_S784x16_o0_13_S784x1⟩
theorem at7 : At 448 21 14 := ⟨slices_S784x512_o0_448_S784x64, slices_S3x512_o0_448_S3x64, slices_S784x24_o0_21_S784x1, slices_S784x24_o0_22_S784x1, slices_S784x24_o0_23_S784x1, slices_S784x16_o0_14_S784x1, slices_S784x16_o0_15_S784x1⟩

section Head
variable {o g c : ℕ} (a : At o g c)

/-- Exponentials of one head's scaled scores. -/
def expSim (qs kb : FVec F S784x512 .bf16) : FVec F S784x784 .bf16 :=
  exp (truncf .bf16 (matmul dot_S784x64_S784x64_S784x784_1_1_0_0_n_n none (extractStridedSlice S784x64 ![0, o] qs a.q)
    (extractStridedSlice S784x64 ![0, o] kb a.q) (constant S784x784 .f32 0x00000000#32)) bitsLt_bf16_f32)

/-- The mask of the selected half: the first half, flipped on the rows whose second score is larger. -/
def selMask (im : FVec F S784x16 .f32) : FVec F S784x784 .bf16 :=
  addf half (mulf (broadcastTo S784x784 (truncf .bf16 (ind S784x1 (cmpf .ogt (extractStridedSlice S784x1 ![0, c + 1] im a.c1)
    (extractStridedSlice S784x1 ![0, c] im a.c0))) bitsLt_bf16_f32) broadcasts_S784x1_S784x784) flip)

/-- One head's values with a column of ones appended. -/
def ext (vb : FVec F S784x512 .bf16) : FVec F S784x65 .bf16 :=
  concatenate S784x65 1 [⟨S784x64, extractStridedSlice S784x64 ![0, o] vb a.q⟩, ⟨S784x1, onesCol⟩] concatenates_S784x64_S784x1_S784x65_d1

/-- Weighted sums of the extended values: 64 numerators and the denominator. -/
def sums (e m : FVec F S784x784 .bf16) (vb : FVec F S784x512 .bf16) : FVec F S784x65 .f32 :=
  matmul dot_S784x784_S784x65_S784x65_1_0_0_1_n_n none (mulf e m) (ext a vb) (constant S784x65 .f32 0x00000000#32)

/-- A gate column times the quotient of the numerators by the denominator. -/
def gated (gc : FVec F S784x1 .f32) (t : FVec F S784x65 .f32) : FVec F S784x64 .f32 :=
  mulf (broadcastTo S784x64 (divf gc (extractStridedSlice S784x1 ![0, 64] t slices_S784x65_o0_64_S784x1)) broadcasts_S784x1_S784x64)
    (extractStridedSlice S784x64 ![0, 0] t slices_S784x65_o0_0_S784x64)

/-- One head's compressed keys (or values): its block means through the compression matrix. -/
def cmpr (p : FVec F S3x512 .bf16) (w : Vec F S64x64 .bf16) : FVec F S3x64 .bf16 :=
  truncf .bf16 (matmul dot_S3x64_S64x64_S3x64_1_0_0_1_n_n none (extractStridedSlice S3x64 ![0, o] p a.p)
    (shapeCast S64x64 w shapeCasts_S64x64_S64x64) (constant S3x64 .f32 0x00000000#32)) bitsLt_bf16_f32

/-- Exponentials of the scores against the compressed keys. -/
def expCmp (qs : FVec F S784x512 .bf16) (kc : FVec F S3x64 .bf16) : FVec F S784x3 .f32 :=
  exp (matmul dot_S784x64_S3x64_S784x3_1_1_0_0_n_n none (extractStridedSlice S784x64 ![0, o] qs a.q) kc
    (constant S784x3 .f32 0x00000000#32))

/-- Rows divided by their sums. -/
def normed (e : FVec F S784x3 .f32) : FVec F S784x3 .bf16 :=
  truncf .bf16 (divf e (broadcastTo S784x3 (shapeCast S784x1 (multiReduction .add [1] S784 e 0x00000000#32 reduces_S784x3_S784 (.inl rfl) rfl)
    shapeCasts_S784_S784x1) broadcasts_S784x1_S784x3)) bitsLt_bf16_f32

/-- Attention to the compressed blocks. -/
def attCmp (qs : FVec F S784x512 .bf16) (pk pv : FVec F S3x512 .bf16) (wkc wvc : Vec F S64x64 .bf16) : FVec F S784x64 .f32 :=
  matmul dot_S784x3_S3x64_S784x64_1_0_0_1_n_n none (normed (expCmp a qs (cmpr a pk wkc))) (cmpr a pv wvc)
    (constant S784x64 .f32 0x00000000#32)

/-- One head: the three gated attentions added. -/
def head (gt : FVec F S784x24 .f32) (qs kb vb : FVec F S784x512 .bf16) (im : FVec F S784x16 .f32)
    (pk pv : FVec F S3x512 .bf16) (wkc wvc : Vec F S64x64 .bf16) : FVec F S784x64 .f32 :=
  addf (mulf (broadcastTo S784x64 (extractStridedSlice S784x1 ![0, g] gt a.g0) broadcasts_S784x1_S784x64) (attCmp a qs pk pv wkc wvc))
    (addf (gated (extractStridedSlice S784x1 ![0, g + 2] gt a.g2) (sums a (expSim a qs kb) band vb))
      (gated (extractStridedSlice S784x1 ![0, g + 1] gt a.g1) (sums a (expSim a qs kb) (selMask a im) vb)))

end Head

/-- The eight heads side by side. -/
def heads (gt : FVec F S784x24 .f32) (qs kb vb : FVec F S784x512 .bf16) (im : FVec F S784x16 .f32)
    (pk pv : FVec F S3x512 .bf16) (wkc wvc : Vec F S64x64 .bf16) : FVec F S784x512 .bf16 :=
  truncf .bf16 (concatenate S784x512 1 [⟨S784x64, head at0 gt qs kb vb im pk pv wkc wvc⟩, ⟨S784x64, head at1 gt qs kb vb im pk pv wkc wvc⟩, ⟨S784x64, head at2 gt qs kb vb im pk pv wkc wvc⟩, ⟨S784x64, head at3 gt qs kb vb im pk pv wkc wvc⟩, ⟨S784x64, head at4 gt qs kb vb im pk pv wkc wvc⟩, ⟨S784x64, head at5 gt qs kb vb im pk pv wkc wvc⟩, ⟨S784x64, head at6 gt qs kb vb im pk pv wkc wvc⟩, ⟨S784x64, head at7 gt qs kb vb im pk pv wkc wvc⟩]
    concatenates_S784x64_S784x64_S784x64_S784x64_S784x64_S784x64_S784x64_S784x64_S784x512_d1) bitsLt_bf16_f32

/-- The attention block's heads from the normalised tokens. -/
def attn (xn : FVec F S784x512 .bf16) (wq wk wv : Vec F S512x512 .bf16) (wg : Vec F S512x24 .bf16) (wkc wvc : Vec F S64x64 .bf16) :
    FVec F S784x512 .bf16 :=
  heads (gate xn wg) (scaled (proj xn wq)) (truncf .bf16 (proj xn wk) bitsLt_bf16_f32) (truncf .bf16 (proj xn wv) bitsLt_bf16_f32)
    (imp (proj xn wq) (proj xn wk)) (pool (proj xn wk)) (pool (proj xn wv)) wkc wvc

/-- The output projection and the residual. -/
def resid (x : FVec F S784x512 .f32) (at' : FVec F S784x512 .bf16) (wo : Vec F S512x512 .bf16) : FVec F S784x512 .f32 :=
  addf (proj at' wo) x

/-- Row means. -/
def mean (y : FVec F S784x512 .f32) : FVec F S784x1 .f32 :=
  divf (shapeCast S784x1 (multiReduction .add [1] S784 y 0x00000000#32 reduces_S784x512_S784 (.inl rfl) rfl) shapeCasts_S784_S784x1)
    (broadcast S784x1 (Scalar.ofBits .f32 0x44000000#32))

/-- Layer normalisation without its affine part; the variance is the mean of the squares less the squared mean. -/
def lnorm (y : FVec F S784x512 .f32) : FVec F S784x512 .bf16 :=
  truncf .bf16 (mulf (subf y (broadcastTo S784x512 (mean y) broadcasts_S784x1_S784x512))
    (broadcastTo S784x512 (rsqrt (addf (subf (mean (mulf y y)) (mulf (mean y) (mean y))) (broadcast S784x1 (Scalar.ofBits .f32 0x3727C5AC#32))))
      broadcasts_S784x1_S784x512)) bitsLt_bf16_f32

/-- The first feed-forward product with its bias. -/
def hidden (l : FVec F S784x512 .bf16) (w1 : Vec F S2048x512 .bf16) (b1 : Vec F S1x2048 .f32) : FVec F S784x2048 .bf16 :=
  truncf .bf16 (addf (matmul dot_S784x512_S2048x512_S784x2048_1_1_0_0_n_n none l (shapeCast S2048x512 w1 shapeCasts_S2048x512_S2048x512)
    (constant S784x2048 .f32 0x00000000#32)) (broadcastTo S784x2048 (shapeCast S1x2048 b1 shapeCasts_S1x2048_S1x2048) broadcasts_S1x2048_S784x2048))
    bitsLt_bf16_f32

/-- The tanh form of gelu. -/
def act (h : FVec F S784x2048 .bf16) : FVec F S784x2048 .bf16 :=
  mulf h (mulf (broadcast S784x2048 (Scalar.ofBits .bf16 0x3F00#16)) (addf (broadcast S784x2048 (Scalar.ofBits .bf16 0x3F80#16))
    (tanh (mulf (broadcast S784x2048 (Named.named κ "sqrt_two_over_pi" 0x3F4C#16))
      (addf h (mulf (broadcast S784x2048 (Named.named κ "gelu_cubic" 0x3D37#16)) (mulf h (mulf h h))))))))

/-- The second feed-forward product, its bias and the residual. -/
def outp (y : FVec F S784x512 .f32) (m : FVec F S784x2048 .bf16) (w2 : Vec F S512x2048 .bf16) (b2 : Vec F S1x512 .f32) : FVec F S784x512 .f32 :=
  addf (addf (matmul dot_S784x2048_S512x2048_S784x512_1_1_0_0_n_n none m (shapeCast S512x2048 w2 shapeCasts_S512x2048_S512x2048)
    (constant S784x512 .f32 0x00000000#32)) (broadcastTo S784x512 (shapeCast S1x512 b2 shapeCasts_S1x512_S1x512) broadcasts_S1x512_S784x512)) y

/-- The feed-forward block. -/
def ffn (y : FVec F S784x512 .f32) (w1 : Vec F S2048x512 .bf16) (b1 : Vec F S1x2048 .f32) (w2 : Vec F S512x2048 .bf16) (b2 : Vec F S1x512 .f32) :
    FVec F S784x512 .f32 :=
  outp y (act (hidden (lnorm y) w1 b1)) w2 b2

/-- The whole layer. -/
def body (x : FVec F S784x512 .f32) (wq wk wv : Vec F S512x512 .bf16) (wg : Vec F S512x24 .bf16) (wkc wvc : Vec F S64x64 .bf16)
    (wo : Vec F S512x512 .bf16) (w1 : Vec F S2048x512 .bf16) (b1 : Vec F S1x2048 .f32) (w2 : Vec F S512x2048 .bf16) (b2 : Vec F S1x512 .f32) :
    FVec F S784x512 .f32 :=
  ffn (resid x (attn (rmsn x) wq wk wv wg wkc wvc) wo) w1 b1 w2 b2

/-- The first kernel's tokens: the image block plus the positions, transposed. -/
def tok (t : Vec F S1x512x784 .f32) (p : Vec F S1x784 .f32) : FVec F S784x512 .f32 :=
  transpose S784x512 [1, 0] (addf (shapeCast S512x784 t shapeCasts_S1x512x784_S512x784)
    (broadcastTo S512x784 (shapeCast S1x784 p shapeCasts_S1x784_S1x784) broadcasts_S1x784_S512x784)) transposes_S512x784_p1_0_S784x512

theorem hz2 : (![0, 0] : Fin 2 → ℕ) = fun _ => 0 := by funext a; fin_cases a <;> rfl
theorem hz3 : (![0, 0, 0] : Fin 3 → ℕ) = fun _ => 0 := by funext a; fin_cases a <;> rfl

/-- What the first kernel leaves in its result block. -/
theorem out0_raw (x0 : Vec F S1x512x784 .f32) (x1 : Vec F S1x784 .f32) (x2 x3 x4 : Vec F S512x512 .bf16) (x5 : Vec F S512x24 .bf16) (x6 x7 : Vec F S64x64 .bf16) (x8 : Vec F S512x512 .bf16) (x9 : Vec F S2048x512 .bf16) (x10 : Vec F S1x2048 .f32) (x11 : Vec F S512x2048 .bf16) (x12 : Vec F S1x512 .f32) :
    out0_13 x0 x1 x2 x3 x4 x5 x6 x7 x8 x9 x10 x11 x12 = View.canon [⟨r0_9, shapeCast S1x784x512
      (body (tok (View.ld x0 r0_0) (View.ld x1 r0_1)) (View.ld x2 r0_2) (View.ld x3 r0_2) (View.ld x4 r0_2) (View.ld x5 r0_3) (View.ld x6 r0_4) (View.ld x7 r0_4) (View.ld x8 r0_2) (View.ld x9 r0_5) (View.ld x10 r0_6) (View.ld x11 r0_7) (View.ld x12 r0_8)) shapeCasts_S784x512_S1x784x512⟩] := rfl

/-- What the second kernel leaves in its result block. -/
theorem out1_raw (x0 : Vec F S1x784x512 .f32) (x1 x2 x3 : Vec F S512x512 .bf16) (x4 : Vec F S512x24 .bf16) (x5 x6 : Vec F S64x64 .bf16) (x7 : Vec F S512x512 .bf16) (x8 : Vec F S2048x512 .bf16) (x9 : Vec F S1x2048 .f32) (x10 : Vec F S512x2048 .bf16) (x11 : Vec F S1x512 .f32) :
    out1_12 x0 x1 x2 x3 x4 x5 x6 x7 x8 x9 x10 x11 = View.canon [⟨r1_8, shapeCast S1x512x784 (transpose S512x784 [1, 0]
      (body (shapeCast S784x512 (View.ld x0 r1_0) shapeCasts_S1x784x512_S784x512) (View.ld x1 r1_1) (View.ld x2 r1_1) (View.ld x3 r1_1) (View.ld x4 r1_2) (View.ld x5 r1_3) (View.ld x6 r1_3) (View.ld x7 r1_1) (View.ld x8 r1_4) (View.ld x9 r1_5) (View.ld x10 r1_6) (View.ld x11 r1_7))
      transposes_S784x512_p1_0_S512x784) shapeCasts_S512x784_S1x512x784⟩] := rfl

/-- The first kernel's result block is the layer of its tokens. -/
theorem out0_eq (x0 : Vec F S1x512x784 .f32) (x1 : Vec F S1x784 .f32) (x2 x3 x4 : Vec F S512x512 .bf16) (x5 : Vec F S512x24 .bf16) (x6 x7 : Vec F S64x64 .bf16) (x8 : Vec F S512x512 .bf16) (x9 : Vec F S2048x512 .bf16) (x10 : Vec F S1x2048 .f32) (x11 : Vec F S512x2048 .bf16) (x12 : Vec F S1x512 .f32) :
    out0_13 x0 x1 x2 x3 x4 x5 x6 x7 x8 x9 x10 x11 x12 = shapeCast S1x784x512 (body (tok x0 x1) x2 x3 x4 x5 x6 x7 x8 x9 x10 x11 x12)
      shapeCasts_S784x512_S1x784x512 := by
  rw [out0_raw, View.canon_unit_zero (S := S1x784x512) hz3, View.ld_unit_zero (S := S1x512x784) hz3, View.ld_unit_zero (S := S1x784) hz2]
  simp only [View.ld_unit_zero (S := S512x512) hz2, View.ld_unit_zero (S := S512x24) hz2, View.ld_unit_zero (S := S64x64) hz2,
    View.ld_unit_zero (S := S2048x512) hz2, View.ld_unit_zero (S := S1x2048) hz2, View.ld_unit_zero (S := S512x2048) hz2,
    View.ld_unit_zero (S := S1x512) hz2]

/-- The second kernel's result block is the layer of its tokens, transposed. -/
theorem out1_eq (x0 : Vec F S1x784x512 .f32) (x1 x2 x3 : Vec F S512x512 .bf16) (x4 : Vec F S512x24 .bf16) (x5 x6 : Vec F S64x64 .bf16) (x7 : Vec F S512x512 .bf16) (x8 : Vec F S2048x512 .bf16) (x9 : Vec F S1x2048 .f32) (x10 : Vec F S512x2048 .bf16) (x11 : Vec F S1x512 .f32) :
    out1_12 x0 x1 x2 x3 x4 x5 x6 x7 x8 x9 x10 x11 = shapeCast S1x512x784 (transpose S512x784 [1, 0]
      (body (shapeCast S784x512 x0 shapeCasts_S1x784x512_S784x512) x1 x2 x3 x4 x5 x6 x7 x8 x9 x10 x11)
      transposes_S784x512_p1_0_S512x784) shapeCasts_S512x784_S1x512x784 := by
  rw [out1_raw, View.canon_unit_zero (S := S1x512x784) hz3, View.ld_unit_zero (S := S1x784x512) hz3]
  simp only [View.ld_unit_zero (S := S512x512) hz2, View.ld_unit_zero (S := S512x24) hz2, View.ld_unit_zero (S := S64x64) hz2,
    View.ld_unit_zero (S := S2048x512) hz2, View.ld_unit_zero (S := S1x2048) hz2, View.ld_unit_zero (S := S512x2048) hz2,
    View.ld_unit_zero (S := S1x512) hz2]

end Cert.Layer

end
-- ==== Proof.Spec.lean ====
/- The mathematics of one layer over the reals, on arrays as functions of natural coordinates: a root-mean-square
   normalisation, three attentions per head (to pooled blocks, to one selected half, to a sliding band) mixed by gates,
   an output projection with a residual, a layer normalisation and a gelu feed-forward block with a residual. -/
module

public import Idealize.ShloMosaic.PureOps.Ideal

@[expose] public section

noncomputable section

namespace Cert.Spec

open Finset

/-- A matrix of reals by natural coordinates. -/
abbrev Mat := ℕ → ℕ → ℝ

/-- The weights of one layer. -/
structure Par where
  g : ℕ → ℝ
  wq : Mat
  wk : Mat
  wv : Mat
  wkc : Mat
  wvc : Mat
  wg : Mat
  wo : Mat
  lng : ℕ → ℝ
  lnb : ℕ → ℝ
  w1 : Mat
  b1 : ℕ → ℝ
  w2 : Mat
  b2 : ℕ → ℝ

/-- The root-mean-square normalisation's epsilon. -/
def e1 : ℝ := 8796093 / 8796093022208
/-- The layer normalisation's epsilon. -/
def e2 : ℝ := 10995116 / 1099511627776
/-- The cubic coefficient of the tanh form of gelu. -/
def k1 : ℝ := 12003091 / 268435456
/-- The scale of the tanh form of gelu. -/
def k2 : ℝ := 6693141 / 8388608

/-- The reciprocal root mean square of row `n`. -/
def rsq (X : Mat) (n : ℕ) : ℝ := (√((∑ d ∈ range 512, X n d * X n d) / 512 + e1))⁻¹
/-- The normalised rows times the gain. -/
def xn (g : ℕ → ℝ) (X : Mat) : Mat := fun n d => X n d * rsq X n * g d
/-- A product with a 512-row matrix. -/
def pr (x w : Mat) : Mat := fun n j => ∑ d ∈ range 512, x n d * w d j
/-- The gates. -/
def gate (x w : Mat) : Mat := fun n j => (1 + Real.exp (-(pr x w n j)))⁻¹
/-- The mean of the 392 rows from row `o`. -/
def pm (K : Mat) (o : ℕ) (j : ℕ) : ℝ := (∑ r ∈ range 392, K (o + r) j) / 392
/-- The compressed rows of head `h`. -/
def cp (K w : Mat) (h : ℕ) : Mat := fun c d => ∑ j ∈ range 64, pm K (196 * c) (64 * h + j) * w j d
/-- The scaled scores of head `h`. -/
def sc (Q K : Mat) (h : ℕ) : Mat := fun n m => (∑ k ∈ range 64, Q n (64 * h + k) * K m (64 * h + k)) * (1 / 8)
/-- The scaled scores of head `h` against compressed rows. -/
def scc (Q kc : Mat) (h : ℕ) : Mat := fun n c => (∑ k ∈ range 64, Q n (64 * h + k) * kc c k) * (1 / 8)
/-- The average of `v` weighted by the exponentials of `s` times `w`. -/
def sav (N : ℕ) (s w v : ℕ → ℝ) : ℝ := (∑ m ∈ range N, Real.exp (s m) * w m * v m) / ∑ m ∈ range N, Real.exp (s m) * w m
/-- The score of half `s`. -/
def im (Q K : Mat) (h n s : ℕ) : ℝ := ∑ k ∈ range 64, Q n (64 * h + k) * pm K (392 * s) (64 * h + k)
/-- Whether row `n` of head `h` sees row `m` when it attends to its selected half. -/
def Sel (Q K : Mat) (h n m : ℕ) : Prop := if im Q K h n 0 < im Q K h n 1 then 392 ≤ m else m < 392
/-- Whether row `n` sees row `m` in the sliding band. -/
def Band (n m : ℕ) : Prop := n < m + 196 ∧ m < n + 196
open Classical in
/-- A condition as a number. -/
def one (p : Prop) : ℝ := if p then 1 else 0
/-- One head. -/
def hd (Q K V G wkc wvc : Mat) (h n d : ℕ) : ℝ :=
  G n (3 * h) * sav 3 (scc Q (cp K wkc h) h n) (fun _ => 1) (fun c => cp V wvc h c d)
    + G n (3 * h + 1) * sav 784 (sc Q K h n) (fun m => one (Sel Q K h n m)) (fun m => V m (64 * h + d))
    + G n (3 * h + 2) * sav 784 (sc Q K h n) (fun m => one (Band n m)) (fun m => V m (64 * h + d))
/-- The heads side by side. -/
def att (Q K V G wkc wvc : Mat) : Mat := fun n j => hd Q K V G wkc wvc (j / 64) n (j % 64)
/-- The attention block with its residual. -/
def res (p : Par) (X : Mat) : Mat := fun n d =>
  pr (att (pr (xn p.g X) p.wq) (pr (xn p.g X) p.wk) (pr (xn p.g X) p.wv) (gate (xn p.g X) p.wg) p.wkc p.wvc) p.wo n d + X n d
/-- Row means. -/
def mu (y : Mat) (n : ℕ) : ℝ := (∑ d ∈ range 512, y n d) / 512
/-- Row variances. -/
def var (y : Mat) (n : ℕ) : ℝ := (∑ d ∈ range 512, (y n d - mu y n) * (y n d - mu y n)) / 512
/-- Layer normalisation. -/
def ln (g b : ℕ → ℝ) (y : Mat) : Mat := fun n d => (y n d - mu y n) / √(var y n + e2) * g d + b d
/-- The first feed-forward product. -/
def hid (l w : Mat) (b : ℕ → ℝ) : Mat := fun n f => (∑ d ∈ range 512, l n d * w f d) + b f
/-- The tanh form of gelu. -/
def gelu (t : ℝ) : ℝ := t * (1 / 2 * (1 + Real.tanh (k2 * (t + k1 * (t * t * t)))))
/-- The feed-forward block with its residual. -/
def ffn (p : Par) (y : Mat) : Mat := fun n d =>
  (∑ f ∈ range 2048, gelu (hid (ln p.lng p.lnb y) p.w1 p.b1 n f) * p.w2 d f) + p.b2 d + y n d
/-- One layer. -/
def layer (p : Par) (X : Mat) : Mat := ffn p (res p X)

end Cert.Spec

end
-- ==== Proof.Kit.lean ====
/- Arrays of extended reals that hold reals: what the operations of the ideal instance make of them, one lemma per
   operation, the reals given as functions of natural coordinates. -/
module

public import Idealize.ShloMosaic.Lib.Pipeline.Value
public import Idealize.ShloMosaic.Lib.ValueIdx
public import Idealize.ShloMosaic.Lib.ValueIdxCoords
public import Idealize.ShloMosaic.PureOps.Ideal.Laws
public import proofs.«01_k».proof.Proof.Spec

@[expose] public section

noncomputable section

namespace Cert.Kit

open Idealize.ShloMosaic Idealize.ShloMosaic.ValueIdx Finset

/-- A rank-1 array holds the reals `f`. -/
def R1 {a : ℕ} {φ : FTy} (x : FVec Ideal ⟨1, ![a]⟩ φ) (f : ℕ → ℝ) : Prop := ∀ j, x j = ((f (j 0).val : ℝ) : EReal)
/-- A rank-2 array holds the reals `f`. -/
def R2 {a b : ℕ} {φ : FTy} (x : FVec Ideal ⟨2, ![a, b]⟩ φ) (f : ℕ → ℕ → ℝ) : Prop := ∀ j, x j = ((f (j 0).val (j 1).val : ℝ) : EReal)
/-- A rank-3 array holds the reals `f`. -/
def R3 {a b c : ℕ} {φ : FTy} (x : FVec Ideal ⟨3, ![a, b, c]⟩ φ) (f : ℕ → ℕ → ℕ → ℝ) : Prop :=
  ∀ j, x j = ((f (j 0).val (j 1).val (j 2).val : ℝ) : EReal)
/-- A rank-4 array holds the reals `f`. -/
def R4 {a b c d : ℕ} {φ : FTy} (x : FVec Ideal ⟨4, ![a, b, c, d]⟩ φ) (f : ℕ → ℕ → ℕ → ℕ → ℝ) : Prop :=
  ∀ j, x j = ((f (j 0).val (j 1).val (j 2).val (j 3).val : ℝ) : EReal)

/-- A sum of reals over a range, as extended reals. -/
theorem sum_coe (n : ℕ) (f : ℕ → ℝ) : ∑ k : Fin n, ((f k.val : ℝ) : EReal) = ((∑ k ∈ range n, f k : ℝ) : EReal) := by
  induction n with
  | zero => simp
  | succ n ih => rw [Fin.sum_univ_castSucc, Finset.sum_range_succ, EReal.coe_add, ← ih]; rfl

/-- Sums with equal terms, the terms reals. -/
theorem sum_real {n : ℕ} {t : Fin n → EReal} (f : ℕ → ℝ) (h : ∀ k : Fin n, t k = ((f k.val : ℝ) : EReal)) :
    ∑ k : Fin n, t k = ((∑ k ∈ range n, f k : ℝ) : EReal) :=
  (Finset.sum_congr rfl fun k _ => h k).trans (sum_coe n f)

/-- Division of reals, the divisor not zero. -/
theorem div_real {x y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((√x)⁻¹ : ℝ) : EReal) := by
  rw [Ideal.rsqrt_coe, if_neg (not_lt.2 h.le), if_neg h.ne']

/-- The square root of a nonnegative real. -/
theorem sqrt_real {x : ℝ} (h : 0 ≤ x) : Ideal.sqrt (x : EReal) = ((√x : ℝ) : EReal) := by
  rw [Ideal.sqrt_coe, if_neg (not_lt.2 h)]

/-! ## The words of the two programs -/

theorem w_zero : Ideal.ofBits .f32 0x00000000#32 = ((0 : ℝ) : EReal) := by
  simp [Ideal.ofBits, Ideal.ieee, -EReal.coe_mul]
theorem w_one : Ideal.ofBits .f32 0x3F800000#32 = ((1 : ℝ) : EReal) := by
  simp [Ideal.ofBits, Ideal.ieee, -EReal.coe_mul]; norm_num
theorem w_neg_one : Ideal.ofBits .f32 0xBF800000#32 = ((-1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_392 : Ideal.ofBits .f32 0x43C40000#32 = ((392 : ℝ) : EReal) := by
  simp [Ideal.ofBits, Ideal.ieee, -EReal.coe_mul]; norm_num
theorem w_e1 : Ideal.ofBits .f32 0x358637BD#32 = ((Spec.e1 : ℝ) : EReal) := by
  unfold Spec.e1; simp [Ideal.ofBits, Ideal.ieee, -EReal.coe_mul]; norm_num
theorem w_e2 : Ideal.ofBits .f32 0x3727C5AC#32 = ((Spec.e2 : ℝ) : EReal) := by
  unfold Spec.e2; simp [Ideal.ofBits, Ideal.ieee, -EReal.coe_mul]; norm_num
theorem w_k1 : Ideal.ofBits .f32 0x3D372713#32 = ((Spec.k1 : ℝ) : EReal) := by
  unfold Spec.k1; simp [Ideal.ofBits, Ideal.ieee, -EReal.coe_mul]; norm_num
theorem w_k2 : Ideal.ofBits .f32 0x3F4C422A#32 = ((Spec.k2 : ℝ) : EReal) := by
  unfold Spec.k2; simp [Ideal.ofBits, Ideal.ieee, -EReal.coe_mul]; norm_num
theorem w_bot : Ideal.ofBits .f32 0xFF800000#32 = (⊥ : EReal) := by
  simp [Ideal.ofBits, Ideal.ieee, -EReal.coe_mul]
theorem w_top : Ideal.ofBits .f32 0x7F800000#32 = (⊤ : EReal) := by
  simp [Ideal.ofBits, Ideal.ieee, -EReal.coe_mul]
theorem w_half16 : Ideal.ofBits .bf16 0x3F00#16 = ((1 / 2 : ℝ) : EReal) := by
  simp [Ideal.ofBits, Ideal.ieee, -EReal.coe_mul]; norm_num
theorem w_one16 : Ideal.ofBits .bf16 0x3F80#16 = ((1 : ℝ) : EReal) := by
  simp [Ideal.ofBits, Ideal.ieee, -EReal.coe_mul]; norm_num

theorem e1_pos : 0 < Spec.e1 := by unfold Spec.e1; norm_num
theorem e2_pos : 0 < Spec.e2 := by unfold Spec.e2; norm_num

/-! ## Rank-2 arrays -/

section Two
variable {a b : ℕ} {φ ψ : FTy} {x y : FVec Ideal ⟨2, ![a, b]⟩ φ} {f g : ℕ → ℕ → ℝ}

/-- The reals may be rewritten within the array's bounds. -/
theorem R2.congr (hx : R2 x f) (h : ∀ i < a, ∀ k < b, f i k = g i k) : R2 x g := fun j => by
  rw [hx j, h _ (idx2_lt0 j) _ (idx2_lt1 j)]
theorem R2.mul (hx : R2 x f) (hy : R2 y g) : R2 (mulf x y) (fun i k => f i k * g i k) := fun j => by
  rw [mulf_apply, hx j, hy j, ← EReal.coe_mul]
theorem R2.add (hx : R2 x f) (hy : R2 y g) : R2 (addf x y) (fun i k => f i k + g i k) := fun j => by
  rw [addf_apply, hx j, hy j, ← EReal.coe_add]
theorem R2.sub (hx : R2 x f) (hy : R2 y g) : R2 (subf x y) (fun i k => f i k - g i k) := fun j => by
  rw [subf_apply, hx j, hy j, ← EReal.coe_sub]
theorem R2.div (hx : R2 x f) (hy : R2 y g) (h : ∀ i < a, ∀ k < b, g i k ≠ 0) :
    R2 (divf x y) (fun i k => f i k / g i k) := fun j => by
  rw [divf_apply, hx j, hy j, div_real (h _ (idx2_lt0 j) _ (idx2_lt1 j))]
theorem R2.trunc (hx : R2 x f) (h : ψ.bits < φ.bits) : R2 (truncf ψ x h) f := hx
theorem R2.exp (hx : R2 x f) : R2 (exp x) (fun i k => Real.exp (f i k)) := fun j => by
  show Ideal.exp (x j) = _
  rw [hx j, Ideal.exp_coe]
theorem R2.tanh (hx : R2 x f) : R2 (tanh x) (fun i k => Real.tanh (f i k)) := fun j => by
  show Ideal.tanh (x j) = _
  rw [hx j, Ideal.tanh_coe]
theorem R2.logistic (hx : R2 x f) : R2 (logistic x) (fun i k => (1 + Real.exp (-(f i k)))⁻¹) := fun j => by
  show Ideal.logistic (x j) = _
  rw [hx j, Ideal.logistic_coe]
theorem R2.rsqrt (hx : R2 x f) (h : ∀ i k, 0 < f i k) : R2 (rsqrt x) (fun i k => (√(f i k))⁻¹) := fun j => by
  show Ideal.rsqrt (x j) = _
  rw [hx j, rsqrt_real (h _ _)]
theorem R2.splat {w : BitVec φ.bits} {r : ℝ} (h : Ideal.ofBits φ w = (r : EReal)) :
    R2 (broadcast ⟨2, ![a, b]⟩ (Scalar.ofBits (F := Ideal) φ w)) (fun _ _ => r) := fun _ => h
/-- A cast to the same shape. -/
theorem R2.cast (hx : R2 x f) (h : (⟨2, ![a, b]⟩ : Shape).ShapeCasts ⟨2, ![a, b]⟩) : R2 (φ := φ) (shapeCast ⟨2, ![a, b]⟩ x h) f := by
  rw [shapeCast_self]; exact hx
/-- A column spread over the columns. -/
theorem R2.spreadCol {x : FVec Ideal ⟨2, ![a, 1]⟩ φ} (hx : R2 x f) (h : (⟨2, ![a, 1]⟩ : Shape).Broadcasts ⟨2, ![a, b]⟩) :
    R2 (φ := φ) (broadcastTo ⟨2, ![a, b]⟩ x h) (fun i _ => f i 0) := fun j => by
  rw [broadcastTo_apply x h j (ix2 (j 0) ⟨0, Nat.one_pos⟩) (by
    intro c
    match c with
    | ⟨0, _⟩ =>
      show (j 0).val = if a = 1 then 0 else (j 0).val
      split
      · have := idx2_lt0 j; omega
      · rfl
    | ⟨1, _⟩ => rfl), hx]
  rfl
/-- A row spread over the rows. -/
theorem R2.spreadRow {x : FVec Ideal ⟨2, ![1, b]⟩ φ} (hx : R2 x f) (h : (⟨2, ![1, b]⟩ : Shape).Broadcasts ⟨2, ![a, b]⟩) :
    R2 (φ := φ) (broadcastTo ⟨2, ![a, b]⟩ x h) (fun _ k => f 0 k) := fun j => by
  rw [broadcastTo_apply x h j (ix2 ⟨0, Nat.one_pos⟩ (j 1)) (by
    intro c
    match c with
    | ⟨0, _⟩ => rfl
    | ⟨1, _⟩ =>
      show (j 1).val = if b = 1 then 0 else (j 1).val
      split
      · have := idx2_lt1 j; omega
      · rfl), hx]
  rfl
/-- A transposed matrix. -/
theorem R2.transp (hx : R2 x f) (h : (⟨2, ![a, b]⟩ : Shape).Transposes [1, 0] ⟨2, ![b, a]⟩) :
    R2 (φ := φ) (transpose ⟨2, ![b, a]⟩ [1, 0] x h) (fun i k => f k i) := fun j => by
  rw [transpose_apply [1, 0] x h j (ix2 (j 1) (j 0)) (by
    intro c
    match c with
    | ⟨0, _⟩ => rfl
    | ⟨1, _⟩ => rfl), hx]
  rfl
/-- A slice. -/
theorem R2.slice {a' b' o p : ℕ} (hx : R2 x f) (h : (⟨2, ![a, b]⟩ : Shape).Slices ![o, p] ⟨2, ![a', b']⟩) :
    R2 (φ := φ) (extractStridedSlice ⟨2, ![a', b']⟩ ![o, p] x h) (fun i k => f (o + i) (p + k)) := fun j => by
  have h0 : o + a' ≤ a := h.2 0
  have h1 : p + b' ≤ b := h.2 1
  have j0 := idx2_lt0 j
  have j1 := idx2_lt1 j
  rw [extractStridedSlice_apply ![o, p] x h j (ix2 ⟨o + (j 0).val, by omega⟩ ⟨p + (j 1).val, by omega⟩) (by
    intro c
    match c with
    | ⟨0, _⟩ => rfl
    | ⟨1, _⟩ => rfl), hx]
  rfl
/-- Row sums, as a column. -/
theorem R2.rowSum {x : FVec Ideal ⟨2, ![a, b]⟩ .f32} (hx : R2 x f) (h1 : (⟨2, ![a, b]⟩ : Shape).Reduces [1] ⟨1, ![a]⟩) (h2 : FKind.Formats .f32)
    (h3 : 0x00000000#32 = FKind.add.neutral .f32 h2) (h4 : (⟨1, ![a]⟩ : Shape).ShapeCasts ⟨2, ![a, 1]⟩) :
    R2 (φ := .f32) (shapeCast ⟨2, ![a, 1]⟩ (multiReduction .add [1] ⟨1, ![a]⟩ x 0x00000000#32 h1 h2 h3) h4)
      (fun i _ => ∑ k ∈ range b, f i k) := fun j => by
  rw [shapeCast_apply _ h4 j (ix1 (j 0)) (by
    rw [Shape.rowMajor_val_one, Shape.rowMajor_val_two]
    have := idx2_lt1 j
    show (j 0).val = (j 0).val * 1 + (j 1).val
    omega), Ideal.multiReduction_add_single]
  exact sum_real _ fun k => hx _
/-- Column sums, as a row. -/
theorem R2.colSum {x : FVec Ideal ⟨2, ![a, b]⟩ .f32} (hx : R2 x f) (h1 : (⟨2, ![a, b]⟩ : Shape).Reduces [0] ⟨1, ![b]⟩) (h2 : FKind.Formats .f32)
    (h3 : 0x00000000#32 = FKind.add.neutral .f32 h2) (h4 : (⟨1, ![b]⟩ : Shape).ShapeCasts ⟨2, ![1, b]⟩) :
    R2 (φ := .f32) (shapeCast ⟨2, ![1, b]⟩ (multiReduction .add [0] ⟨1, ![b]⟩ x 0x00000000#32 h1 h2 h3) h4)
      (fun _ k => ∑ i ∈ range a, f i k) := fun j => by
  rw [shapeCast_apply _ h4 j (ix1 (j 1)) (by
    rw [Shape.rowMajor_val_one, Shape.rowMajor_val_two]
    have := idx2_lt0 j
    show (j 1).val = (j 0).val * b + (j 1).val
    have e : (j 0).val = 0 := by omega
    rw [e]; omega), Ideal.multiReduction_add_single]
  exact sum_real (fun i => f i (j 1).val) fun k => hx _

/-- Eight arrays side by side. -/
theorem R2.cat8 {B : ℕ} {x0 x1 x2 x3 x4 x5 x6 x7 : FVec Ideal ⟨2, ![a, b]⟩ φ} (hB : B = 8 * b) (f : ℕ → ℕ → ℕ → ℝ)
    (h0 : R2 x0 (f 0)) (h1 : R2 x1 (f 1)) (h2 : R2 x2 (f 2)) (h3 : R2 x3 (f 3)) (h4 : R2 x4 (f 4)) (h5 : R2 x5 (f 5))
    (h6 : R2 x6 (f 6)) (h7 : R2 x7 (f 7)) (hc) :
    R2 (φ := φ) (concatenate ⟨2, ![a, B]⟩ 1 [⟨⟨2, ![a, b]⟩, x0⟩, ⟨⟨2, ![a, b]⟩, x1⟩, ⟨⟨2, ![a, b]⟩, x2⟩, ⟨⟨2, ![a, b]⟩, x3⟩,
      ⟨⟨2, ![a, b]⟩, x4⟩, ⟨⟨2, ![a, b]⟩, x5⟩, ⟨⟨2, ![a, b]⟩, x6⟩, ⟨⟨2, ![a, b]⟩, x7⟩] hc) (fun i k => f (k / b) i (k % b)) := fun j => by
  have j1 := idx2_lt1 j
  have hb : 0 < b := by omega
  have hd : (j 1).val / b < 8 := by rw [Nat.div_lt_iff_lt_mul hb]; omega
  have hm : (j 1).val % b < b := Nat.mod_lt _ hb
  have e := Nat.div_add_mod (j 1).val b
  have key : ∀ (n : ℕ) (hn : n < 8) (x : FVec Ideal ⟨2, ![a, b]⟩ φ), (j 1).val / b = n → R2 x (f n) →
      ([⟨⟨2, ![a, b]⟩, x0⟩, ⟨⟨2, ![a, b]⟩, x1⟩, ⟨⟨2, ![a, b]⟩, x2⟩, ⟨⟨2, ![a, b]⟩, x3⟩, ⟨⟨2, ![a, b]⟩, x4⟩, ⟨⟨2, ![a, b]⟩, x5⟩,
        ⟨⟨2, ![a, b]⟩, x6⟩, ⟨⟨2, ![a, b]⟩, x7⟩] : List ((s : Shape) × (s.Idx → Ideal φ)))[n] = ⟨⟨2, ![a, b]⟩, x⟩ →
      concatenate ⟨2, ![a, B]⟩ 1 [⟨⟨2, ![a, b]⟩, x0⟩, ⟨⟨2, ![a, b]⟩, x1⟩, ⟨⟨2, ![a, b]⟩, x2⟩, ⟨⟨2, ![a, b]⟩, x3⟩,
      ⟨⟨2, ![a, b]⟩, x4⟩, ⟨⟨2, ![a, b]⟩, x5⟩, ⟨⟨2, ![a, b]⟩, x6⟩, ⟨⟨2, ![a, b]⟩, x7⟩] hc j
        = ((f ((j 1).val / b) (j 0).val ((j 1).val % b) : ℝ) : EReal) := by
    intro n hn x hnj hx hxs
    rw [concatenate_apply_piece 1 _ hc j n hn ⟨2, ![a, b]⟩ x hxs rfl (n * b) (by
        interval_cases n <;> simp <;> ring) (ix2 (j 0) ⟨(j 1).val % b, hm⟩) (by
        intro c
        match c with
        | ⟨0, _⟩ => intro _; rfl
        | ⟨1, _⟩ => intro h; exact absurd rfl h) (by
        show n * b + (j 1).val % b = (j 1).val
        rw [← hnj, Nat.mul_comm]; exact e), hx, hnj]
    rfl
  generalize hq : (j 1).val / b = q at hd
  interval_cases q
  · exact key 0 (by omega) x0 hq h0 rfl
  · exact key 1 (by omega) x1 hq h1 rfl
  · exact key 2 (by omega) x2 hq h2 rfl
  · exact key 3 (by omega) x3 hq h3 rfl
  · exact key 4 (by omega) x4 hq h4 rfl
  · exact key 5 (by omega) x5 hq h5 rfl
  · exact key 6 (by omega) x6 hq h6 rfl
  · exact key 7 (by omega) x7 hq h7 rfl

end Two

/-! ## Matrix products -/

section Dot
variable {a b k : ℕ} {φ ψ : FTy} {f g : ℕ → ℕ → ℝ}

/-- A product of two matrices. -/
theorem R2.dot {x : FVec Ideal ⟨2, ![a, k]⟩ φ} {y : FVec Ideal ⟨2, ![k, b]⟩ ψ} (hx : R2 x f) (hy : R2 y g)
    (D : DotDims ⟨2, ![a, k]⟩ ⟨2, ![k, b]⟩ ⟨2, ![a, b]⟩) (wf) (hD : D = ⟨[1], [0], [0], [1], [], [], wf⟩) :
    R2 (φ := .f32) (matmul D none x y (constant ⟨2, ![a, b]⟩ .f32 0x00000000#32)) (fun i j => ∑ c ∈ range k, f i c * g c j) := fun j => by
  subst hD
  simp only [matmul]
  rw [Ideal.matmul_constant_zero_apply, ← Equiv.sum_comp (contrEquiv1 _ k rfl rfl).symm]
  refine sum_real (fun c => f (j 0).val c * g c (j 1).val) fun c => ?_
  rw [hx, hy, ← EReal.coe_mul]
  rfl
/-- A product of a matrix and a transposed one. -/
theorem R2.dotT {x : FVec Ideal ⟨2, ![a, k]⟩ φ} {y : FVec Ideal ⟨2, ![b, k]⟩ ψ} (hx : R2 x f) (hy : R2 y g)
    (D : DotDims ⟨2, ![a, k]⟩ ⟨2, ![b, k]⟩ ⟨2, ![a, b]⟩) (wf) (hD : D = ⟨[1], [1], [0], [0], [], [], wf⟩) :
    R2 (φ := .f32) (matmul D none x y (constant ⟨2, ![a, b]⟩ .f32 0x00000000#32)) (fun i j => ∑ c ∈ range k, f i c * g j c) := fun j => by
  subst hD
  simp only [matmul]
  rw [Ideal.matmul_constant_zero_apply, ← Equiv.sum_comp (contrEquiv1 _ k rfl rfl).symm]
  refine sum_real (fun c => f (j 0).val c * g (j 1).val c) fun c => ?_
  rw [hx, hy, ← EReal.coe_mul]
  rfl

end Dot

/-! ## Words and bits -/

/-- A select on a decided condition. -/
theorem select_ofBool {α : Type} (p : Bool) (a b : α) : Scalar.select (BitVec.ofBool p) a b = if p then a else b := by
  cases p <;> rfl
/-- A difference of small words, the first not the smaller. -/
theorem subi_le {n m : ℕ} (h : m ≤ n) (hn : n < 784) : IntOp.subi (BitVec.ofNat 32 n) (BitVec.ofNat 32 m) = BitVec.ofNat 32 (n - m) := by
  apply BitVec.eq_of_toNat_eq
  simp [IntOp.subi]; omega
/-- A difference of small words, the first the smaller. -/
theorem subi_lt {n m : ℕ} (h : n < m) (hm : m < 784) :
    IntOp.subi (BitVec.ofNat 32 n) (BitVec.ofNat 32 m) = BitVec.ofNat 32 (4294967296 - (m - n)) := by
  apply BitVec.eq_of_toNat_eq
  simp [IntOp.subi]; omega
theorem abs_small : ∀ d : Fin 784, IntOp.cmpi .slt (IntOp.absi (BitVec.ofNat 32 d.val)) 196#32 = BitVec.ofBool (decide (d.val < 196)) := by
  decide +kernel
theorem abs_neg_small : ∀ d : Fin 784, IntOp.cmpi .slt (IntOp.absi (BitVec.ofNat 32 (4294967296 - d.val))) 196#32
    = BitVec.ofBool (decide (d.val < 196)) := by
  decide +kernel
/-- Two small positions are nearer than 196. -/
theorem band_word {n m : ℕ} (hn : n < 784) (hm : m < 784) :
    IntOp.cmpi .slt (IntOp.absi (IntOp.subi (BitVec.ofNat 32 n) (BitVec.ofNat 32 m))) 196#32
      = BitVec.ofBool (decide (n < m + 196 ∧ m < n + 196)) := by
  rcases Nat.lt_or_ge n m with h | h
  · rw [subi_lt h hm, abs_neg_small ⟨m - n, by omega⟩]
    congr 1
    exact decide_eq_decide.2 ⟨fun h' => ⟨by omega, by simp at h'; omega⟩, fun h' => by simp; omega⟩
  · rw [subi_le h hn, abs_small ⟨n - m, by omega⟩]
    congr 1
    exact decide_eq_decide.2 ⟨fun h' => ⟨by simp at h'; omega, by omega⟩, fun h' => by simp; omega⟩
theorem lt392_word : ∀ m : Fin 784, IntOp.cmpi .slt (BitVec.ofNat 32 m.val) 392#32 = BitVec.ofBool (decide (m.val < 392)) := by
  decide +kernel
theorem ge392_word : ∀ m : Fin 784, IntOp.cmpi .sge (BitVec.ofNat 32 m.val) 392#32 = BitVec.ofBool (decide (392 ≤ m.val)) := by
  decide +kernel

end Cert.Kit

end
-- ==== Proof.BodyRead.lean ====
/- The kernels' layer (`Cert.Layer.body`) at the ideal values: on real tokens and the folded real weights of a layer it
   holds `Cert.Spec.layer` of them. One lemma for every piece of the layer. -/
module

public import proofs.«01_k».proof.Proof.Body
public import proofs.«01_k».proof.Proof.Kit

@[expose] public section

set_option maxRecDepth 16384

noncomputable section

namespace Cert.Layer

open Idealize.ShloMosaic Idealize.ShloMosaic.TcCoe Idealize.ShloMosaic.ValueIdx
open Cert.KernelIdeal Cert.KernelIdeal.Gen Cert.Kit Cert.Spec Finset

/-! ## Facts about the sums -/

theorem one_nonneg (p : Prop) : 0 ≤ one p := by unfold one; split <;> norm_num
theorem one_true {p : Prop} (h : p) : one p = 1 := if_pos h
theorem one_false {p : Prop} (h : ¬p) : one p = 0 := if_neg h

/-- Exponentials summed over a condition that holds somewhere are positive. -/
theorem den_pos {N : ℕ} (s w : ℕ → ℝ) (hw : ∀ m, 0 ≤ w m) (m : ℕ) (hm : m < N) (h1 : w m = 1) : 0 < ∑ m ∈ range N, Real.exp (s m) * w m := by
  refine Finset.sum_pos' (fun k _ => mul_nonneg (Real.exp_pos _).le (hw k)) ⟨m, Finset.mem_range.2 hm, ?_⟩
  rw [h1, mul_one]; exact Real.exp_pos _

theorem sel_pos (Q K : Mat) (h n : ℕ) : 0 < ∑ m ∈ range 784, Real.exp (sc Q K h n m) * one (Sel Q K h n m) := by
  by_cases c : im Q K h n 0 < im Q K h n 1
  · exact den_pos _ _ (fun _ => one_nonneg _) 392 (by norm_num) (one_true (by unfold Sel; rw [if_pos c]))
  · exact den_pos _ _ (fun _ => one_nonneg _) 0 (by norm_num) (one_true (by unfold Sel; rw [if_neg c]; norm_num))

theorem band_pos (Q K : Mat) (h n : ℕ) (hn : n < 784) : 0 < ∑ m ∈ range 784, Real.exp (sc Q K h n m) * one (Band n m) :=
  den_pos _ _ (fun _ => one_nonneg _) n hn (one_true ⟨by omega, by omega⟩)

theorem cmp_pos (s : ℕ → ℝ) : 0 < ∑ m ∈ range 3, Real.exp (s m) * (1 : ℝ) :=
  den_pos s (fun _ => 1) (fun _ => zero_le_one) 0 (by norm_num) rfl

/-- The mean of the squares less the squared mean is the variance. -/
theorem var_eq (y : Mat) (n : ℕ) : (∑ d ∈ range 512, y n d * y n d) / 512 - mu y n * mu y n = var y n := by
  have e : ∑ d ∈ range 512, (y n d - mu y n) * (y n d - mu y n)
      = (∑ d ∈ range 512, y n d * y n d) - 2 * mu y n * (∑ d ∈ range 512, y n d) + 512 * (mu y n * mu y n) := by
    rw [Finset.mul_sum, ← Finset.sum_sub_distrib]
    have : (512 : ℝ) * (mu y n * mu y n) = ∑ d ∈ range 512, mu y n * mu y n := by simp
    rw [this, ← Finset.sum_add_distrib]
    exact Finset.sum_congr rfl fun d _ => by ring
  have m : ∑ d ∈ range 512, y n d = 512 * mu y n := by unfold mu; ring
  unfold var
  rw [e, m]
  ring

theorem var_nonneg (y : Mat) (n : ℕ) : 0 ≤ var y n :=
  div_nonneg (Finset.sum_nonneg fun d _ => mul_self_nonneg _) (by norm_num)

theorem rsq_pos (X : Mat) (n : ℕ) : 0 < (∑ d ∈ range 512, X n d * X n d) / 512 + e1 :=
  add_pos_of_nonneg_of_pos (div_nonneg (Finset.sum_nonneg fun d _ => mul_self_nonneg _) (by norm_num)) e1_pos

/-- The gain folded into the weight. -/
theorem pr_fold (g : ℕ → ℝ) (X w : Mat) : pr (fun n d => X n d * rsq X n) (fun d j => w d j * g d) = pr (xn g X) w := by
  funext n j
  exact Finset.sum_congr rfl fun d _ => by unfold xn; ring

/-! ## The pieces -/

section Pieces
variable {x : FVec Ideal S784x512 .f32} {X : Mat}

theorem rmsn_read (hx : R2 x X) : R2 (rmsn x) (fun n d => X n d * rsq X n) :=
  (hx.mul ((((((hx.mul hx).rowSum _ _ _ _).div (R2.splat w_512) (fun _ _ _ _ => by norm_num)).add (R2.splat w_e1)).rsqrt
    (fun n _ => rsq_pos X n)).spreadCol _)).trunc _

theorem proj_read {xx : FVec Ideal S784x512 .bf16} {w : Vec Ideal S512x512 .bf16} {f W : Mat} (hx : R2 xx f) (hw : R2 (φ := .bf16) w W) :
    R2 (proj xx w) (pr f W) :=
  hx.dot (hw.cast _) _ _ rfl

theorem gate_read {xx : FVec Ideal S784x512 .bf16} {w : Vec Ideal S512x24 .bf16} {f W : Mat} (hx : R2 xx f) (hw : R2 (φ := .bf16) w W) :
    R2 (gate xx w) (Spec.gate f W) :=
  (hx.dot (hw.cast _) _ _ rfl).logistic

theorem scaled_read (hx : R2 x X) : R2 (scaled x) (fun n j => X n j * (1 / 8)) := (hx.mul (R2.splat w_eighth)).trunc _

theorem ind_read {a b : ℕ} {c : IVec ⟨2, ![a, b]⟩ 1} {p : ℕ → ℕ → Prop}
    (hc : ∀ j, c j = BitVec.ofBool (@decide (p (j 0).val (j 1).val) (Classical.dec _))) : R2 (ind (F := Ideal) ⟨2, ![a, b]⟩ c) (fun i k => one (p i k)) := fun j => by
  show Scalar.select (c j) (Ideal.ofBits .f32 0x3F800000#32) (Ideal.ofBits .f32 0x00000000#32) = _
  rw [hc, select_ofBool, w_one, w_zero]
  by_cases h : p (j 0).val (j 1).val
  · simp [h, one]
  · simp [h, one]

theorem band_read : R2 (band (F := Ideal)) (fun n m => one (Band n m)) :=
  (ind_read (p := Band) fun j => by
    show IntOp.cmpi .slt (IntOp.absi (IntOp.subi (rowIx j) (colIx j))) 196#32 = _
    unfold rowIx colIx
    rw [iota_single_apply, iota_single_apply, band_word (idx2_lt0 j) (idx2_lt1 j)]
    congr 1
    exact decide_eq_decide.2 Iff.rfl).trunc _

theorem half_read : R2 (half (F := Ideal)) (fun n m => one (m < 392)) :=
  (ind_read (p := fun n m => m < 392) fun j => by
    show IntOp.cmpi .slt (colIx j) 392#32 = _
    unfold colIx
    rw [iota_single_apply, lt392_word ⟨(j 1).val, idx2_lt1 j⟩]
    congr 1
    exact decide_eq_decide.2 Iff.rfl).trunc _

theorem flip_read : R2 (flip (F := Ideal)) (fun n m => if m < 392 then -1 else 1) := fun j => by
  show Scalar.select (IntOp.cmpi .sge (colIx j) 392#32) (Ideal.ofBits .f32 0x3F800000#32) (Ideal.ofBits .f32 0xBF800000#32) = _
  unfold colIx
  rw [iota_single_apply, ge392_word ⟨(j 1).val, idx2_lt1 j⟩, select_ofBool, w_one, w_neg_one]
  by_cases h : (j 1).val < 392
  · rw [if_neg (by simpa using h)]; simp only [if_pos h]
  · rw [if_pos (by simpa using h)]; simp only [if_neg h]

theorem avg_read {o : ℕ} (h) (hx : R2 x X) : R2 (avg o h x) (fun _ j => pm X o j) :=
  (((hx.slice h).colSum _ _ _ _).div (R2.splat w_392) (fun _ _ _ _ => by norm_num)).congr fun i _ k _ => by
    unfold pm; simp only [Nat.zero_add]

theorem pool_read (hx : R2 x X) : R2 (pool x) (fun c j => pm X (196 * c) j) := fun j => by
  have j0 : (j 0).val < 3 := idx2_lt0 j
  have key : ∀ (n : ℕ) (hn : n < 3) (y : FVec Ideal S1x512 .f32), (j 0).val = n → R2 y (fun _ k => pm X (196 * n) k) →
      ([⟨S1x512, avg 0 slices_S784x512_o0_0_S392x512 x⟩, ⟨S1x512, avg 196 slices_S784x512_o196_0_S392x512 x⟩,
        ⟨S1x512, avg 392 slices_S784x512_o392_0_S392x512 x⟩] : List ((s : Shape) × (s.Idx → Ideal .f32)))[n] = ⟨S1x512, y⟩ →
      pool x j = ((pm X (196 * (j 0).val) (j 1).val : ℝ) : EReal) := by
    intro n hn y hnj hy hxs
    unfold pool
    rw [truncf_apply]
    refine (concatenate_apply_piece 0 _ _ j n ?_ S1x512 y ?_ rfl n ?_ (ix2 (⟨0, Nat.one_pos⟩ : Fin 1) (j 1)) ?_ ?_).trans ?_
    · exact hn
    · exact hxs
    · interval_cases n <;> rfl
    · intro c
      match c with
      | ⟨0, _⟩ => intro h; exact absurd rfl h
      | ⟨1, _⟩ => intro _; rfl
    · show n + 0 = (j 0).val
      omega
    · rw [hy, hnj]
  generalize hq : (j 0).val = q at j0
  rw [← hq]
  interval_cases q
  · exact key 0 (by omega) _ hq (avg_read _ hx) rfl
  · exact key 1 (by omega) _ hq (avg_read _ hx) rfl
  · exact key 2 (by omega) _ hq (avg_read _ hx) rfl

theorem means_read (hx : R2 x X) : R2 (means x) (fun j s => pm X (392 * s) j) := by
  refine R2.transp (f := fun s j => pm X (392 * s) j) ?_ _
  intro j
  have j0 : (j 0).val < 2 := idx2_lt0 j
  rcases Nat.lt_or_ge (j 0).val 1 with h | h
  · have e : (j 0).val = 0 := by omega
    rw [concatenate_pair_apply_left (s₁ := S1x512) (s₂ := S1x512) 0 _ _ _ j rfl (ix2 (⟨0, Nat.one_pos⟩ : Fin 1) (j 1)) (by
      intro c
      match c with
      | ⟨0, _⟩ => exact e.symm
      | ⟨1, _⟩ => rfl), avg_read _ hx, e]
  · have e : (j 0).val = 1 := by omega
    rw [concatenate_pair_apply_right (s₁ := S1x512) (s₂ := S1x512) 0 _ _ _ j rfl rfl (ix2 (⟨0, Nat.one_pos⟩ : Fin 1) (j 1)) (by
      intro c
      match c with
      | ⟨0, _⟩ => intro h; exact absurd rfl h
      | ⟨1, _⟩ => intro _; rfl) (by show 0 + 1 = (j 0).val; omega), avg_read _ hx, e]

theorem headOf_fin : ∀ j : Fin 512, ∀ h : Fin 8, IntOp.cmpi .eq (headOf (ix2 j ⟨0, Nat.one_pos⟩)) (BitVec.ofNat 32 h.val)
    = BitVec.ofBool (decide (j.val / 64 = h.val)) := by decide +kernel

theorem meansAt_read {h : ℕ} (hh : h < 8) (hx : R2 x X) :
    R2 (meansAt (BitVec.ofNat 32 h) x) (fun j s => pm X (392 * s) j * one (j / 64 = h)) :=
  (means_read hx).mul ((ind_read (p := fun j _ => j / 64 = h) fun j => by
    have e : j = ix2 (j 0) ⟨0, Nat.one_pos⟩ := by
      rw [eq_ix2 j]; congr 1; exact Fin.ext (by have := idx2_lt1 j; show (j 1).val = 0; omega)
    show IntOp.cmpi .eq (headOf j) (BitVec.ofNat 32 h) = _
    rw [e]
    refine (headOf_fin (j 0) ⟨h, hh⟩).trans ?_
    congr 1
    exact decide_eq_decide.2 Iff.rfl).spreadCol _)

/-- A sum over the columns that keeps one head's is the sum over that head's columns. -/
theorem sum_head (f : ℕ → ℝ) (h : ℕ) (hh : h < 8) : ∑ j ∈ range 512, f j * one (j / 64 = h) = ∑ k ∈ range 64, f (64 * h + k) := by
  have e : ∀ j, f j * one (j / 64 = h) = if j / 64 = h then f j else 0 := fun j => by
    by_cases c : j / 64 = h <;> simp [one, c]
  rw [Finset.sum_congr rfl fun j _ => e j, ← Finset.sum_filter]
  refine Finset.sum_nbij' (fun j => j - 64 * h) (fun k => 64 * h + k) ?_ ?_ ?_ ?_ ?_
  · intro j hj; simp only [Finset.mem_filter, Finset.mem_range] at hj ⊢; omega
  · intro k hk; simp only [Finset.mem_filter, Finset.mem_range] at hk ⊢; omega
  · intro j hj; simp only [Finset.mem_filter, Finset.mem_range] at hj; show 64 * h + (j - 64 * h) = j; omega
  · intro k hk; show 64 * h + k - 64 * h = k; omega
  · intro j hj; simp only [Finset.mem_filter, Finset.mem_range] at hj; show f j = f (64 * h + (j - 64 * h)); congr 1; omega

theorem imp_read {q k : FVec Ideal S784x512 .f32} {Q K : Mat} (hq : R2 q Q) (hk : R2 k K) :
    R2 (imp q k) (fun n c => im Q K (c / 2) n (c % 2)) := by
  have hc := R2.cat8 (B := 16) rfl (fun h j s => pm K (392 * s) j * one (j / 64 = h)) (meansAt_read (h := 0) (by norm_num) hk)
    (meansAt_read (h := 1) (by norm_num) hk) (meansAt_read (h := 2) (by norm_num) hk) (meansAt_read (h := 3) (by norm_num) hk)
    (meansAt_read (h := 4) (by norm_num) hk) (meansAt_read (h := 5) (by norm_num) hk) (meansAt_read (h := 6) (by norm_num) hk)
    (meansAt_read (h := 7) (by norm_num) hk) concatenates_S512x2_S512x2_S512x2_S512x2_S512x2_S512x2_S512x2_S512x2_S512x16_d1
  refine (hq.dot hc dot_S784x512_S512x16_S784x16_1_0_0_1_n_n _ rfl).congr fun n _ c hc => ?_
  rw [Finset.sum_congr rfl fun j _ => (mul_assoc (Q n j) _ _).symm, sum_head (fun j => Q n j * pm K (392 * (c % 2)) j) (c / 2) (by omega)]
  rfl

end Pieces

/-! ## One head -/

section Head
variable {h : ℕ} (a : At (64 * h) (3 * h) (2 * h))
variable {Q K V G KC VC : Mat}

theorem expSim_read {qs kb : FVec Ideal S784x512 .bf16} (hq : R2 qs (fun n j => Q n j * (1 / 8))) (hk : R2 kb K) :
    R2 (expSim a qs kb) (fun n m => Real.exp (sc Q K h n m)) :=
  ((((hq.slice a.q).dotT (hk.slice a.q) dot_S784x64_S784x64_S784x784_1_1_0_0_n_n _ rfl).trunc _).exp).congr fun n _ m _ => by
    unfold sc
    rw [Finset.sum_mul]
    congr 1
    exact Finset.sum_congr rfl fun k _ => by simp only [Nat.zero_add]; ring

theorem selMask_read {i : FVec Ideal S784x16 .f32} (hi : R2 i (fun n c => im Q K (c / 2) n (c % 2))) :
    R2 (selMask a i) (fun n m => one (Sel Q K h n m)) := by
  have hs : R2 (ind (F := Ideal) S784x1 (cmpf .ogt (extractStridedSlice S784x1 ![0, 2 * h + 1] i a.c1) (extractStridedSlice S784x1 ![0, 2 * h] i a.c0)))
      (fun n _ => one (im Q K h n 0 < im Q K h n 1)) := by
    refine ind_read (p := fun n _ => im Q K h n 0 < im Q K h n 1) fun j => ?_
    rw [cmpf_apply, hi.slice a.c1 j, hi.slice a.c0 j]
    have j1 : (j 1).val = 0 := by have := idx2_lt1 j; omega
    show BitVec.ofBool (@decide ((im Q K ((2 * h + (j 1).val) / 2) (0 + (j 0).val) ((2 * h + (j 1).val) % 2) : EReal)
      < (im Q K ((2 * h + 1 + (j 1).val) / 2) (0 + (j 0).val) ((2 * h + 1 + (j 1).val) % 2) : EReal)) _) = _
    congr 1
    refine decide_eq_decide.2 ?_
    rw [EReal.coe_lt_coe_iff, j1, show (2 * h + 0) / 2 = h by omega, show (2 * h + 0) % 2 = 0 by omega,
      show (2 * h + 1 + 0) / 2 = h by omega, show (2 * h + 1 + 0) % 2 = 1 by omega, Nat.zero_add]
  refine (half_read.add (((hs.trunc _).spreadCol _).mul flip_read)).congr fun n _ m _ => ?_
  unfold Sel one
  by_cases c : im Q K h n 0 < im Q K h n 1 <;> by_cases d : m < 392 <;> simp [c, d] <;> omega

theorem ext_read {vb : FVec Ideal S784x512 .bf16} (hv : R2 vb V) :
    R2 (ext a vb) (fun m d => if d < 64 then V m (64 * h + d) else 1) := fun j => by
  have j1 : (j 1).val < 65 := idx2_lt1 j
  unfold ext
  by_cases c : (j 1).val < 64
  · rw [concatenate_pair_apply_left (s₁ := S784x64) (s₂ := S784x1) 1 _ _ _ j rfl (ix2 (j 0) (⟨(j 1).val, c⟩ : Fin 64)) (by
      intro c
      match c with
      | ⟨0, _⟩ => rfl
      | ⟨1, _⟩ => rfl), hv.slice a.q]
    simp only [if_pos c, Nat.zero_add]
  · rw [concatenate_pair_apply_right (s₁ := S784x64) (s₂ := S784x1) 1 _ _ _ j rfl rfl (ix2 (j 0) (⟨0, Nat.one_pos⟩ : Fin 1)) (by
      intro c
      match c with
      | ⟨0, _⟩ => intro _; rfl
      | ⟨1, _⟩ => intro h; exact absurd rfl h) (by show 0 + 64 = (j 1).val; omega)]
    simp only [if_neg c]
    exact w_one16

theorem sums_read {e m : FVec Ideal S784x784 .bf16} {vb : FVec Ideal S784x512 .bf16} {E M : Mat} (he : R2 e E) (hm : R2 m M) (hv : R2 vb V) :
    R2 (sums a e m vb) (fun n d => ∑ c ∈ range 784, E n c * M n c * (if d < 64 then V c (64 * h + d) else 1)) :=
  (he.mul hm).dot (ext_read a hv) _ _ rfl

theorem gated_read {gc : FVec Ideal S784x1 .f32} {e m : FVec Ideal S784x784 .bf16} {vb : FVec Ideal S784x512 .bf16} {g : ℕ → ℝ} {S W : Mat}
    (hg : R2 gc (fun n _ => g n)) (he : R2 e (fun n m => Real.exp (S n m))) (hm : R2 m W) (hv : R2 vb V)
    (hp : ∀ n < 784, 0 < ∑ c ∈ range 784, Real.exp (S n c) * W n c) :
    R2 (gated gc (sums a e m vb)) (fun n d => g n * sav 784 (S n) (W n) (fun m => V m (64 * h + d))) := by
  have ht := sums_read a he hm hv
  refine (((hg.div (ht.slice slices_S784x65_o0_64_S784x1) fun n hn k hk => ?_).spreadCol _).mul
    (ht.slice slices_S784x65_o0_0_S784x64)).congr fun n hn d hd => ?_
  · have : k = 0 := by omega
    subst this
    simp only [Nat.zero_add, show ¬(64 + 0 < 64) by omega, if_false, mul_one]
    exact (hp n hn).ne'
  · simp only [Nat.zero_add, show ¬(64 + 0 < 64) by omega, if_false, mul_one, hd, if_true]
    unfold sav
    have := (hp n hn).ne'
    field_simp

theorem cmpr_read {p : FVec Ideal S3x512 .bf16} {w : Vec Ideal S64x64 .bf16} {W : Mat} (hp : R2 p (fun c j => pm K (196 * c) j)) (hw : R2 (φ := .bf16) w W) :
    R2 (cmpr a p w) (cp K W h) :=
  (((hp.slice a.p).dot (hw.cast _) dot_S3x64_S64x64_S3x64_1_0_0_1_n_n _ rfl).trunc _).congr fun c _ d _ => by
    unfold cp; simp only [Nat.zero_add]

theorem expCmp_read {qs : FVec Ideal S784x512 .bf16} {kc : FVec Ideal S3x64 .bf16} (hq : R2 qs (fun n j => Q n j * (1 / 8))) (hk : R2 kc KC) :
    R2 (expCmp a qs kc) (fun n c => Real.exp (scc Q KC h n c)) :=
  (((hq.slice a.q).dotT hk dot_S784x64_S3x64_S784x3_1_1_0_0_n_n _ rfl).exp).congr fun n _ c _ => by
    unfold scc
    rw [Finset.sum_mul]
    congr 1
    exact Finset.sum_congr rfl fun k _ => by simp only [Nat.zero_add]; ring

theorem attCmp_read {qs : FVec Ideal S784x512 .bf16} {pk pv : FVec Ideal S3x512 .bf16} {wkc wvc : Vec Ideal S64x64 .bf16} {WK WV : Mat}
    (hq : R2 qs (fun n j => Q n j * (1 / 8))) (hpk : R2 pk (fun c j => pm K (196 * c) j)) (hpv : R2 pv (fun c j => pm V (196 * c) j))
    (hk : R2 (φ := .bf16) wkc WK) (hv : R2 (φ := .bf16) wvc WV) :
    R2 (attCmp a qs pk pv wkc wvc) (fun n d => sav 3 (scc Q (cp K WK h) h n) (fun _ => 1) (fun c => cp V WV h c d)) := by
  have he := expCmp_read a hq (cmpr_read a hpk hk)
  have hn : R2 (normed (expCmp a qs (cmpr a pk wkc))) _ :=
    (he.div ((he.rowSum reduces_S784x3_S784 (.inl rfl) rfl shapeCasts_S784_S784x1).spreadCol broadcasts_S784x1_S784x3) fun n _ c _ => by
      have := cmp_pos (scc Q (cp K WK h) h n); simp only [mul_one] at this; exact this.ne').trunc bitsLt_bf16_f32
  refine (hn.dot (cmpr_read a hpv hv) dot_S784x3_S3x64_S784x64_1_0_0_1_n_n _ rfl).congr fun n _ d _ => ?_
  unfold sav
  simp only [mul_one]
  rw [Finset.sum_div]
  exact Finset.sum_congr rfl fun c _ => by ring

theorem head_read {gt : FVec Ideal S784x24 .f32} {qs kb vb : FVec Ideal S784x512 .bf16} {i : FVec Ideal S784x16 .f32}
    {pk pv : FVec Ideal S3x512 .bf16} {wkc wvc : Vec Ideal S64x64 .bf16} {WK WV : Mat}
    (hg : R2 gt G) (hq : R2 qs (fun n j => Q n j * (1 / 8))) (hkb : R2 kb K) (hvb : R2 vb V)
    (hi : R2 i (fun n c => im Q K (c / 2) n (c % 2))) (hpk : R2 pk (fun c j => pm K (196 * c) j)) (hpv : R2 pv (fun c j => pm V (196 * c) j))
    (hk : R2 (φ := .bf16) wkc WK) (hv : R2 (φ := .bf16) wvc WV) :
    R2 (head a gt qs kb vb i pk pv wkc wvc) (fun n d => hd Q K V G WK WV h n d) := by
  have g0 := (hg.slice a.g0).congr (g := fun n _ => G n (3 * h)) fun n _ k hk => by
    have : k = 0 := by omega
    subst this; simp only [Nat.zero_add, Nat.add_zero]
  have g1 := (hg.slice a.g1).congr (g := fun n _ => G n (3 * h + 1)) fun n _ k hk => by
    have : k = 0 := by omega
    subst this; simp only [Nat.zero_add, Nat.add_zero]
  have g2 := (hg.slice a.g2).congr (g := fun n _ => G n (3 * h + 2)) fun n _ k hk => by
    have : k = 0 := by omega
    subst this; simp only [Nat.zero_add, Nat.add_zero]
  have e := expSim_read a hq hkb
  refine (((g0.spreadCol _).mul (attCmp_read a hq hpk hpv hk hv)).add
    ((gated_read a g2 e band_read hvb fun n hn => band_pos Q K h n hn).add
      (gated_read a g1 e (selMask_read a hi) hvb fun n _ => sel_pos Q K h n))).congr fun n _ d _ => ?_
  unfold hd
  ring

end Head

/-! ## The layer -/

theorem attn_read {x : FVec Ideal S784x512 .bf16} {wq wk wv : Vec Ideal S512x512 .bf16} {wg : Vec Ideal S512x24 .bf16} {wkc wvc : Vec Ideal S64x64 .bf16}
    {X WQ WK WV WG WKC WVC : Mat} (hx : R2 x X) (hq : R2 (φ := .bf16) wq WQ) (hk : R2 (φ := .bf16) wk WK) (hv : R2 (φ := .bf16) wv WV)
    (hg : R2 (φ := .bf16) wg WG) (hkc : R2 (φ := .bf16) wkc WKC) (hvc : R2 (φ := .bf16) wvc WVC) :
    R2 (attn x wq wk wv wg wkc wvc) (att (pr X WQ) (pr X WK) (pr X WV) (Spec.gate X WG) WKC WVC) := by
  have Q := proj_read hx hq
  have K := proj_read hx hk
  have V := proj_read hx hv
  have H : ∀ {h : ℕ} (a : At (64 * h) (3 * h) (2 * h)), R2 (head a (gate x wg) (scaled (proj x wq)) (truncf .bf16 (proj x wk) bitsLt_bf16_f32)
      (truncf .bf16 (proj x wv) bitsLt_bf16_f32) (imp (proj x wq) (proj x wk)) (pool (proj x wk)) (pool (proj x wv)) wkc wvc)
      (fun n d => hd (pr X WQ) (pr X WK) (pr X WV) (Spec.gate X WG) WKC WVC h n d) := fun a =>
    head_read a (gate_read hx hg) (scaled_read Q) (K.trunc _) (V.trunc _) (imp_read Q K) (pool_read K) (pool_read V) hkc hvc
  exact (R2.cat8 (B := 512) rfl (fun h n d => hd (pr X WQ) (pr X WK) (pr X WV) (Spec.gate X WG) WKC WVC h n d)
    (H (h := 0) at0) (H (h := 1) at1) (H (h := 2) at2) (H (h := 3) at3) (H (h := 4) at4) (H (h := 5) at5) (H (h := 6) at6) (H (h := 7) at7) _).trunc _

theorem mean_read {y : FVec Ideal S784x512 .f32} {Y : Mat} (hy : R2 y Y) : R2 (mean y) (fun n _ => (∑ d ∈ range 512, Y n d) / 512) :=
  (hy.rowSum _ _ _ _).div (R2.splat w_512) fun _ _ _ _ => by norm_num

theorem lnorm_read {y : FVec Ideal S784x512 .f32} {Y : Mat} (hy : R2 y Y) :
    R2 (lnorm y) (fun n d => (Y n d - mu Y n) * (√(var Y n + e2))⁻¹) := by
  have hv : R2 (addf (subf (mean (mulf y y)) (mulf (mean y) (mean y))) (broadcast S784x1 (Scalar.ofBits .f32 0x3727C5AC#32)))
      (fun n _ => var Y n + e2) :=
    (((mean_read (hy.mul hy)).sub ((mean_read hy).mul (mean_read hy))).add (R2.splat w_e2)).congr fun n _ _ _ => by
      rw [← var_eq]; rfl
  exact ((hy.sub ((mean_read hy).spreadCol _)).mul ((hv.rsqrt fun n _ => add_pos_of_nonneg_of_pos (var_nonneg Y n) e2_pos).spreadCol _)).trunc _

theorem hidden_read {l : FVec Ideal S784x512 .bf16} {w1 : Vec Ideal S2048x512 .bf16} {b1 : Vec Ideal S1x2048 .f32} {L W : Mat} {b : ℕ → ℝ}
    (hl : R2 l L) (hw : R2 (φ := .bf16) w1 W) (hb : R2 (φ := .f32) b1 (fun _ f => b f)) : R2 (hidden l w1 b1) (hid L W b) :=
  ((hl.dotT (hw.cast _) dot_S784x512_S2048x512_S784x2048_1_1_0_0_n_n _ rfl).add ((hb.cast _).spreadRow _)).trunc _

theorem act_read {t : FVec Ideal S784x2048 .bf16} {T : Mat} (ht : R2 t T) : R2 (act t) (fun n f => gelu (T n f)) := by
  have c1 : R2 (broadcast S784x2048 (Named.named (F := Ideal) (φ := .bf16) κ "gelu_cubic" (0x3D37#16 : BitVec (FTy.bf16).bits))) (fun _ _ => k1) := fun _ =>
    IdealRules.named_const.ideal_named_scalar _ _ _ _ rfl
  have c2 : R2 (broadcast S784x2048 (Named.named (F := Ideal) (φ := .bf16) κ "sqrt_two_over_pi" (0x3F4C#16 : BitVec (FTy.bf16).bits))) (fun _ _ => k2) := fun _ =>
    IdealRules.named_const.ideal_named_scalar _ _ _ _ rfl
  refine (ht.mul ((R2.splat w_half16).mul ((R2.splat w_one16).add ((c2.mul (ht.add (c1.mul (ht.mul (ht.mul ht))))).tanh)))).congr fun n _ f _ => ?_
  unfold gelu
  rw [mul_assoc (T n f) (T n f) (T n f)]

theorem outp_read {y : FVec Ideal S784x512 .f32} {t : FVec Ideal S784x2048 .bf16} {w2 : Vec Ideal S512x2048 .bf16} {b2 : Vec Ideal S1x512 .f32}
    {Y T W : Mat} {b : ℕ → ℝ} (hy : R2 y Y) (ht : R2 t T) (hw : R2 (φ := .bf16) w2 W) (hb : R2 (φ := .f32) b2 (fun _ d => b d)) :
    R2 (outp y t w2 b2) (fun n d => (∑ f ∈ range 2048, T n f * W d f) + b d + Y n d) :=
  ((ht.dotT (hw.cast _) dot_S784x2048_S512x2048_S784x512_1_1_0_0_n_n _ rfl).add ((hb.cast _).spreadRow _)).add hy

/-- The affine part of the layer normalisation folded into the first feed-forward weight and bias. -/
theorem hid_fold (p : Par) (y : Mat) :
    hid (fun n d => (y n d - mu y n) * (√(var y n + e2))⁻¹) (fun f d => p.w1 f d * p.lng d) (fun f => p.b1 f + ∑ d ∈ range 512, p.w1 f d * p.lnb d)
      = hid (Spec.ln p.lng p.lnb y) p.w1 p.b1 := by
  funext n f
  unfold hid Spec.ln
  show _ + (p.b1 f + _) = _
  rw [add_comm (p.b1 f), ← add_assoc, ← Finset.sum_add_distrib]
  congr 1
  exact Finset.sum_congr rfl fun d _ => by rw [div_eq_mul_inv]; ring

/-- The layer's operands hold the folded weights of `p`. -/
structure Folded (p : Par) (wq wk wv : Vec Ideal S512x512 .bf16) (wg : Vec Ideal S512x24 .bf16) (wkc wvc : Vec Ideal S64x64 .bf16)
    (wo : Vec Ideal S512x512 .bf16) (w1 : Vec Ideal S2048x512 .bf16) (b1 : Vec Ideal S1x2048 .f32) (w2 : Vec Ideal S512x2048 .bf16)
    (b2 : Vec Ideal S1x512 .f32) : Prop where
  q : R2 (φ := .bf16) wq (fun d j => p.wq d j * p.g d)
  k : R2 (φ := .bf16) wk (fun d j => p.wk d j * p.g d)
  v : R2 (φ := .bf16) wv (fun d j => p.wv d j * p.g d)
  g : R2 (φ := .bf16) wg (fun d j => p.wg d j * p.g d)
  kc : R2 (φ := .bf16) wkc p.wkc
  vc : R2 (φ := .bf16) wvc p.wvc
  o : R2 (φ := .bf16) wo p.wo
  w1 : R2 (φ := .bf16) w1 (fun f d => p.w1 f d * p.lng d)
  b1 : R2 (φ := .f32) b1 (fun _ f => p.b1 f + ∑ d ∈ range 512, p.w1 f d * p.lnb d)
  w2 : R2 (φ := .bf16) w2 p.w2
  b2 : R2 (φ := .f32) b2 (fun _ d => p.b2 d)

/-- The layer of real tokens holds the layer over the reals. -/
theorem body_read {p : Par} {x : FVec Ideal S784x512 .f32} {wq wk wv : Vec Ideal S512x512 .bf16} {wg : Vec Ideal S512x24 .bf16}
    {wkc wvc : Vec Ideal S64x64 .bf16} {wo : Vec Ideal S512x512 .bf16} {w1 : Vec Ideal S2048x512 .bf16} {b1 : Vec Ideal S1x2048 .f32}
    {w2 : Vec Ideal S512x2048 .bf16} {b2 : Vec Ideal S1x512 .f32} {X : Mat} (hx : R2 x X) (w : Folded p wq wk wv wg wkc wvc wo w1 b1 w2 b2) :
    R2 (body x wq wk wv wg wkc wvc wo w1 b1 w2 b2) (layer p X) := by
  have ha := attn_read (rmsn_read hx) w.q w.k w.v w.g w.kc w.vc
  have hg : Spec.gate (fun n d => X n d * rsq X n) (fun d j => p.wg d j * p.g d) = Spec.gate (xn p.g X) p.wg := by
    unfold Spec.gate; rw [pr_fold]
  rw [pr_fold, pr_fold, pr_fold, hg] at ha
  have hy : R2 (resid x (attn (rmsn x) wq wk wv wg wkc wvc) wo) (res p X) := (proj_read ha w.o).add hx
  have hh := hidden_read (lnorm_read hy) w.w1 w.b1
  rw [hid_fold] at hh
  exact outp_read hy (act_read hh) w.w2 w.b2

end Cert.Layer

end
-- ==== Proof.Prep.lean ====
/- The arguments as arrays of reals, and what the host's preparation of the weights makes of them. -/
module

public import proofs.«01_k».proof.Proof.Kit

@[expose] public section

noncomputable section

namespace Cert.Kit

open Idealize.ShloMosaic Idealize.ShloMosaic.ValueIdx Finset

/-- The arguments' real values, over natural coordinates. -/
structure Arr where
  x : ℕ → ℕ → ℕ → ℕ → ℝ
  pos : ℕ → ℝ
  g : ℕ → ℕ → ℝ
  wq : ℕ → Spec.Mat
  wk : ℕ → Spec.Mat
  wv : ℕ → Spec.Mat
  wkc : ℕ → Spec.Mat
  wvc : ℕ → Spec.Mat
  wg : ℕ → Spec.Mat
  wo : ℕ → Spec.Mat
  lng : ℕ → ℕ → ℝ
  lnb : ℕ → ℕ → ℝ
  w1 : ℕ → Spec.Mat
  b1 : ℕ → ℕ → ℝ
  w2 : ℕ → Spec.Mat
  b2 : ℕ → ℕ → ℝ

/-- Layer `o`'s parameters. -/
def Arr.par (A : Arr) (o : ℕ) : Spec.Par :=
  ⟨A.g o, A.wq o, A.wk o, A.wv o, A.wkc o, A.wvc o, A.wg o, A.wo o, A.lng o, A.lnb o, A.w1 o, A.b1 o, A.w2 o, A.b2 o⟩

/-- The first layer's tokens of image `b`: pixel `n` of channel `c`, plus the position. -/
def Arr.tok (A : Arr) (b : ℕ) : Spec.Mat := fun n c => A.x b c (n / 28) (n % 28) + A.pos n

/-- The arguments hold the reals of `A`. -/
structure Held (A : Arr) (x0 : FVec Ideal ⟨4, ![8, 512, 28, 28]⟩ .f32) (x1 : FVec Ideal ⟨1, ![784]⟩ .f32) (x2 : FVec Ideal ⟨2, ![2, 512]⟩ .f32)
    (x3 x4 x5 : FVec Ideal ⟨3, ![2, 512, 512]⟩ .f32) (x6 x7 : FVec Ideal ⟨3, ![2, 64, 64]⟩ .f32) (x8 : FVec Ideal ⟨3, ![2, 512, 24]⟩ .f32)
    (x9 : FVec Ideal ⟨3, ![2, 512, 512]⟩ .f32) (x10 x11 : FVec Ideal ⟨2, ![2, 512]⟩ .f32) (x12 : FVec Ideal ⟨3, ![2, 2048, 512]⟩ .f32)
    (x13 : FVec Ideal ⟨2, ![2, 2048]⟩ .f32) (x14 : FVec Ideal ⟨3, ![2, 512, 2048]⟩ .f32) (x15 : FVec Ideal ⟨2, ![2, 512]⟩ .f32) : Prop where
  x : R4 x0 A.x
  pos : R1 x1 A.pos
  g : R2 x2 A.g
  wq : R3 x3 A.wq
  wk : R3 x4 A.wk
  wv : R3 x5 A.wv
  wkc : R3 x6 A.wkc
  wvc : R3 x7 A.wvc
  wg : R3 x8 A.wg
  wo : R3 x9 A.wo
  lng : R2 x10 A.lng
  lnb : R2 x11 A.lnb
  w1 : R3 x12 A.w1
  b1 : R2 x13 A.b1
  w2 : R3 x14 A.w2
  b2 : R2 x15 A.b2

section Prep
variable {a b c o : ℕ} {φ : FTy}

/-- Matrix `o` of a stack. -/
theorem R3.row {x : FVec Ideal ⟨3, ![c, a, b]⟩ φ} {f : ℕ → Spec.Mat} (hx : R3 x f) (h : (⟨3, ![c, a, b]⟩ : Shape).Slices ![o, 0, 0] ⟨3, ![1, a, b]⟩)
    (h' : (⟨3, ![1, a, b]⟩ : Shape).ShapeCasts ⟨2, ![a, b]⟩) :
    R2 (φ := φ) (shapeCast ⟨2, ![a, b]⟩ (extractStridedSlice ⟨3, ![1, a, b]⟩ ![o, 0, 0] x h) h') (f o) := fun j => by
  have ho : o + 1 ≤ c := h.2 0
  have j0 := idx2_lt0 j
  have j1 := idx2_lt1 j
  rw [shapeCast_apply _ h' j (ix3 ⟨0, Nat.one_pos⟩ (j 0) (j 1)) (by
      rw [Shape.rowMajor_val_three, Shape.rowMajor_val_two]
      show ((0 * a + (j 0).val) * b + (j 1).val) = (j 0).val * b + (j 1).val
      rw [Nat.zero_mul, Nat.zero_add]),
    extractStridedSlice_apply ![o, 0, 0] x h _ (ix3 ⟨o, by omega⟩ (j 0) (j 1)) (by
      intro d
      match d with
      | ⟨0, _⟩ => rfl
      | ⟨1, _⟩ => exact (Nat.zero_add _).symm
      | ⟨2, _⟩ => exact (Nat.zero_add _).symm), hx]
  rfl

/-- Row `o` of a matrix. -/
theorem R2.row {x : FVec Ideal ⟨2, ![c, a]⟩ φ} {f : Spec.Mat} (hx : R2 x f) (h : (⟨2, ![c, a]⟩ : Shape).Slices ![o, 0] ⟨2, ![1, a]⟩)
    (h' : (⟨2, ![1, a]⟩ : Shape).ShapeCasts ⟨1, ![a]⟩) :
    R1 (φ := φ) (shapeCast ⟨1, ![a]⟩ (extractStridedSlice ⟨2, ![1, a]⟩ ![o, 0] x h) h') (f o) := fun j => by
  have ho : o + 1 ≤ c := h.2 0
  rw [shapeCast_apply _ h' j (ix2 ⟨0, Nat.one_pos⟩ (j 0)) (by
      rw [Shape.rowMajor_val_two, Shape.rowMajor_val_one]
      show 0 * a + (j 0).val = (j 0).val
      rw [Nat.zero_mul, Nat.zero_add]),
    extractStridedSlice_apply ![o, 0] x h _ (ix2 ⟨o, by omega⟩ (j 0)) (by
      intro d
      match d with
      | ⟨0, _⟩ => rfl
      | ⟨1, _⟩ => exact (Nat.zero_add _).symm), hx]
  rfl

/-- A vector as a row. -/
theorem R1.toRow {x : FVec Ideal ⟨1, ![a]⟩ φ} {f : ℕ → ℝ} (hx : R1 x f) (h : (⟨1, ![a]⟩ : Shape).ShapeCasts ⟨2, ![1, a]⟩) :
    R2 (φ := φ) (shapeCast ⟨2, ![1, a]⟩ x h) (fun _ k => f k) := fun j => by
  have j0 : (j 0).val < 1 := idx2_lt0 j
  rw [shapeCast_apply _ h j (ix1 (j 1)) (by
      rw [Shape.rowMajor_val_two, Shape.rowMajor_val_one]
      show (j 1).val = (j 0).val * a + (j 1).val
      rw [show (j 0).val = 0 by omega, Nat.zero_mul, Nat.zero_add]), hx]
  rfl

/-- A vector as a column, spread over the columns. -/
theorem R1.cols {x : FVec Ideal ⟨1, ![a]⟩ φ} {f : ℕ → ℝ} (hx : R1 x f) (h : (⟨1, ![a]⟩ : Shape).BroadcastsInDim ⟨2, ![a, 1]⟩ ![0])
    (h' : (⟨2, ![a, 1]⟩ : Shape).BroadcastsInDim ⟨2, ![a, b]⟩ ![0, 1]) :
    R2 (φ := φ) (broadcastInDim ⟨2, ![a, b]⟩ ![0, 1] h' (broadcastInDim ⟨2, ![a, 1]⟩ ![0] h x)) (fun i _ => f i) := fun j => by
  have j0 := idx2_lt0 j
  rw [broadcastInDim_apply _ h' _ j (ix2 (j 0) ⟨0, Nat.one_pos⟩) (by
      intro d
      match d with
      | ⟨0, _⟩ =>
        show (j 0).val = if a = 1 then 0 else (j 0).val
        split
        · omega
        · rfl
      | ⟨1, _⟩ => rfl),
    broadcastInDim_apply _ h x _ (ix1 (j 0)) (by
      intro d
      match d with
      | ⟨0, _⟩ =>
        show (j 0).val = if a = 1 then 0 else (j 0).val
        split
        · omega
        · rfl), hx]
  rfl

/-- A vector as a row, spread over the rows. -/
theorem R1.rows {x : FVec Ideal ⟨1, ![b]⟩ φ} {f : ℕ → ℝ} (hx : R1 x f) (h : (⟨1, ![b]⟩ : Shape).BroadcastsInDim ⟨2, ![1, b]⟩ ![1])
    (h' : (⟨2, ![1, b]⟩ : Shape).BroadcastsInDim ⟨2, ![a, b]⟩ ![0, 1]) :
    R2 (φ := φ) (broadcastInDim ⟨2, ![a, b]⟩ ![0, 1] h' (broadcastInDim ⟨2, ![1, b]⟩ ![1] h x)) (fun _ k => f k) := fun j => by
  have j1 := idx2_lt1 j
  rw [broadcastInDim_apply _ h' _ j (ix2 ⟨0, Nat.one_pos⟩ (j 1)) (by
      intro d
      match d with
      | ⟨0, _⟩ => rfl
      | ⟨1, _⟩ =>
        show (j 1).val = if b = 1 then 0 else (j 1).val
        split
        · omega
        · rfl),
    broadcastInDim_apply _ h x _ (ix1 (j 1)) (by
      intro d
      match d with
      | ⟨0, _⟩ =>
        show (j 1).val = if b = 1 then 0 else (j 1).val
        split
        · omega
        · rfl), hx]
  rfl

theorem R1.add {x y : FVec Ideal ⟨1, ![a]⟩ φ} {f g : ℕ → ℝ} (hx : R1 x f) (hy : R1 y g) : R1 (addf x y) (fun i => f i + g i) := fun j => by
  show x j + y j = _
  rw [hx, hy, ← EReal.coe_add]

/-- A matrix applied to a vector. -/
theorem R2.apply {x : FVec Ideal ⟨2, ![a, b]⟩ .f32} {y : FVec Ideal ⟨1, ![b]⟩ .f32} {f : Spec.Mat} {g : ℕ → ℝ} (hx : R2 x f) (hy : R1 y g)
    (D : DotDims ⟨2, ![a, b]⟩ ⟨1, ![b]⟩ ⟨1, ![a]⟩) (wf) (hD : D = ⟨[1], [0], [0], [], [], [], wf⟩) :
    R1 (φ := .f32) (Host.dotGeneral D none x y) (fun i => ∑ k ∈ range b, f i k * g k) := fun j => by
  subst hD
  simp only [Host.dotGeneral]
  rw [Ideal.dotGeneral_apply, ← Equiv.sum_comp (contrEquiv1 _ b rfl rfl).symm]
  refine sum_real (fun k => f (j 0).val k * g k) fun k => ?_
  rw [hx, hy, ← EReal.coe_mul]
  rfl

end Prep

end Cert.Kit

end
-- ==== Proof.Host.lean ====
/- The idealised kernel's result: what the host prepares, what each of the two regions leaves in its array, and the array that
   the program returns, on real arguments. -/
module

public import proofs.«01_k».proof.Proof.BodyRead
public import proofs.«01_k».proof.Proof.Prep
public import proofs.«01_k».proof.Proof.Gen.KernelIdeal.Frame
public import Idealize.ShloMosaic.Lib.Pipeline.ValueKit.Geometry

@[expose] public section

set_option maxRecDepth 16384

noncomputable section

namespace Cert.Layer

open Idealize.ShloMosaic Idealize.ShloMosaic.TcCoe Idealize.ShloMosaic.ValueIdx
open Cert.KernelIdeal Cert.KernelIdeal.Gen Cert.Kit Cert.Spec Finset

/-! ## The host's preparation of a layer's weights -/

section Fold
variable (o : ℕ) {a b : ℕ}

/-- A projection's weight times the gain of its rows. -/
def gained (hs : (⟨3, ![2, 512, b]⟩ : Shape).Slices ![o, 0, 0] ⟨3, ![1, 512, b]⟩) (hc : (⟨3, ![1, 512, b]⟩ : Shape).ShapeCasts ⟨2, ![512, b]⟩)
    (hb : S512x1.BroadcastsInDim ⟨2, ![512, b]⟩ ![0, 1]) (hg : S2x512.Slices ![o, 0] S1x512)
    (w : FVec Ideal ⟨3, ![2, 512, b]⟩ .f32) (g : FVec Ideal S2x512 .f32) : FVec Ideal ⟨2, ![512, b]⟩ .bf16 :=
  truncf .bf16 (mulf (shapeCast ⟨2, ![512, b]⟩ (extractStridedSlice ⟨3, ![1, 512, b]⟩ ![o, 0, 0] w hs) hc)
    (broadcastInDim ⟨2, ![512, b]⟩ ![0, 1] hb (broadcastInDim S512x1 ![0] bcast_S512_S512x1_0
      (shapeCast S512 (extractStridedSlice S1x512 ![o, 0] g hg) shapeCasts_S1x512_S512)))) bitsLt_bf16_f32

/-- A weight taken as it is. -/
def plain (hs : (⟨3, ![2, a, b]⟩ : Shape).Slices ![o, 0, 0] ⟨3, ![1, a, b]⟩) (hc : (⟨3, ![1, a, b]⟩ : Shape).ShapeCasts ⟨2, ![a, b]⟩)
    (w : FVec Ideal ⟨3, ![2, a, b]⟩ .f32) : FVec Ideal ⟨2, ![a, b]⟩ .bf16 :=
  truncf .bf16 (shapeCast ⟨2, ![a, b]⟩ (extractStridedSlice ⟨3, ![1, a, b]⟩ ![o, 0, 0] w hs) hc) bitsLt_bf16_f32

/-- The first feed-forward weight times the normalisation's gain of its columns. -/
def scaledW1 (hs : S2x2048x512.Slices ![o, 0, 0] S1x2048x512) (hg : S2x512.Slices ![o, 0] S1x512)
    (w : FVec Ideal S2x2048x512 .f32) (g : FVec Ideal S2x512 .f32) : FVec Ideal S2048x512 .bf16 :=
  truncf .bf16 (mulf (shapeCast S2048x512 (extractStridedSlice S1x2048x512 ![o, 0, 0] w hs) shapeCasts_S1x2048x512_S2048x512)
    (broadcastInDim S2048x512 ![0, 1] bcast_S1x512_S2048x512_0_1 (broadcastInDim S1x512 ![1] bcast_S512_S1x512_1
      (shapeCast S512 (extractStridedSlice S1x512 ![o, 0] g hg) shapeCasts_S1x512_S512)))) bitsLt_bf16_f32

/-- The first feed-forward bias plus the weight's product with the normalisation's offset. -/
def shiftedB1 (hs : S2x2048x512.Slices ![o, 0, 0] S1x2048x512) (hg : S2x512.Slices ![o, 0] S1x512) (hb : S2x2048.Slices ![o, 0] S1x2048)
    (b : FVec Ideal S2x2048 .f32) (w : FVec Ideal S2x2048x512 .f32) (g : FVec Ideal S2x512 .f32) : FVec Ideal S1x2048 .f32 :=
  shapeCast S1x2048 (addf (shapeCast S2048 (extractStridedSlice S1x2048 ![o, 0] b hb) shapeCasts_S1x2048_S2048)
    (Host.dotGeneral dot_S2048x512_S512_S2048_1_0_0_n_n_n none
      (shapeCast S2048x512 (extractStridedSlice S1x2048x512 ![o, 0, 0] w hs) shapeCasts_S1x2048x512_S2048x512)
      (shapeCast S512 (extractStridedSlice S1x512 ![o, 0] g hg) shapeCasts_S1x512_S512) : FVec Ideal S2048 .f32)) shapeCasts_S2048_S1x2048

/-- The second feed-forward bias as a row. -/
def rowB2 (hg : S2x512.Slices ![o, 0] S1x512) (g : FVec Ideal S2x512 .f32) : FVec Ideal S1x512 .f32 :=
  shapeCast S1x512 (shapeCast S512 (extractStridedSlice S1x512 ![o, 0] g hg) shapeCasts_S1x512_S512) shapeCasts_S512_S1x512

variable {o} {hs hc hb hg}

theorem gained_read {w : FVec Ideal ⟨3, ![2, 512, b]⟩ .f32} {g : FVec Ideal S2x512 .f32} {W : ℕ → Mat} {G : Mat} (hw : R3 w W) (h : R2 g G) :
    R2 (gained o hs hc hb hg w g) (fun d j => W o d j * G o d) := ((hw.row _ _).mul ((h.row _ _).cols _ _)).trunc _
theorem plain_read {hs} {w : FVec Ideal ⟨3, ![2, a, b]⟩ .f32} {hc} {W : ℕ → Mat} (hw : R3 w W) : R2 (plain o hs hc w) (W o) := (hw.row _ _).trunc _
theorem scaledW1_read {hs} {w : FVec Ideal S2x2048x512 .f32} {g : FVec Ideal S2x512 .f32} {W : ℕ → Mat} {G : Mat} (hw : R3 w W) (h : R2 g G) :
    R2 (scaledW1 o hs hg w g) (fun f d => W o f d * G o d) := ((hw.row _ _).mul ((h.row _ _).rows _ _)).trunc _
theorem shiftedB1_read {hs hb} {b : FVec Ideal S2x2048 .f32} {w : FVec Ideal S2x2048x512 .f32} {g : FVec Ideal S2x512 .f32} {B : Mat} {W : ℕ → Mat} {G : Mat}
    (h' : R2 b B) (hw : R3 w W) (h : R2 g G) : R2 (shiftedB1 o hs hg hb b w g) (fun _ f => B o f + ∑ d ∈ range 512, W o f d * G o d) :=
  ((h'.row _ _).add ((hw.row _ _).apply (h.row _ _) _ _ rfl)).toRow _
theorem rowB2_read {g : FVec Ideal S2x512 .f32} {G : Mat} (h : R2 g G) : R2 (rowB2 o hg g) (fun _ d => G o d) := (h.row _ _).toRow _

end Fold

/-- The buffers of a valuation hold the arguments' reals. -/
abbrev HeldIn (A : Arr) (V : Valuation τ sig (Elt Ideal)) : Prop :=
  Held A (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))

/-- What the host leaves for layer 0's region are that layer's folded weights. -/
theorem prep0 {A : Arr} {V : Valuation τ sig (Elt Ideal)} (H : HeldIn A V) : Folded (A.par 0) (StableHlo.after hostOps0 V (Proc.devRef .tc main_call0_v9)) (StableHlo.after hostOps0 V (Proc.devRef .tc main_call0_v17)) (StableHlo.after hostOps0 V (Proc.devRef .tc main_call0_v25)) (StableHlo.after hostOps0 V (Proc.devRef .tc main_call0_v33)) (StableHlo.after hostOps0 V (Proc.devRef .tc main_call0_v36)) (StableHlo.after hostOps0 V (Proc.devRef .tc main_call0_v39)) (StableHlo.after hostOps0 V (Proc.devRef .tc main_call0_v42)) (StableHlo.after hostOps0 V (Proc.devRef .tc main_call0_v50)) (StableHlo.after hostOps0 V (Proc.devRef .tc main_call0_v59)) (StableHlo.after hostOps0 V (Proc.devRef .tc main_call0_v62)) (StableHlo.after hostOps0 V (Proc.devRef .tc main_call0_v65)) where
  q := by
    rw [show StableHlo.after hostOps0 V (Proc.devRef .tc main_call0_v9) = gained 0 slices_S2x512x512_S1x512x512_0_0_0 shapeCasts_S1x512x512_S512x512 bcast_S512x1_S512x512_0_1 slices_S2x512_S1x512_0_0 (V (Proc.devRef .tc main_arg3)) (V (Proc.devRef .tc main_arg2)) from by
      after_results
      rfl]
    exact gained_read H.wq H.g
  k := by
    rw [show StableHlo.after hostOps0 V (Proc.devRef .tc main_call0_v17) = gained 0 slices_S2x512x512_S1x512x512_0_0_0 shapeCasts_S1x512x512_S512x512 bcast_S512x1_S512x512_0_1 slices_S2x512_S1x512_0_0 (V (Proc.devRef .tc main_arg4)) (V (Proc.devRef .tc main_arg2)) from by
      after_results
      rfl]
    exact gained_read H.wk H.g
  v := by
    rw [show StableHlo.after hostOps0 V (Proc.devRef .tc main_call0_v25) = gained 0 slices_S2x512x512_S1x512x512_0_0_0 shapeCasts_S1x512x512_S512x512 bcast_S512x1_S512x512_0_1 slices_S2x512_S1x512_0_0 (V (Proc.devRef .tc main_arg5)) (V (Proc.devRef .tc main_arg2)) from by
      after_results
      rfl]
    exact gained_read H.wv H.g
  g := by
    rw [show StableHlo.after hostOps0 V (Proc.devRef .tc main_call0_v33) = gained 0 slices_S2x512x24_S1x512x24_0_0_0 shapeCasts_S1x512x24_S512x24 bcast_S512x1_S512x24_0_1 slices_S2x512_S1x512_0_0 (V (Proc.devRef .tc main_arg8)) (V (Proc.devRef .tc main_arg2)) from by
      after_results
      rfl]
    exact gained_read H.wg H.g
  kc := by
    rw [show StableHlo.after hostOps0 V (Proc.devRef .tc main_call0_v36) = plain 0 slices_S2x64x64_S1x64x64_0_0_0 shapeCasts_S1x64x64_S64x64 (V (Proc.devRef .tc main_arg6)) from by
      after_results
      rfl]
    exact plain_read H.wkc
  vc := by
    rw [show StableHlo.after hostOps0 V (Proc.devRef .tc main_call0_v39) = plain 0 slices_S2x64x64_S1x64x64_0_0_0 shapeCasts_S1x64x64_S64x64 (V (Proc.devRef .tc main_arg7)) from by
      after_results
      rfl]
    exact plain_read H.wvc
  o := by
    rw [show StableHlo.after hostOps0 V (Proc.devRef .tc main_call0_v42) = plain 0 slices_S2x512x512_S1x512x512_0_0_0 shapeCasts_S1x512x512_S512x512 (V (Proc.devRef .tc main_arg9)) from by
      after_results
      rfl]
    exact plain_read H.wo
  w1 := by
    rw [show StableHlo.after hostOps0 V (Proc.devRef .tc main_call0_v50) = scaledW1 0 slices_S2x2048x512_S1x2048x512_0_0_0 slices_S2x512_S1x512_0_0 (V (Proc.devRef .tc main_arg12)) (V (Proc.devRef .tc main_arg10)) from by
      after_results
      rfl]
    exact scaledW1_read H.w1 H.lng
  b1 := by
    rw [show StableHlo.after hostOps0 V (Proc.devRef .tc main_call0_v59) = shiftedB1 0 slices_S2x2048x512_S1x2048x512_0_0_0 slices_S2x512_S1x512_0_0 slices_S2x2048_S1x2048_0_0 (V (Proc.devRef .tc main_arg13)) (V (Proc.devRef .tc main_arg12)) (V (Proc.devRef .tc main_arg11)) from by
      after_results
      rfl]
    exact shiftedB1_read H.b1 H.w1 H.lnb
  w2 := by
    rw [show StableHlo.after hostOps0 V (Proc.devRef .tc main_call0_v62) = plain 0 slices_S2x512x2048_S1x512x2048_0_0_0 shapeCasts_S1x512x2048_S512x2048 (V (Proc.devRef .tc main_arg14)) from by
      after_results
      rfl]
    exact plain_read H.w2
  b2 := by
    rw [show StableHlo.after hostOps0 V (Proc.devRef .tc main_call0_v65) = rowB2 0 slices_S2x512_S1x512_0_0 (V (Proc.devRef .tc main_arg15)) from by
      after_results
      rfl]
    exact rowB2_read H.b2

/-- What the host leaves for layer 1's region are that layer's folded weights. -/
theorem prep1 {A : Arr} {V : Valuation τ sig (Elt Ideal)} (H : HeldIn A V) : Folded (A.par 1) (StableHlo.after hostOps1 V (Proc.devRef .tc main_call0_v74)) (StableHlo.after hostOps1 V (Proc.devRef .tc main_call0_v82)) (StableHlo.after hostOps1 V (Proc.devRef .tc main_call0_v90)) (StableHlo.after hostOps1 V (Proc.devRef .tc main_call0_v98)) (StableHlo.after hostOps1 V (Proc.devRef .tc main_call0_v101)) (StableHlo.after hostOps1 V (Proc.devRef .tc main_call0_v104)) (StableHlo.after hostOps1 V (Proc.devRef .tc main_call0_v107)) (StableHlo.after hostOps1 V (Proc.devRef .tc main_call0_v115)) (StableHlo.after hostOps1 V (Proc.devRef .tc main_call0_v124)) (StableHlo.after hostOps1 V (Proc.devRef .tc main_call0_v127)) (StableHlo.after hostOps1 V (Proc.devRef .tc main_call0_v130)) where
  q := by
    rw [show StableHlo.after hostOps1 V (Proc.devRef .tc main_call0_v74) = gained 1 slices_S2x512x512_S1x512x512_1_0_0 shapeCasts_S1x512x512_S512x512 bcast_S512x1_S512x512_0_1 slices_S2x512_S1x512_1_0 (V (Proc.devRef .tc main_arg3)) (V (Proc.devRef .tc main_arg2)) from by
      after_results
      rfl]
    exact gained_read H.wq H.g
  k := by
    rw [show StableHlo.after hostOps1 V (Proc.devRef .tc main_call0_v82) = gained 1 slices_S2x512x512_S1x512x512_1_0_0 shapeCasts_S1x512x512_S512x512 bcast_S512x1_S512x512_0_1 slices_S2x512_S1x512_1_0 (V (Proc.devRef .tc main_arg4)) (V (Proc.devRef .tc main_arg2)) from by
      after_results
      rfl]
    exact gained_read H.wk H.g
  v := by
    rw [show StableHlo.after hostOps1 V (Proc.devRef .tc main_call0_v90) = gained 1 slices_S2x512x512_S1x512x512_1_0_0 shapeCasts_S1x512x512_S512x512 bcast_S512x1_S512x512_0_1 slices_S2x512_S1x512_1_0 (V (Proc.devRef .tc main_arg5)) (V (Proc.devRef .tc main_arg2)) from by
      after_results
      rfl]
    exact gained_read H.wv H.g
  g := by
    rw [show StableHlo.after hostOps1 V (Proc.devRef .tc main_call0_v98) = gained 1 slices_S2x512x24_S1x512x24_1_0_0 shapeCasts_S1x512x24_S512x24 bcast_S512x1_S512x24_0_1 slices_S2x512_S1x512_1_0 (V (Proc.devRef .tc main_arg8)) (V (Proc.devRef .tc main_arg2)) from by
      after_results
      rfl]
    exact gained_read H.wg H.g
  kc := by
    rw [show StableHlo.after hostOps1 V (Proc.devRef .tc main_call0_v101) = plain 1 slices_S2x64x64_S1x64x64_1_0_0 shapeCasts_S1x64x64_S64x64 (V (Proc.devRef .tc main_arg6)) from by
      after_results
      rfl]
    exact plain_read H.wkc
  vc := by
    rw [show StableHlo.after hostOps1 V (Proc.devRef .tc main_call0_v104) = plain 1 slices_S2x64x64_S1x64x64_1_0_0 shapeCasts_S1x64x64_S64x64 (V (Proc.devRef .tc main_arg7)) from by
      after_results
      rfl]
    exact plain_read H.wvc
  o := by
    rw [show StableHlo.after hostOps1 V (Proc.devRef .tc main_call0_v107) = plain 1 slices_S2x512x512_S1x512x512_1_0_0 shapeCasts_S1x512x512_S512x512 (V (Proc.devRef .tc main_arg9)) from by
      after_results
      rfl]
    exact plain_read H.wo
  w1 := by
    rw [show StableHlo.after hostOps1 V (Proc.devRef .tc main_call0_v115) = scaledW1 1 slices_S2x2048x512_S1x2048x512_1_0_0 slices_S2x512_S1x512_1_0 (V (Proc.devRef .tc main_arg12)) (V (Proc.devRef .tc main_arg10)) from by
      after_results
      rfl]
    exact scaledW1_read H.w1 H.lng
  b1 := by
    rw [show StableHlo.after hostOps1 V (Proc.devRef .tc main_call0_v124) = shiftedB1 1 slices_S2x2048x512_S1x2048x512_1_0_0 slices_S2x512_S1x512_1_0 slices_S2x2048_S1x2048_1_0 (V (Proc.devRef .tc main_arg13)) (V (Proc.devRef .tc main_arg12)) (V (Proc.devRef .tc main_arg11)) from by
      after_results
      rfl]
    exact shiftedB1_read H.b1 H.w1 H.lnb
  w2 := by
    rw [show StableHlo.after hostOps1 V (Proc.devRef .tc main_call0_v127) = plain 1 slices_S2x512x2048_S1x512x2048_1_0_0 shapeCasts_S1x512x2048_S512x2048 (V (Proc.devRef .tc main_arg14)) from by
      after_results
      rfl]
    exact plain_read H.w2
  b2 := by
    rw [show StableHlo.after hostOps1 V (Proc.devRef .tc main_call0_v130) = rowB2 1 slices_S2x512_S1x512_1_0 (V (Proc.devRef .tc main_arg15)) from by
      after_results
      rfl]
    exact rowB2_read H.b2

/-! ## The regions -/

variable {m : (ℓ : Loc nD τ sig) → Buf (Elt Ideal) ℓ} {ρ : Dev nD → PrngReg} {A : Arr} {c : Dev nD}

/-- Where each window of region 0 lies at a point. -/
theorem at0w : ∀ t : Fin grid0.N, win0_0.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0, 0] := by decide +kernel

/-- Where each window of region 1 lies at a point. -/
theorem at1w : ∀ t : Fin grid1.N, win1_0.index t = ![t.val, 0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] ∧ win1_8.index t = ![0, 0] ∧ win1_9.index t = ![0, 0] ∧ win1_10.index t = ![0, 0] ∧ win1_11.index t = ![0, 0] ∧ win1_12.index t = ![t.val, 0, 0] := by decide +kernel

/-- Region 0's weight windows are their arrays, at every point. -/
theorem blocks0 {p : Par} {V : (c : Dev nD) → (b : Ref sig .tc) → Buf (Elt Ideal) ((c : Thread nD τ).loc b)} (t : Fin cfg0.N)
    (h : Folded p (V c main_call0_v9) (V c main_call0_v17) (V c main_call0_v25) (V c main_call0_v33) (V c main_call0_v36) (V c main_call0_v39) (V c main_call0_v42) (V c main_call0_v50) (V c main_call0_v59) (V c main_call0_v62) (V c main_call0_v65)) :
    Folded p (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by
  obtain ⟨i0,i1,i2,i3,i4,i5,i6,i7,i8,i9,i10,i11,i12,i13⟩ := at0w t
  exact {
    q := fun y => by
      blk_simp [iblk0]
      refine (h.q _).trans ?_
      blk_simp [i2]
    k := fun y => by
      blk_simp [iblk0]
      refine (h.k _).trans ?_
      blk_simp [i3]
    v := fun y => by
      blk_simp [iblk0]
      refine (h.v _).trans ?_
      blk_simp [i4]
    g := fun y => by
      blk_simp [iblk0]
      refine (h.g _).trans ?_
      blk_simp [i5]
    kc := fun y => by
      blk_simp [iblk0]
      refine (h.kc _).trans ?_
      blk_simp [i6]
    vc := fun y => by
      blk_simp [iblk0]
      refine (h.vc _).trans ?_
      blk_simp [i7]
    o := fun y => by
      blk_simp [iblk0]
      refine (h.o _).trans ?_
      blk_simp [i8]
    w1 := fun y => by
      blk_simp [iblk0]
      refine (h.w1 _).trans ?_
      blk_simp [i9]
    b1 := fun y => by
      blk_simp [iblk0]
      refine (h.b1 _).trans ?_
      blk_simp [i10]
    w2 := fun y => by
      blk_simp [iblk0]
      refine (h.w2 _).trans ?_
      blk_simp [i11]
    b2 := fun y => by
      blk_simp [iblk0]
      refine (h.b2 _).trans ?_
      blk_simp [i12]
  }

/-- Region 1's weight windows are their arrays, at every point. -/
theorem blocks1 {p : Par} {V : (c : Dev nD) → (b : Ref sig .tc) → Buf (Elt Ideal) ((c : Thread nD τ).loc b)} (t : Fin cfg1.N)
    (h : Folded p (V c main_call0_v74) (V c main_call0_v82) (V c main_call0_v90) (V c main_call0_v98) (V c main_call0_v101) (V c main_call0_v104) (V c main_call0_v107) (V c main_call0_v115) (V c main_call0_v124) (V c main_call0_v127) (V c main_call0_v130)) :
    Folded p (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by
  obtain ⟨i0,i1,i2,i3,i4,i5,i6,i7,i8,i9,i10,i11,i12⟩ := at1w t
  exact {
    q := fun y => by
      blk_simp [iblk1]
      refine (h.q _).trans ?_
      blk_simp [i1]
    k := fun y => by
      blk_simp [iblk1]
      refine (h.k _).trans ?_
      blk_simp [i2]
    v := fun y => by
      blk_simp [iblk1]
      refine (h.v _).trans ?_
      blk_simp [i3]
    g := fun y => by
      blk_simp [iblk1]
      refine (h.g _).trans ?_
      blk_simp [i4]
    kc := fun y => by
      blk_simp [iblk1]
      refine (h.kc _).trans ?_
      blk_simp [i5]
    vc := fun y => by
      blk_simp [iblk1]
      refine (h.vc _).trans ?_
      blk_simp [i6]
    o := fun y => by
      blk_simp [iblk1]
      refine (h.o _).trans ?_
      blk_simp [i7]
    w1 := fun y => by
      blk_simp [iblk1]
      refine (h.w1 _).trans ?_
      blk_simp [i8]
    b1 := fun y => by
      blk_simp [iblk1]
      refine (h.b1 _).trans ?_
      blk_simp [i9]
    w2 := fun y => by
      blk_simp [iblk1]
      refine (h.w2 _).trans ?_
      blk_simp [i10]
    b2 := fun y => by
      blk_simp [iblk1]
      refine (h.b2 _).trans ?_
      blk_simp [i11]
  }

/-- The first region's tokens. -/
theorem tok_read {V : (c : Dev nD) → (b : Ref sig .tc) → Buf (Elt Ideal) ((c : Thread nD τ).loc b)} {X : ℕ → ℕ → ℕ → ℝ} {P : ℕ → ℝ} (t : Fin cfg0.N)
    (hx : R3 (φ := .f32) (a := 8) (b := 512) (c := 784) (V c main_call0_v0) X) (hp : R2 (φ := .f32) (a := 1) (b := 784) (V c main_call0_v1) (fun _ n => P n)) :
    R2 (tok (iblk0 V c 0 t) (iblk0 V c 1 t)) (fun n d => X t.val d n + P n) := by
  obtain ⟨i0, i1, -⟩ := at0w t
  have h0 : R2 (φ := .f32) (a := 512) (b := 784) (shapeCast S512x784 (iblk0 V c 0 t) shapeCasts_S1x512x784_S512x784) (X t.val) := fun j => by
    rw [shapeCast_apply (s := S1x512x784) (iblk0 V c 0 t) shapeCasts_S1x512x784_S512x784 j (ix3 ⟨0, Nat.one_pos⟩ (j 0) (j 1)) (by
      rw [Shape.rowMajor_val_three, Shape.rowMajor_val_two]
      show ((0 * 512 + (j 0).val) * 784 + (j 1).val) = (j 0).val * 784 + (j 1).val
      rw [Nat.zero_mul, Nat.zero_add])]
    blk_simp [iblk0]
    refine (hx _).trans ?_
    blk_simp [i0]
  have h1 : R2 (φ := .f32) (a := 1) (b := 784) (iblk0 V c 1 t) (fun _ n => P n) := fun y => by
    blk_simp [iblk0]
    refine (hp _).trans ?_
    blk_simp [i1]
  exact (h0.add ((h1.cast _).spreadRow _)).transp _

theorem W0_held (H : HeldIn A (W0 m ρ c)) : HeldIn A (W2 m ρ c) := by
  have e : ∀ a ∈ argRefs, W2 m ρ c (Proc.devRef .tc a) = W0 m ρ c (Proc.devRef .tc a) := W2_args m ρ c
  have q := H
  unfold HeldIn at q ⊢
  rw [e main_arg0 (by decide), e main_arg1 (by decide), e main_arg2 (by decide), e main_arg3 (by decide), e main_arg4 (by decide),
    e main_arg5 (by decide), e main_arg6 (by decide), e main_arg7 (by decide), e main_arg8 (by decide), e main_arg9 (by decide),
    e main_arg10 (by decide), e main_arg11 (by decide), e main_arg12 (by decide), e main_arg13 (by decide), e main_arg14 (by decide),
    e main_arg15 (by decide)]
  exact q

/-- The image tensor the first region reads. -/
theorem v0_read {V : Valuation τ sig (Elt Ideal)} (H : HeldIn A V) :
    R3 (φ := .f32) (a := 8) (b := 512) (c := 784) (StableHlo.after hostOps0 V (Proc.devRef .tc main_call0_v0)) (fun b c n => A.x b c (n / 28) (n % 28)) := fun j => by
  have j2 : (j 2).val < 784 := (j 2).isLt
  rw [show StableHlo.after hostOps0 V (Proc.devRef .tc main_call0_v0)
    = shapeCast S8x512x784 (V (Proc.devRef .tc main_arg0)) shapeCasts_S8x512x28x28_S8x512x784 from by
      after_results
      rfl]
  rw [shapeCast_apply (s := S8x512x28x28) (V (Proc.devRef .tc main_arg0)) shapeCasts_S8x512x28x28_S8x512x784 j
    (ix4 (j 0) (j 1) ⟨(j 2).val / 28, by omega⟩ ⟨(j 2).val % 28, by omega⟩) (by
      rw [Shape.rowMajor_val_four, Shape.rowMajor_val_three]
      show (((j 0).val * 512 + (j 1).val) * 28 + (j 2).val / 28) * 28 + (j 2).val % 28 = ((j 0).val * 512 + (j 1).val) * 784 + (j 2).val
      omega)]
  exact H.x _

/-- The positions the first region reads. -/
theorem v1_read {V : Valuation τ sig (Elt Ideal)} (H : HeldIn A V) :
    R2 (φ := .f32) (a := 1) (b := 784) (StableHlo.after hostOps0 V (Proc.devRef .tc main_call0_v1)) (fun _ n => A.pos n) := by
  rw [show StableHlo.after hostOps0 V (Proc.devRef .tc main_call0_v1) = shapeCast S1x784 (V (Proc.devRef .tc main_arg1)) shapeCasts_S784_S1x784 from by
      after_results
      rfl]
  exact H.pos.toRow _

/-- The first region's array: the first layer of every image's tokens. -/
theorem arr0 (H : HeldIn A (W0 m ρ c)) : (dat0 (V1 m ρ) c).arrAt 13 cfg0.N
    = (fun i : S8x784x512.Idx => ((layer (A.par 0) (A.tok (i 0).val) (i 1).val (i 2).val : ℝ) : EReal)) := by
  refine (dat0 (V1 m ρ) c).arrAt_eq_of_covers 13 _ (by decide +kernel) fun t hf y => ?_
  have B := body_read (tok_read (V := V1 m ρ) (c := c) t (v0_read H) (v1_read H)) (blocks0 (V := V1 m ρ) (c := c) t (prep0 H))
  blk_simp
  rw [after0_13, out0_eq]
  rw [shapeCast_apply (s := S784x512) _ shapeCasts_S784x512_S1x784x512 y (ix2 (y 1) (y 2)) (by
      have y0 : (y 0).val < 1 := (y 0).isLt
      rw [Shape.rowMajor_val_three, Shape.rowMajor_val_two]
      show (y 1).val * 512 + (y 2).val = ((y 0).val * 784 + (y 1).val) * 512 + (y 2).val
      rw [show (y 0).val = 0 by omega, Nat.zero_mul, Nat.zero_add]), B]
  have i13 : win0_13.index t = ![t.val, 0, 0] := (at0w t).2.2.2.2.2.2.2.2.2.2.2.2.2
  have y0 : (y 0).val < 1 := (y 0).isLt
  blk_simp [i13]
  rfl

/-- The second region's tokens. -/
theorem tok1_read {V : (c : Dev nD) → (b : Ref sig .tc) → Buf (Elt Ideal) ((c : Thread nD τ).loc b)} {X : ℕ → ℕ → ℕ → ℝ} (t : Fin cfg1.N)
    (hx : R3 (φ := .f32) (a := 8) (b := 784) (c := 512) (V c main_call0_v66) X) :
    R2 (φ := .f32) (a := 784) (b := 512) (shapeCast S784x512 (iblk1 V c 0 t) shapeCasts_S1x784x512_S784x512) (X t.val) := fun j => by
  have i0 := (at1w t).1
  rw [shapeCast_apply (s := S1x784x512) (iblk1 V c 0 t) shapeCasts_S1x784x512_S784x512 j (ix3 ⟨0, Nat.one_pos⟩ (j 0) (j 1)) (by
    rw [Shape.rowMajor_val_three, Shape.rowMajor_val_two]
    show ((0 * 784 + (j 0).val) * 512 + (j 1).val) = (j 0).val * 512 + (j 1).val
    rw [Nat.zero_mul, Nat.zero_add])]
  blk_simp [iblk1]
  refine (hx _).trans ?_
  blk_simp [i0]

/-- Between the regions the first one's array is kept. -/
theorem v66_read (H : HeldIn A (W0 m ρ c)) : R3 (φ := .f32) (a := 8) (b := 784) (c := 512) (V3 m ρ c main_call0_v66)
    (fun b n d => layer (A.par 0) (A.tok b) n d) := fun j => by
  have e : V3 m ρ c main_call0_v66 = (dat0 (V1 m ρ) c).arrAt 13 cfg0.N :=
    (W3_of m ρ c main_call0_v66 (by decide)).trans (W2_arr m ρ c 13)
  rw [e, arr0 H]

/-- The second region's array: both layers of every image's tokens, channels first. -/
theorem arr1 (H : HeldIn A (W0 m ρ c)) : (dat1 (V3 m ρ) c).arrAt 12 cfg1.N
    = (fun i : S8x512x784.Idx => ((layer (A.par 1) (layer (A.par 0) (A.tok (i 0).val)) (i 2).val (i 1).val : ℝ) : EReal)) := by
  refine (dat1 (V3 m ρ) c).arrAt_eq_of_covers 12 _ (by decide +kernel) fun t hf y => ?_
  have B := (body_read (tok1_read (V := V3 m ρ) (c := c) t (v66_read H)) (blocks1 (V := V3 m ρ) (c := c) t (prep1 (W0_held H)))).transp
    transposes_S784x512_p1_0_S512x784
  blk_simp
  rw [after1_12, out1_eq]
  rw [shapeCast_apply (s := S512x784) _ shapeCasts_S512x784_S1x512x784 y (ix2 (y 1) (y 2)) (by
      have y0 : (y 0).val < 1 := (y 0).isLt
      rw [Shape.rowMajor_val_three, Shape.rowMajor_val_two]
      show (y 1).val * 784 + (y 2).val = ((y 0).val * 512 + (y 1).val) * 784 + (y 2).val
      rw [show (y 0).val = 0 by omega, Nat.zero_mul, Nat.zero_add]), B]
  have i12 : win1_12.index t = ![t.val, 0, 0] := (at1w t).2.2.2.2.2.2.2.2.2.2.2.2
  have y0 : (y 0).val < 1 := (y 0).isLt
  blk_simp [i12]

/-- The program's result on real arguments: both layers of every image, at every channel and pixel. -/
theorem result_read (H : HeldIn A (W0 m ρ c)) : R4 (φ := .f32) (a := 8) (b := 512) (c := 28) (d := 28) (W5 m ρ c (Proc.devRef .tc main_v0))
    (fun b ch h w => layer (A.par 1) (layer (A.par 0) (A.tok b)) (28 * h + w) ch) := fun j => by
  have j2 : (j 2).val < 28 := (j 2).isLt
  have j3 : (j 3).val < 28 := (j 3).isLt
  have e : W5 m ρ c (Proc.devRef .tc main_v0) = shapeCast S8x512x28x28 (W4 m ρ c (Proc.devRef .tc main_call0_v131)) shapeCasts_S8x512x784_S8x512x28x28 := by
    show StableHlo.after hostOps2 (W4 m ρ c) (Proc.devRef .tc main_v0) = _
    after_results
    rfl
  have e' : W4 m ρ c (Proc.devRef .tc main_call0_v131) = (dat1 (V3 m ρ) c).arrAt 12 cfg1.N := W4_arr m ρ c 12
  rw [e, e', arr1 H, shapeCast_apply (s := S8x512x784) _ shapeCasts_S8x512x784_S8x512x28x28 j
    (ix3 (j 0) (j 1) ⟨28 * (j 2).val + (j 3).val, by omega⟩) (by
      rw [Shape.rowMajor_val_four, Shape.rowMajor_val_three]
      show ((j 0).val * 512 + (j 1).val) * 784 + (28 * (j 2).val + (j 3).val) = (((j 0).val * 512 + (j 1).val) * 28 + (j 2).val) * 28 + (j 3).val
      omega)]

end Cert.Layer

end
-- ==== Proof.RefTwo.lean ====
/- One layer of the reference as a function of an image and the layer's weights: both layers are this function. -/
module

public import proofs.«01_k».proof.Proof.Gen.ReferenceIdeal.Read
public import proofs.«01_k».proof.Proof.Prep

@[expose] public section

noncomputable section

namespace Cert.Ref

open Cert.ReferenceIdeal Cert.ReferenceIdeal.Gen Cert.ReferenceIdeal.Read Idealize.ShloMosaic Idealize.ShloMosaic.TcCoe Idealize.SL.Sem Idealize.ShloMosaic.StableHlo

/-- The tokens of an image. -/
def toks (y : FVec Ideal S8x512x28x28 .f32) : FVec Ideal S8x784x512 .f32 :=
  transpose S8x784x512 [0, 2, 1] (shapeCast _ y shapeCasts_S8x512x28x28_S8x512x784) transposes_S8x512x784_S8x784x512_0_2_1

/-- The root-mean-square normalisation. -/
def norm (t : FVec Ideal S8x784x512 .f32) (g : FVec Ideal S512 .f32) : FVec Ideal S8x784x512 .f32 :=
  let v23 := broadcastInDim S8x784x1 ![0, 1] bcast_S8x784_S8x784x1_0_1 (Host.reduceAdd (mulf t t) (constant (F := Ideal) S_ .f32 0x00000000#32) reducesTo_S8x784x512_S8x784_d2 h_S_)
  let v27 := addf (Host.divf v23 (broadcastInDim S8x784x1 ![] bcast_S_S8x784x1 (constant (F := Ideal) S_ .f32 0x44000000#32))) (broadcastInDim S8x784x1 ![] bcast_S_S8x784x1 (constant (F := Ideal) S_ .f32 0x358637BD#32))
  let v32 := broadcastInDim S8x784x512 ![0, 1, 2] bcast_S1x1x512_S8x784x512_0_1_2 (broadcastInDim S1x1x512 ![2] bcast_S512_S1x1x512_2 g)
  mulf (mulf t (broadcastInDim S8x784x512 ![0, 1, 2] bcast_S8x784x1_S8x784x512_0_1_2 (Host.rsqrt v27))) v32

/-- A projection split into heads. -/
def heads (x : FVec Ideal S8x784x512 .f32) (w : FVec Ideal S512x512 .f32) : FVec Ideal S8x8x784x64 .f32 :=
  let v35 := shapeCast _ (Host.dotGeneral dot_S8x784x512_S512x512_S8x784x512_2_0_01_1_n_n none x w) shapeCasts_S8x784x512_S8x784x8x64
  transpose S8x8x784x64 [0, 2, 1, 3] v35 transposes_S8x784x8x64_S8x8x784x64_0_2_1_3

/-- The means of the three windows of rows. -/
def winMean (k : FVec Ideal S8x8x784x64 .f32) : FVec Ideal S8x8x3x64 .f32 :=
  let v46 := muli (broadcastInDim S3x1 ![0] bcast_S3_S3x1_0 (iotaInDim S3 32 0)) (broadcastInDim S3x1 ![] bcast_S_S3x1 (constantI S_ 32 196#32))
  let v50 := broadcastInDim S3x392 ![0, 1] bcast_S1x392_S3x392_0_1 (broadcastInDim S1x392 ![1] bcast_S392_S1x392_1 (iotaInDim S392 32 0))
  let v51 := addi (broadcastInDim S3x392 ![0, 1] bcast_S3x1_S3x392_0_1 v46) v50
  let c0v4 := select (cmpi .slt v51 (broadcastInDim S3x392 ![] bcast_S_S3x392 (constantI S_ 32 0#32))) (addi v51 (broadcastInDim S3x392 ![] bcast_S_S3x392 (constantI S_ 32 784#32))) v51
  let c0v5 := broadcastInDim S3x392x1 ![0, 1] bcast_S3x392_S3x392x1_0_1 c0v4
  let c0v9 := broadcastInDim S3x392x1 ![0, 1, 2] bcast_S1x1x1_S3x392x1_0_1_2 (broadcastInDim S1x1x1 ![2] bcast_S1_S1x1x1_2 (constantI S1 32 783#32))
  let c0v11 := andi (cmpi .sge c0v5 (broadcastInDim S3x392x1 ![] bcast_S_S3x392x1 (constantI S_ 32 0#32))) (cmpi .sle c0v5 c0v9)
  let c0v14 := broadcastInDim S8x8x3x392x64 ![2, 3] bcast_S3x392_S8x8x3x392x64_2_3 (Host.reduce IntOp.andi c0v11 (constantI S_ 1 1#1) reducesTo_S3x392x1_S3x392_d2 h_S_)
  let v52 := select c0v14 (Host.gather gather_S8x8x784x64_S3x392x1_S8x8x3x392x64_014_2_n_n_2_2_88164 k c0v5) (broadcastInDim S8x8x3x392x64 ![] bcast_S_S8x8x3x392x64 (constant (F := Ideal) S_ .f32 0x7FC00000#32))
  Host.divf (Host.reduceAdd v52 (constant (F := Ideal) S_ .f32 0x00000000#32) reducesTo_S8x8x3x392x64_S8x8x3x64_d3 h_S_) (broadcastInDim S8x8x3x64 ![] bcast_S_S8x8x3x64 (constant (F := Ideal) S_ .f32 0x43C40000#32))

/-- A compression of the window means. -/
def comp (p : FVec Ideal S8x8x3x64 .f32) (w : FVec Ideal S64x64 .f32) : FVec Ideal S8x8x3x64 .f32 :=
  Host.dotGeneral dot_S8x8x3x64_S64x64_S8x8x3x64_3_0_012_1_n_n none p w

/-- Attention to the compressed rows. -/
def pooled (q : FVec Ideal S8x8x784x64 .f32) (kc : FVec Ideal S8x8x3x64 .f32) (vc : FVec Ideal S8x8x3x64 .f32) : FVec Ideal S8x8x784x64 .f32 :=
  let v64 := mulf (Host.dotGeneral dot_S8x8x784x64_S8x8x3x64_S8x8x784x3_3_3_2_2_01_01 none q kc) (broadcastInDim S8x8x784x3 ![] bcast_S_S8x8x784x3 (constant (F := Ideal) S_ .f32 0x3E000000#32))
  let v65 := Host.reduce FloatOps.maximumf v64 (constant (F := Ideal) S_ .f32 0xFF800000#32) reducesTo_S8x8x784x3_S8x8x784_d3 h_S_
  let v68 := broadcastInDim S8x8x784x1 ![0, 1, 2] bcast_S8x8x784_S8x8x784x1_0_1_2 (maximumf (broadcastInDim S8x8x784 ![] bcast_S_S8x8x784 (constant (F := Ideal) S_ .f32 0xFF800000#32)) v65)
  let v71 := Host.exp (subf v64 (broadcastInDim S8x8x784x3 ![0, 1, 2, 3] bcast_S8x8x784x1_S8x8x784x3_0_1_2_3 v68))
  let v73 := broadcastInDim S8x8x784x1 ![0, 1, 2] bcast_S8x8x784_S8x8x784x1_0_1_2 (Host.reduceAdd v71 (constant (F := Ideal) S_ .f32 0x00000000#32) reducesTo_S8x8x784x3_S8x8x784_d3 h_S_)
  Host.dotGeneral dot_S8x8x784x3_S8x8x3x64_S8x8x784x64_3_2_2_3_01_01 none (Host.divf v71 (broadcastInDim S8x8x784x3 ![0, 1, 2, 3] bcast_S8x8x784x1_S8x8x784x3_0_1_2_3 v73)) vc

/-- The scores. -/
def sim (q : FVec Ideal S8x8x784x64 .f32) (k : FVec Ideal S8x8x784x64 .f32) : FVec Ideal S8x8x784x784 .f32 :=
  mulf (Host.dotGeneral dot_S8x8x784x64_S8x8x784x64_S8x8x784x784_3_3_2_2_01_01 none q k) (broadcastInDim S8x8x784x784 ![] bcast_S_S8x8x784x784 (constant (F := Ideal) S_ .f32 0x3E000000#32))

/-- The half a row selects. -/
def pick (q : FVec Ideal S8x8x784x64 .f32) (k : FVec Ideal S8x8x784x64 .f32) : IVec S8x8x784 32 :=
  let v81 := Host.reduceAdd (shapeCast _ k shapeCasts_S8x8x784x64_S8x8x2x392x64) (constant (F := Ideal) S_ .f32 0x00000000#32) reducesTo_S8x8x2x392x64_S8x8x2x64_d3 h_S_
  let v84 := Host.dotGeneral dot_S8x8x784x64_S8x8x2x64_S8x8x784x2_3_3_2_2_01_01 none q (Host.divf v81 (broadcastInDim S8x8x2x64 ![] bcast_S_S8x8x2x64 (constant (F := Ideal) S_ .f32 0x43C40000#32)))
  let v85 := Host.reduce FloatOps.maximumf v84 (constant (F := Ideal) S_ .f32 0xFF800000#32) reducesTo_S8x8x784x2_S8x8x784_d3 h_S_
  let v87 := broadcastInDim S8x8x784x2 ![0, 1, 2, 3] bcast_S8x8x784x1_S8x8x784x2_0_1_2_3 (broadcastInDim S8x8x784x1 ![0, 1, 2] bcast_S8x8x784_S8x8x784x1_0_1_2 v85)
  let v90 := select (cmpf .oeq v84 v87) (broadcastInDim S8x8x784x2 ![3] bcast_S2_S8x8x784x2_3 (iotaInDim S2 32 0)) (broadcastInDim S8x8x784x2 ![] bcast_S_S8x8x784x2 (id (constantI S_ 32 2#32)))
  Host.reduce IntOp.minsi v90 (constantI S_ 32 2147483647#32) reducesTo_S8x8x784x2_S8x8x784_d3 h_S_

/-- The scores outside the selected half masked. -/
def halfMask (s : FVec Ideal S8x8x784x784 .f32) (p : IVec S8x8x784 32) : FVec Ideal S8x8x784x784 .f32 :=
  let v92 := iotaInDim S784 32 0
  let c3v0 := id (constantI S_ 32 392#32)
  let c3v2 := Host.divsi v92 (broadcastInDim S784 ![] bcast_S_S784 c3v0)
  let c3v10 := cmpi .ne (Host.remsi v92 (broadcastInDim S784 ![] bcast_S_S784 c3v0)) (broadcastInDim S784 ![] bcast_S_S784 (constantI S_ 32 0#32))
  let v93 := select (andi (cmpi .ne (signi v92) (broadcastInDim S784 ![] bcast_S_S784 (signi c3v0))) c3v10) (subi c3v2 (broadcastInDim S784 ![] bcast_S_S784 (constantI S_ 32 1#32))) c3v2
  let v96 := broadcastInDim S8x8x784x784 ![0, 1, 2, 3] bcast_S8x8x784x1_S8x8x784x784_0_1_2_3 (broadcastInDim S8x8x784x1 ![0, 1, 2] bcast_S8x8x784_S8x8x784x1_0_1_2 p)
  let v97 := broadcastInDim S8x8x784x784 ![0, 1, 2, 3] bcast_S1x1x1x784_S8x8x784x784_0_1_2_3 (broadcastInDim S1x1x1x784 ![3] bcast_S784_S1x1x1x784_3 v93)
  select (cmpi .eq v96 v97) s (broadcastInDim S8x8x784x784 ![] bcast_S_S8x8x784x784 (id (constant (F := Ideal) S_ .f32 0xFF800000#32)))

/-- The scores outside the band masked. -/
def bandMask (s : FVec Ideal S8x8x784x784 .f32) : FVec Ideal S8x8x784x784 .f32 :=
  let v112 := iotaInDim S784 32 0
  let v115 := broadcastInDim S784x784 ![0, 1] bcast_S784x1_S784x784_0_1 (broadcastInDim S784x1 ![0] bcast_S784_S784x1_0 v112)
  let v116 := broadcastInDim S784x784 ![0, 1] bcast_S1x784_S784x784_0_1 (broadcastInDim S1x784 ![1] bcast_S784_S1x784_1 v112)
  let v121 := broadcastInDim S1x1x784x784 ![2, 3] bcast_S784x784_S1x1x784x784_2_3 (cmpi .slt (absi (subi v115 v116)) (broadcastInDim S784x784 ![] bcast_S_S784x784 (constantI S_ 32 196#32)))
  select (broadcastInDim S8x8x784x784 ![0, 1, 2, 3] bcast_S1x1x784x784_S8x8x784x784_0_1_2_3 v121) s (broadcastInDim S8x8x784x784 ![] bcast_S_S8x8x784x784 (id (constant (F := Ideal) S_ .f32 0xFF800000#32)))

/-- The softmax of masked scores applied to the values. -/
def soft (s : FVec Ideal S8x8x784x784 .f32) (v : FVec Ideal S8x8x784x64 .f32) : FVec Ideal S8x8x784x64 .f32 :=
  let v100 := Host.reduce FloatOps.maximumf s (constant (F := Ideal) S_ .f32 0xFF800000#32) reducesTo_S8x8x784x784_S8x8x784_d3 h_S_
  let v103 := broadcastInDim S8x8x784x1 ![0, 1, 2] bcast_S8x8x784_S8x8x784x1_0_1_2 (maximumf (broadcastInDim S8x8x784 ![] bcast_S_S8x8x784 (constant (F := Ideal) S_ .f32 0xFF800000#32)) v100)
  let v106 := Host.exp (subf s (broadcastInDim S8x8x784x784 ![0, 1, 2, 3] bcast_S8x8x784x1_S8x8x784x784_0_1_2_3 v103))
  let v108 := broadcastInDim S8x8x784x1 ![0, 1, 2] bcast_S8x8x784_S8x8x784x1_0_1_2 (Host.reduceAdd v106 (constant (F := Ideal) S_ .f32 0x00000000#32) reducesTo_S8x8x784x784_S8x8x784_d3 h_S_)
  Host.dotGeneral dot_S8x8x784x784_S8x8x784x64_S8x8x784x64_3_2_2_3_01_01 none (Host.divf v106 (broadcastInDim S8x8x784x784 ![0, 1, 2, 3] bcast_S8x8x784x1_S8x8x784x784_0_1_2_3 v108)) v

/-- The gates. -/
def gates (x : FVec Ideal S8x784x512 .f32) (w : FVec Ideal S512x24 .f32) : FVec Ideal S8x8x784x3 .f32 :=
  let v139 := addf (broadcastInDim S8x784x24 ![] bcast_S_S8x784x24 (constant (F := Ideal) S_ .f32 0x3F800000#32)) (Host.exp (Host.negf (Host.dotGeneral dot_S8x784x512_S512x24_S8x784x24_2_0_01_1_n_n none x w)))
  let v142 := shapeCast _ (Host.divf (broadcastInDim S8x784x24 ![] bcast_S_S8x784x24 (constant (F := Ideal) S_ .f32 0x3F800000#32)) v139) shapeCasts_S8x784x24_S8x784x8x3
  transpose S8x8x784x3 [0, 2, 1, 3] v142 transposes_S8x784x8x3_S8x8x784x3_0_2_1_3

/-- The three attentions mixed by the gates, and the output projection with its residual, as an image. -/
def mix (g : FVec Ideal S8x8x784x3 .f32) (a : FVec Ideal S8x8x784x64 .f32) (b : FVec Ideal S8x8x784x64 .f32) (c : FVec Ideal S8x8x784x64 .f32) (w : FVec Ideal S512x512 .f32) (t : FVec Ideal S8x784x512 .f32) : FVec Ideal S8x512x28x28 .f32 :=
  let v145 := broadcastInDim S8x8x784x64 ![0, 1, 2, 3] bcast_S8x8x784x1_S8x8x784x64_0_1_2_3 (extractStridedSlice S8x8x784x1 ![0, 0, 0, 0] g slices_S8x8x784x3_S8x8x784x1_0_0_0_0)
  let v148 := broadcastInDim S8x8x784x64 ![0, 1, 2, 3] bcast_S8x8x784x1_S8x8x784x64_0_1_2_3 (extractStridedSlice S8x8x784x1 ![0, 0, 0, 1] g slices_S8x8x784x3_S8x8x784x1_0_0_0_1)
  let v152 := broadcastInDim S8x8x784x64 ![0, 1, 2, 3] bcast_S8x8x784x1_S8x8x784x64_0_1_2_3 (extractStridedSlice S8x8x784x1 ![0, 0, 0, 2] g slices_S8x8x784x3_S8x8x784x1_0_0_0_2)
  let v155 := transpose S8x784x8x64 [0, 2, 1, 3] (addf (addf (mulf v145 a) (mulf v148 b)) (mulf v152 c)) transposes_S8x8x784x64_S8x784x8x64_0_2_1_3
  let v157 := Host.dotGeneral dot_S8x784x512_S512x512_S8x784x512_2_0_01_1_n_n none (shapeCast _ v155 shapeCasts_S8x784x8x64_S8x784x512) w
  shapeCast _ (transpose S8x512x784 [0, 2, 1] (addf v157 t) transposes_S8x784x512_S8x512x784_0_2_1) shapeCasts_S8x512x784_S8x512x28x28

/-- The layer normalisation over channels. -/
def lnorm (y : FVec Ideal S8x512x28x28 .f32) (g : FVec Ideal S512 .f32) (b : FVec Ideal S512 .f32) : FVec Ideal S8x512x28x28 .f32 :=
  let v166 := broadcastInDim S8x1x28x28 ![0, 2, 3] bcast_S8x28x28_S8x1x28x28_0_2_3 (Host.reduceAdd y (constant (F := Ideal) S_ .f32 0x00000000#32) reducesTo_S8x512x28x28_S8x28x28_d1 h_S_)
  let v168 := Host.divf v166 (broadcastInDim S8x1x28x28 ![] bcast_S_S8x1x28x28 (constant (F := Ideal) S_ .f32 0x44000000#32))
  let c6v1 := broadcastInDim S8x1x28x28 ![0, 2, 3] bcast_S8x28x28_S8x1x28x28_0_2_3 (Host.reduceAdd y (constant (F := Ideal) S_ .f32 0x00000000#32) reducesTo_S8x512x28x28_S8x28x28_d1 h_S_)
  let c6v3 := Host.divf c6v1 (broadcastInDim S8x1x28x28 ![] bcast_S_S8x1x28x28 (constant (F := Ideal) S_ .f32 0x44000000#32))
  let c6v5 := subf y (broadcastInDim S8x512x28x28 ![0, 1, 2, 3] bcast_S8x1x28x28_S8x512x28x28_0_1_2_3 c6v3)
  let c6v8 := subf (constant (F := Ideal) S_ .f32 0x44000000#32) (sitofp .f32 (constantI S_ 32 0#32))
  let c6v9 := Host.reduceAdd (mulf c6v5 c6v5) (constant (F := Ideal) S_ .f32 0x00000000#32) reducesTo_S8x512x28x28_S8x28x28_d1 h_S_
  let c6v12 := Host.divf (broadcastInDim S8x1x28x28 ![0, 2, 3] bcast_S8x28x28_S8x1x28x28_0_2_3 c6v9) (broadcastInDim S8x1x28x28 ![] bcast_S_S8x1x28x28 c6v8)
  let v169 := select (broadcastInDim S8x1x28x28 ![] bcast_S_S8x1x28x28 (cmpf .ogt c6v8 (constant (F := Ideal) S_ .f32 0x00000000#32))) c6v12 (broadcastInDim S8x1x28x28 ![] bcast_S_S8x1x28x28 (id (constant (F := Ideal) S_ .f32 0x7FC00000#32)))
  let v174 := Host.sqrt (addf v169 (broadcastInDim S8x1x28x28 ![] bcast_S_S8x1x28x28 (constant (F := Ideal) S_ .f32 0x3727C5AC#32)))
  let v176 := Host.divf (subf y (broadcastInDim S8x512x28x28 ![0, 1, 2, 3] bcast_S8x1x28x28_S8x512x28x28_0_1_2_3 v168)) (broadcastInDim S8x512x28x28 ![0, 1, 2, 3] bcast_S8x1x28x28_S8x512x28x28_0_1_2_3 v174)
  let v178 := broadcastInDim S8x512x28x28 ![0, 1, 2, 3] bcast_S1x512x1x1_S8x512x28x28_0_1_2_3 (broadcastInDim S1x512x1x1 ![1] bcast_S512_S1x512x1x1_1 g)
  let v181 := broadcastInDim S8x512x28x28 ![0, 1, 2, 3] bcast_S1x512x1x1_S8x512x28x28_0_1_2_3 (broadcastInDim S1x512x1x1 ![1] bcast_S512_S1x512x1x1_1 b)
  addf (mulf v176 v178) v181

/-- The feed-forward block. -/
def feed (l : FVec Ideal S8x512x28x28 .f32) (y : FVec Ideal S8x512x28x28 .f32) (w1 : FVec Ideal S2048x512 .f32) (b1 : FVec Ideal S2048 .f32) (w2 : FVec Ideal S512x2048 .f32) (b2 : FVec Ideal S512 .f32) : FVec Ideal S8x512x28x28 .f32 :=
  let v192 := transpose S8x2048x28x28 [1, 0, 2, 3] (Host.dotGeneral dot_S2048x512_S8x512x28x28_S2048x8x28x28_1_1_0_023_n_n none w1 l) transposes_S2048x8x28x28_S8x2048x28x28_1_0_2_3
  let v194 := broadcastInDim S8x2048x28x28 ![0, 1, 2, 3] bcast_S1x2048x1x1_S8x2048x28x28_0_1_2_3 (broadcastInDim S1x2048x1x1 ![1] bcast_S2048_S1x2048x1x1_1 b1)
  let v195 := addf v192 v194
  let v199 := mulf (broadcastInDim S8x2048x28x28 ![] bcast_S_S8x2048x28x28 (constant (F := Ideal) S_ .f32 0x3D372713#32)) (mulf (mulf v195 v195) v195)
  let v202 := mulf (broadcastInDim S8x2048x28x28 ![] bcast_S_S8x2048x28x28 (constant (F := Ideal) S_ .f32 0x3F4C422A#32)) (addf v195 v199)
  let v205 := addf (broadcastInDim S8x2048x28x28 ![] bcast_S_S8x2048x28x28 (constant (F := Ideal) S_ .f32 0x3F800000#32)) (Host.tanh v202)
  let v207 := mulf (broadcastInDim S8x2048x28x28 ![] bcast_S_S8x2048x28x28 (constant (F := Ideal) S_ .f32 0x3F000000#32)) v205
  let v210 := transpose S8x512x28x28 [1, 0, 2, 3] (Host.dotGeneral dot_S512x2048_S8x2048x28x28_S512x8x28x28_1_1_0_023_n_n none w2 (mulf v195 v207)) transposes_S512x8x28x28_S8x512x28x28_1_0_2_3
  let v212 := broadcastInDim S8x512x28x28 ![0, 1, 2, 3] bcast_S1x512x1x1_S8x512x28x28_0_1_2_3 (broadcastInDim S1x512x1x1 ![1] bcast_S512_S1x512x1x1_1 b2)
  addf (addf v210 v212) y

/-- One layer of the reference on an image. -/
def layerOf (y : FVec Ideal S8x512x28x28 .f32) (g : FVec Ideal S512 .f32) (wq wk wv : FVec Ideal S512x512 .f32) (wkc wvc : FVec Ideal S64x64 .f32)
    (wg : FVec Ideal S512x24 .f32) (wo : FVec Ideal S512x512 .f32) (lng lnb : FVec Ideal S512 .f32) (w1 : FVec Ideal S2048x512 .f32)
    (b1 : FVec Ideal S2048 .f32) (w2 : FVec Ideal S512x2048 .f32) (b2 : FVec Ideal S512 .f32) : FVec Ideal S8x512x28x28 .f32 :=
  let t := toks y
  let x := norm t g
  let q := heads x wq
  let k := heads x wk
  let v := heads x wv
  let s := sim q k
  let r := mix (gates x wg) (pooled q (comp (winMean k) wkc) (comp (winMean v) wvc)) (soft (halfMask s (pick q k)) v) (soft (bandMask s) v) wo t
  feed (lnorm r lng lnb) r w1 b1 w2 b2

theorem first_layer (x0 : FVec Ideal S8x512x28x28 .f32) (x1 : FVec Ideal S784 .f32) (x2 : FVec Ideal S2x512 .f32) (x3 x4 x5 : FVec Ideal S2x512x512 .f32)
    (x6 x7 : FVec Ideal S2x64x64 .f32) (x8 : FVec Ideal S2x512x24 .f32) (x9 : FVec Ideal S2x512x512 .f32) (x10 x11 : FVec Ideal S2x512 .f32)
    (x12 : FVec Ideal S2x2048x512 .f32) (x13 : FVec Ideal S2x2048 .f32) (x14 : FVec Ideal S2x512x2048 .f32) (x15 : FVec Ideal S2x512 .f32) :
    val_main_v214 (F := Ideal) x0 x1 x2 x3 x4 x5 x6 x7 x8 x9 x10 x11 x12 x13 x14 x15 = layerOf (val_main_v2 (F := Ideal) x0 x1) (val_main_v6 (F := Ideal) x2) (val_main_v8 (F := Ideal) x3) (val_main_v10 (F := Ideal) x4) (val_main_v12 (F := Ideal) x5) (val_main_v14 (F := Ideal) x6) (val_main_v16 (F := Ideal) x7) (val_main_v18 (F := Ideal) x8) (val_main_v20 (F := Ideal) x9) (val_main_v162 (F := Ideal) x10) (val_main_v164 (F := Ideal) x11) (val_main_v184 (F := Ideal) x12) (val_main_v186 (F := Ideal) x13) (val_main_v188 (F := Ideal) x14) (val_main_v190 (F := Ideal) x15) := rfl

theorem second_layer (x0 : FVec Ideal S8x512x28x28 .f32) (x1 : FVec Ideal S784 .f32) (x2 : FVec Ideal S2x512 .f32) (x3 x4 x5 : FVec Ideal S2x512x512 .f32)
    (x6 x7 : FVec Ideal S2x64x64 .f32) (x8 : FVec Ideal S2x512x24 .f32) (x9 : FVec Ideal S2x512x512 .f32) (x10 x11 : FVec Ideal S2x512 .f32)
    (x12 : FVec Ideal S2x2048x512 .f32) (x13 : FVec Ideal S2x2048 .f32) (x14 : FVec Ideal S2x512x2048 .f32) (x15 : FVec Ideal S2x512 .f32) :
    val_main_v426 (F := Ideal) x0 x1 x2 x3 x4 x5 x6 x7 x8 x9 x10 x11 x12 x13 x14 x15 = layerOf (val_main_v214 (F := Ideal) x0 x1 x2 x3 x4 x5 x6 x7 x8 x9 x10 x11 x12 x13 x14 x15) (val_main_v218 (F := Ideal) x2) (val_main_v220 (F := Ideal) x3) (val_main_v222 (F := Ideal) x4) (val_main_v224 (F := Ideal) x5) (val_main_v226 (F := Ideal) x6) (val_main_v228 (F := Ideal) x7) (val_main_v230 (F := Ideal) x8) (val_main_v232 (F := Ideal) x9) (val_main_v374 (F := Ideal) x10) (val_main_v376 (F := Ideal) x11) (val_main_v396 (F := Ideal) x12) (val_main_v398 (F := Ideal) x13) (val_main_v400 (F := Ideal) x14) (val_main_v402 (F := Ideal) x15) := rfl

end Cert.Ref

end
-- ==== Proof.RefHelp.lean ====
/- What the reference's reductions, softmaxes, integer indices and gather are on reals: facts with no program in them. -/
module

public import proofs.«01_k».proof.Proof.BodyRead
public import proofs.«01_k».proof.Proof.Gen.ReferenceIdeal.Read

@[expose] public section

noncomputable section

namespace Cert.Ref

open Idealize.ShloMosaic Idealize.ShloMosaic.ValueIdx Cert.Kit Cert.Spec Cert.Layer Finset

/-! ## Softmax rows -/

/-- The maximum of a row whose entries are reals or masked, one of them not masked, is a real. -/
theorem max_real {n : ℕ} (t : ℕ → ℝ) (w : ℕ → Prop) [DecidablePred w] (k : Fin n) (hk : w k.val) (s : Fin n → EReal)
    (hs : ∀ k, s k = if w k.val then ((t k.val : ℝ) : EReal) else ⊥) :
    ∃ M : ℝ, max ⊥ ((univ : Finset (Fin n)).fold max ⊥ s) = (M : EReal) := by
  have e : (univ : Finset (Fin n)).fold max ⊥ s = univ.sup s := rfl
  rw [e, max_eq_right bot_le]
  refine ⟨(univ.sup s).toReal, (EReal.coe_toReal (ne_of_lt ((Finset.sup_lt_iff bot_lt_top).2 fun m _ => ?_)) ?_).symm⟩
  · rw [hs]
    split
    · exact EReal.coe_lt_top _
    · exact bot_lt_top
  · refine ne_of_gt (lt_of_lt_of_le ?_ (Finset.le_sup (Finset.mem_univ k)))
    rw [hs, if_pos hk]
    exact EReal.bot_lt_coe _

/-- A softmax row applied to values: the maximum taken off cancels. -/
theorem soft_row {n : ℕ} (t v : ℕ → ℝ) (w : ℕ → Prop) [DecidablePred w] (k : Fin n) (hk : w k.val) (s V : Fin n → EReal)
    (hs : ∀ k, s k = if w k.val then ((t k.val : ℝ) : EReal) else ⊥) (hV : ∀ k, V k = ((v k.val : ℝ) : EReal)) (M : ℝ) :
    ∑ k, Ideal.div (Ideal.exp (s k - (M : EReal))) (((0 : ℝ) : EReal) + ∑ m, Ideal.exp (s m - (M : EReal))) * V k
      = ((sav n t (fun m => one (w m)) v : ℝ) : EReal) := by
  have he : ∀ k, Ideal.exp (s k - (M : EReal)) = ((Real.exp (t k.val) * one (w k.val) * Real.exp (-M) : ℝ) : EReal) := by
    intro k
    rw [hs]
    by_cases h : w k.val
    · rw [if_pos h, one_true h, ← EReal.coe_sub, mul_one, ← Real.exp_add]
      rfl
    · rw [if_neg h, one_false h, mul_zero, zero_mul, EReal.bot_sub]
      rfl
  have hp : 0 < ∑ m ∈ range n, Real.exp (t m) * one (w m) := den_pos t _ (fun _ => one_nonneg _) k.val k.isLt (one_true hk)
  have hd : ((0 : ℝ) : EReal) + ∑ m, Ideal.exp (s m - (M : EReal))
      = (((∑ m ∈ range n, Real.exp (t m) * one (w m)) * Real.exp (-M) : ℝ) : EReal) := by
    rw [sum_real (fun m => Real.exp (t m) * one (w m) * Real.exp (-M)) he, ← EReal.coe_add, zero_add, Finset.sum_mul]
  have hq : (∑ m ∈ range n, Real.exp (t m) * one (w m)) * Real.exp (-M) ≠ 0 := (mul_pos hp (Real.exp_pos _)).ne'
  rw [hd, sum_real (fun k => Real.exp (t k) * one (w k) * Real.exp (-M) / ((∑ m ∈ range n, Real.exp (t m) * one (w m)) * Real.exp (-M)) * v k)]
  · unfold sav
    rw [Finset.sum_div]
    congr 1
    refine Finset.sum_congr rfl fun k _ => ?_
    rw [mul_div_mul_right _ _ (Real.exp_pos (-M)).ne', div_mul_eq_mul_div]
  · intro k
    rw [he, hV, div_real hq, ← EReal.coe_mul]

/-! ## The larger of two -/

theorem max_two (a b : ℝ) (s : Fin 2 → EReal) (h0 : s 0 = (a : EReal)) (h1 : s 1 = (b : EReal)) :
    (univ : Finset (Fin 2)).fold max ⊥ s = ((max a b : ℝ) : EReal) := by
  have e : (univ : Finset (Fin 2)).fold max ⊥ s = univ.sup s := rfl
  rw [e, show (univ : Finset (Fin 2)) = {0, 1} from rfl, Finset.sup_insert, Finset.sup_singleton, h0, h1]
  exact (EReal.coe_strictMono.monotone.map_max (a := a) (b := b)).symm

/-- The first of two places whose value is the maximum. -/
theorem first_max (a b : ℝ) (f : Fin 2 → BitVec 32)
    (h : ∀ k : Fin 2, f k = Scalar.select (BitVec.ofBool (decide ((if k.val = 0 then a else b) = max a b))) (BitVec.ofNat 32 k.val) 2#32) :
    (univ : Finset (Fin 2)).fold IntOp.minsi 2147483647#32 f = BitVec.ofNat 32 (if a < b then 1 else 0) := by
  rw [show (univ : Finset (Fin 2)) = insert 0 {1} from rfl, Finset.fold_insert (by decide), Finset.fold_singleton, h, h]
  simp only [select_ofBool]
  by_cases c : a < b
  · have h1 : ¬ a = max a b := by rw [max_eq_right c.le]; exact c.ne
    simp [c, max_eq_right c.le, c.ne]
    decide
  · have h1 : max a b = a := max_eq_left (not_lt.1 c)
    simp only [h1, if_neg c]
    by_cases d : b = a
    · simp [d]; decide
    · simp [d]; decide

/-- The word of `m / 392` as a floor division spells it. -/
theorem floor_word : ∀ m : Fin 784,
    Scalar.select (IntOp.andi
        (IntOp.cmpi .ne (if BitVec.ofNat 32 m.val = 0 then (0 : BitVec 32) else if (BitVec.ofNat 32 m.val).msb then -1 else 1)
          (if (392#32 : BitVec 32) = 0 then (0 : BitVec 32) else if (392#32 : BitVec 32).msb then -1 else 1))
        (IntOp.cmpi .ne (IntOp.remsi .host (BitVec.ofNat 32 m.val) 392#32) 0#32))
      (IntOp.subi (IntOp.divsi .host (BitVec.ofNat 32 m.val) 392#32) 1#32) (IntOp.divsi .host (BitVec.ofNat 32 m.val) 392#32)
      = BitVec.ofNat 32 (m.val / 392) := by decide +kernel

theorem half_word : ∀ m : Fin 784, IntOp.cmpi .eq (1#32 : BitVec 32) (BitVec.ofNat 32 (m.val / 392)) = BitVec.ofBool (decide (392 ≤ m.val)) := by
  decide +kernel

theorem half_word' : ∀ m : Fin 784, IntOp.cmpi .eq (0#32 : BitVec 32) (BitVec.ofNat 32 (m.val / 392)) = BitVec.ofBool (decide (m.val < 392)) := by
  decide +kernel

open Classical in
theorem sel_word (Q K : Mat) (h n m : ℕ) (hm : m < 784) :
    IntOp.cmpi .eq (BitVec.ofNat 32 (if im Q K h n 0 < im Q K h n 1 then 1 else 0)) (BitVec.ofNat 32 (m / 392))
      = BitVec.ofBool (decide (Sel Q K h n m)) := by
  by_cases c : im Q K h n 0 < im Q K h n 1
  · rw [if_pos c, half_word ⟨m, hm⟩]
    congr 1
    exact decide_eq_decide.2 (by unfold Sel; rw [if_pos c])
  · rw [if_neg c, half_word' ⟨m, hm⟩]
    congr 1
    exact decide_eq_decide.2 (by unfold Sel; rw [if_neg c])

/-! ## Windows of rows -/

/-- The word of the row that place `r` of window `c` holds, wrapped as a negative index would be. -/
def winWord (c r : ℕ) : BitVec 32 :=
  Scalar.select (IntOp.cmpi .slt (IntOp.addi (IntOp.muli (BitVec.ofNat 32 c) 196#32) (BitVec.ofNat 32 r)) 0#32)
    (IntOp.addi (IntOp.addi (IntOp.muli (BitVec.ofNat 32 c) 196#32) (BitVec.ofNat 32 r)) 784#32)
    (IntOp.addi (IntOp.muli (BitVec.ofNat 32 c) 196#32) (BitVec.ofNat 32 r))

theorem and_one (init : BitVec 1) (f : Fin 1 → BitVec 1) : (univ : Finset (Fin 1)).fold IntOp.andi init f = IntOp.andi (f 0) init := by
  rw [show (univ : Finset (Fin 1)) = {0} from rfl, Finset.fold_singleton]

theorem win_in : ∀ c : Fin 3, ∀ r : Fin 392,
    IntOp.andi (IntOp.andi (IntOp.cmpi .sge (winWord c.val r.val) 0#32) (IntOp.cmpi .sle (winWord c.val r.val) 783#32)) 1#1 = 1#1 := by
  decide +kernel

theorem win_at : ∀ c : Fin 3, ∀ r : Fin 392, min (winWord c.val r.val).toInt.toNat 783 = 196 * c.val + r.val := by
  decide +kernel

end Cert.Ref

end
-- ==== Proof.RefA.lean ====
/- The first layer of the reference read at real arguments: the normalised tokens, the heads, the window means. -/
module

public import proofs.«01_k».proof.Proof.RefHelp

@[expose] public section

noncomputable section

namespace Cert.Ref

open Cert.ReferenceIdeal Cert.ReferenceIdeal.Gen Cert.ReferenceIdeal.Read Idealize.ShloMosaic Idealize.ShloMosaic.ValueIdx Cert.Kit Cert.Spec Cert.Layer Finset

/-- Tokens of the eight images. -/
abbrev Tok (x : FVec Ideal S8x784x512 .f32) (f : ℕ → ℕ → ℕ → ℝ) : Prop := R3 (φ := .f32) (a := 8) (b := 784) (c := 512) x f
/-- Rows of the heads. -/
abbrev Hd (x : FVec Ideal S8x8x784x64 .f32) (f : ℕ → ℕ → ℕ → ℕ → ℝ) : Prop := R4 (φ := .f32) (a := 8) (b := 8) (c := 784) (d := 64) x f
/-- Window rows of the heads. -/
abbrev Win (x : FVec Ideal S8x8x3x64 .f32) (f : ℕ → ℕ → ℕ → ℕ → ℝ) : Prop := R4 (φ := .f32) (a := 8) (b := 8) (c := 3) (d := 64) x f

/-- An element at coordinates given by equal numbers. -/
theorem at3 {a b c : ℕ} {φ : FTy} {x : FVec Ideal ⟨3, ![a, b, c]⟩ φ} {f : ℕ → ℕ → ℕ → ℝ} (hx : R3 x f) (i : (⟨3, ![a, b, c]⟩ : Shape).Idx) {i0 i1 i2 : ℕ}
    (h0 : (i 0).val = i0) (h1 : (i 1).val = i1) (h2 : (i 2).val = i2) : x i = ((f i0 i1 i2 : ℝ) : EReal) := by
  rw [hx, h0, h1, h2]

theorem at4 {a b c d : ℕ} {φ : FTy} {x : FVec Ideal ⟨4, ![a, b, c, d]⟩ φ} {f : ℕ → ℕ → ℕ → ℕ → ℝ} (hx : R4 x f)
    (i : (⟨4, ![a, b, c, d]⟩ : Shape).Idx) {i0 i1 i2 i3 : ℕ}
    (h0 : (i 0).val = i0) (h1 : (i 1).val = i1) (h2 : (i 2).val = i2) (h3 : (i 3).val = i3) : x i = ((f i0 i1 i2 i3 : ℝ) : EReal) := by
  rw [hx, h0, h1, h2, h3]

section
variable {g : ℕ → ℝ} {X : ℕ → Mat}
  {x0 : FVec Ideal S8x512x28x28 .f32} {x1 : FVec Ideal S784 .f32} {x2 : FVec Ideal S2x512 .f32} {x3 x4 x5 : FVec Ideal S2x512x512 .f32}
  {x6 x7 : FVec Ideal S2x64x64 .f32} {x8 : FVec Ideal S2x512x24 .f32} {x9 : FVec Ideal S2x512x512 .f32} {x10 x11 : FVec Ideal S2x512 .f32}
  {x12 : FVec Ideal S2x2048x512 .f32} {x13 : FVec Ideal S2x2048 .f32} {x14 : FVec Ideal S2x512x2048 .f32} {x15 : FVec Ideal S2x512 .f32}

/-- The normalised tokens. -/
theorem v33_read (hx : Tok (val_main_v4 (F := Ideal) x0 x1) X) (hg : R1 (φ := .f32) (a := 512) (val_main_v6 (F := Ideal) x2) g) :
    Tok (val_main_v33 (F := Ideal) x0 x1 x2) (fun b => xn g (X b)) := fun j => by
  rw [val_main_v33_apply, val_main_v30_apply, val_main_v32_apply, val_main_v31_apply, val_main_v29_apply, val_main_v28_apply, val_main_v27_apply,
    val_main_v26_apply, val_main_v25_apply, val_main_v24_apply, val_main_v23_apply, val_main_v22_apply, val_main_cst_apply, val_main_cst_0_apply,
    val_main_cst_1_apply, sum_real (fun d => X (j 0).val (j 1).val d * X (j 0).val (j 1).val d) fun k => ?_]
  · show val_main_v4 (F := Ideal) x0 x1 j * Ideal.rsqrt (Ideal.div (Ideal.ofBits .f32 0x00000000#32 + _) (Ideal.ofBits .f32 0x44000000#32)
      + Ideal.ofBits .f32 0x358637BD#32) * val_main_v6 (F := Ideal) x2 _ = _
    rw [w_zero, w_512, w_e1, ← EReal.coe_add, zero_add, div_real (by norm_num), ← EReal.coe_add, rsqrt_real (rsq_pos (X (j 0).val) (j 1).val), hg, hx,
      ← EReal.coe_mul, ← EReal.coe_mul]
    rfl
  · rw [val_main_v21_apply, hx, Ideal.mulf_def, ← EReal.coe_mul]

/-- The queries. -/
theorem v36_read {T : ℕ → Mat} (hx : Tok (val_main_v33 (F := Ideal) x0 x1 x2) T)
    {w : Mat} (hw : R2 (φ := .f32) (a := 512) (b := 512) (val_main_v8 (F := Ideal) x3) w) :
    Hd (val_main_v36 (F := Ideal) x0 x1 x2 x3) (fun b h n d => pr (T b) w n (64 * h + d)) := fun j => by
  have h0 : (j 0).val < 8 := (j 0).isLt
  have h1 : (j 1).val < 8 := (j 1).isLt
  have h2 : (j 2).val < 784 := (j 2).isLt
  have h3 : (j 3).val < 64 := (j 3).isLt
  rw [val_main_v36_apply, val_main_v35_apply, val_main_v34_apply]
  refine sum_real (fun d => T (j 0).val (j 2).val d * w d (64 * (j 1).val + (j 3).val)) fun k => ?_
  rw [EReal.coe_mul]
  have e0 : ((((j 0).val * 784 + (j 2).val) * 8 + (j 1).val) * 64 + (j 3).val) / 401408 = (j 0).val := by omega
  have e1 : ((((j 0).val * 784 + (j 2).val) * 8 + (j 1).val) * 64 + (j 3).val) / 512 % 784 = (j 2).val := by omega
  have e2 : ((((j 0).val * 784 + (j 2).val) * 8 + (j 1).val) * 64 + (j 3).val) % 512 = 64 * (j 1).val + (j 3).val := by omega
  exact congrArg₂ _ (at3 hx _ e0 e1 rfl) ((hw _).trans (congrArg (fun e : ℕ => ((w k.val e : ℝ) : EReal)) e2))

/-- The keys and the values are projected like the queries. -/
theorem v39_eq : val_main_v39 (F := Ideal) x0 x1 x2 x4 = val_main_v36 x0 x1 x2 x4 := rfl
theorem v42_eq : val_main_v42 (F := Ideal) x0 x1 x2 x5 = val_main_v36 x0 x1 x2 x5 := rfl
theorem v60_eq : val_main_v60 (F := Ideal) x0 x1 x2 x5 = val_main_v55 x0 x1 x2 x5 := rfl

/-- The gather of whole rows of every head. -/
theorem gather_read (x : FVec Ideal S8x8x784x64 .f32) (idx : IVec S3x392x1 32) (y : S8x8x3x392x64.Idx) (m : ℕ)
    (hm : min (idx (ix3 (y 2) (y 3) (⟨0, Nat.one_pos⟩ : Fin 1))).toInt.toNat 783 = m) (hm' : m < 784) :
    Host.gather gather_S8x8x784x64_S3x392x1_S8x8x3x392x64_014_2_n_n_2_2_88164 x idx y = x (ix4 (y 0) (y 1) (⟨m, hm'⟩ : Fin 784) (y 4)) := by
  subst hm
  unfold Host.gather
  congr 1
  funext a
  refine Fin.ext ?_
  show GatherDims.start _ y idx a + GatherDims.batchCoord _ y a + GatherDims.offCoord _ y a = _
  rw [GatherDims.batchCoord_eq_zero _ _ _ List.not_mem_nil, Nat.add_zero]
  unfold GatherDims.start GatherDims.offCoord
  match a with
  | ⟨0, _⟩ =>
    exact (congrArg₂ (· + ·) (dif_neg (show (0 : Fin 4) ∉ ([2] : List (Fin 4)) from by decide))
      (dif_pos (show (0 : Fin 4) ∈ GatherDims.sKept gather_S8x8x784x64_S3x392x1_S8x8x3x392x64_014_2_n_n_2_2_88164 from by decide))).trans (Nat.zero_add _)
  | ⟨1, _⟩ =>
    exact (congrArg₂ (· + ·) (dif_neg (show (1 : Fin 4) ∉ ([2] : List (Fin 4)) from by decide))
      (dif_pos (show (1 : Fin 4) ∈ GatherDims.sKept gather_S8x8x784x64_S3x392x1_S8x8x3x392x64_014_2_n_n_2_2_88164 from by decide))).trans (Nat.zero_add _)
  | ⟨2, _⟩ =>
    refine ((congrArg₂ (· + ·) (dif_pos (show (2 : Fin 4) ∈ ([2] : List (Fin 4)) from by decide))
      (dif_neg (show (2 : Fin 4) ∉ GatherDims.sKept gather_S8x8x784x64_S3x392x1_S8x8x3x392x64_014_2_n_n_2_2_88164 from by decide))).trans (Nat.add_zero _)).trans ?_
    refine congrArg (fun i => min (idx i).toInt.toNat 783) (funext fun b => Fin.ext ?_)
    match b with
    | ⟨0, _⟩ => rfl
    | ⟨1, _⟩ => rfl
    | ⟨2, _⟩ => rfl
  | ⟨3, _⟩ =>
    exact (congrArg₂ (· + ·) (dif_neg (show (3 : Fin 4) ∉ ([2] : List (Fin 4)) from by decide))
      (dif_pos (show (3 : Fin 4) ∈ GatherDims.sKept gather_S8x8x784x64_S3x392x1_S8x8x3x392x64_014_2_n_n_2_2_88164 from by decide))).trans (Nat.zero_add _)

/-- The windows' rows. -/
theorem v52_read {T : ℕ → ℕ → ℕ → ℕ → ℝ} (hk : Hd (val_main_v39 (F := Ideal) x0 x1 x2 x4) T) (j : S8x8x3x392x64.Idx) :
    val_main_v52 (F := Ideal) x0 x1 x2 x4 j = ((T (j 0).val (j 1).val (196 * (j 2).val + (j 3).val) (j 4).val : ℝ) : EReal) := by
  have h2 : (j 2).val < 3 := (j 2).isLt
  have h3 : (j 3).val < 392 := (j 3).isLt
  have hw : ∀ i : S3x392x1.Idx, val_main_call0_v5 (F := Ideal) i = winWord (i 0).val (i 1).val := fun i => by
    rw [val_main_call0_v5_apply, val_main_call0_v4_apply, val_main_call0_v1_apply, val_main_call0_v3_apply, val_main_call0_v0_apply,
      val_main_call0_v2_apply, val_main_v51_apply, val_main_v49_apply, val_main_v50_apply, val_main_v46_apply, val_main_v48_apply,
      val_main_v44_apply, val_main_v45_apply, val_main_v43_apply, val_main_v47_apply]
    rfl
  have hv : ∀ i : S3x392x1.Idx, IntOp.andi (val_main_call0_v11 (F := Ideal) i) 1#1 = 1#1 := fun i => by
    rw [val_main_call0_v11_apply, val_main_call0_v7_apply, val_main_call0_v10_apply, hw, val_main_call0_v6_apply, val_main_call0_v9_apply,
      val_main_call0_v8_apply]
    exact win_in ⟨_, (i 0).isLt⟩ ⟨_, (i 1).isLt⟩
  have hb : val_main_call0_v12 (F := Ideal) (idx_main_call0_v14 j) = 1#1 :=
    (Host.reduce_eq_fold_single IntOp.andi _ _ _ (by decide) _ _).trans ((and_one _ _).trans (hv _))
  rw [val_main_v52_apply, val_main_call0_v14_apply, hb]
  show val_main_call0_v13 (F := Ideal) x0 x1 x2 x4 j = _
  unfold val_main_call0_v13
  rw [gather_read _ _ _ (196 * (j 2).val + (j 3).val) ((congrArg (fun b : BitVec 32 => min b.toInt.toNat 783) (hw _)).trans (win_at ⟨_, h2⟩ ⟨_, h3⟩)) (by omega), hk]

/-- The windows' means. -/
theorem v55_read {T : ℕ → Mat} (hk : Hd (val_main_v39 (F := Ideal) x0 x1 x2 x4) (fun b h n d => T b n (64 * h + d))) :
    Win (val_main_v55 (F := Ideal) x0 x1 x2 x4) (fun b h c d => pm (T b) (196 * c) (64 * h + d)) := fun j => by
  rw [val_main_v55_apply, val_main_v53_apply, val_main_v54_apply, val_main_cst_2_apply, val_main_cst_3_apply,
    sum_real (fun r => T (j 0).val (196 * (j 2).val + r) (64 * (j 1).val + (j 3).val)) fun k => v52_read hk _]
  show Ideal.div (Ideal.ofBits .f32 0x00000000#32 + _) (Ideal.ofBits .f32 0x43C40000#32) = _
  rw [w_zero, w_392, ← EReal.coe_add, zero_add, div_real (by norm_num)]
  rfl

/-- The compressed rows. -/
theorem v56_read {T : ℕ → Mat} {w : Mat} (hp : Win (val_main_v55 (F := Ideal) x0 x1 x2 x4) (fun b h c d => pm (T b) (196 * c) (64 * h + d)))
    (hw : R2 (φ := .f32) (a := 64) (b := 64) (val_main_v14 (F := Ideal) x6) w) :
    Win (val_main_v56 (F := Ideal) x0 x1 x2 x4 x6) (fun b h c d => cp (T b) w h c d) := fun j => by
  rw [val_main_v56_apply]
  refine sum_real (fun k => pm (T (j 0).val) (196 * (j 2).val) (64 * (j 1).val + k) * w k (j 3).val) fun k => ?_
  rw [hp, hw, ← EReal.coe_mul]

theorem v61_eq : val_main_v61 (F := Ideal) x0 x1 x2 x5 x7 = val_main_v56 x0 x1 x2 x5 x7 := rfl

end

end Cert.Ref

end
-- ==== Proof.RefB.lean ====
/- The first layer of the reference read at real arguments: the scores, the masks and the three softmaxes. -/
module

public import proofs.«01_k».proof.Proof.RefA

@[expose] public section

noncomputable section

namespace Cert.Ref

open Cert.ReferenceIdeal Cert.ReferenceIdeal.Gen Cert.ReferenceIdeal.Read Idealize.ShloMosaic Idealize.ShloMosaic.ValueIdx Cert.Kit Cert.Spec Cert.Layer Finset
open Classical

section
variable {Q K V : ℕ → Mat}
  {x0 : FVec Ideal S8x512x28x28 .f32} {x1 : FVec Ideal S784 .f32} {x2 : FVec Ideal S2x512 .f32} {x3 x4 x5 : FVec Ideal S2x512x512 .f32}
  {x6 x7 : FVec Ideal S2x64x64 .f32}

/-! The words of −∞. -/
theorem neg_inf_7 (i : S_.Idx) : val_main_cst_7 (F := Ideal) i = ⊥ := (val_main_cst_7_apply i).trans w_bot
theorem neg_inf_8 (i : S_.Idx) : val_main_cst_8 (F := Ideal) i = ⊥ := (val_main_cst_8_apply i).trans w_bot
theorem neg_inf_13 (i : S_.Idx) : val_main_cst_13 (F := Ideal) i = ⊥ := (val_main_cst_13_apply i).trans w_bot
theorem neg_inf_17 (i : S_.Idx) : val_main_cst_17 (F := Ideal) i = ⊥ := (val_main_cst_17_apply i).trans w_bot
theorem neg_inf_18 (i : S_.Idx) : val_main_cst_18 (F := Ideal) i = ⊥ := (val_main_cst_18_apply i).trans w_bot
theorem neg_inf_19 (i : S_.Idx) : val_main_cst_19 (F := Ideal) i = ⊥ := (val_main_cst_19_apply i).trans w_bot
theorem neg_inf_22 (i : S_.Idx) : val_main_cst_22 (F := Ideal) i = ⊥ := (val_main_cst_22_apply i).trans w_bot
theorem neg_inf_23 (i : S_.Idx) : val_main_cst_23 (F := Ideal) i = ⊥ := (val_main_cst_23_apply i).trans w_bot
theorem neg_inf_24 (i : S_.Idx) : val_main_cst_24 (F := Ideal) i = ⊥ := (val_main_cst_24_apply i).trans w_bot

/-- The shift of a softmax row is real. -/
theorem shift_real {n : ℕ} (z : EReal) (hz : z = ⊥) (t : ℕ → ℝ) (w : ℕ → Prop) (k : Fin n) (hk : w k.val) (s : Fin n → EReal)
    (hs : ∀ k, s k = if w k.val then ((t k.val : ℝ) : EReal) else ⊥) : ∃ M : ℝ, max ⊥ (Finset.univ.fold max z s) = (M : EReal) := by
  subst hz
  exact max_real t w k hk s hs

/-- The scores against compressed rows. -/
theorem v64_read {C : ℕ → ℕ → Mat} (hq : Hd (val_main_v36 (F := Ideal) x0 x1 x2 x3) (fun b h n d => Q b n (64 * h + d)))
    (hc : Win (val_main_v56 (F := Ideal) x0 x1 x2 x4 x6) (fun b h c d => C b h c d)) :
    R4 (φ := .f32) (a := 8) (b := 8) (c := 784) (d := 3) (val_main_v64 (F := Ideal) x0 x1 x2 x3 x4 x6) (fun b h n c => scc (Q b) (C b h) h n c) := fun j => by
  rw [val_main_v64_apply, val_main_v62_apply, val_main_v63_apply, val_main_cst_6_apply,
    sum_real (fun k => Q (j 0).val (j 2).val (64 * (j 1).val + k) * C (j 0).val (j 1).val (j 3).val k) fun k => by
      rw [hq, hc, ← EReal.coe_mul]]
  show _ * Ideal.ofBits .f32 0x3E000000#32 = _
  rw [w_eighth, ← EReal.coe_mul]
  rfl

/-- Attention to the compressed rows. -/
theorem v76_read {C D : ℕ → ℕ → Mat}
    (hs : R4 (φ := .f32) (a := 8) (b := 8) (c := 784) (d := 3) (val_main_v64 (F := Ideal) x0 x1 x2 x3 x4 x6) (fun b h n c => scc (Q b) (C b h) h n c))
    (hv : Win (val_main_v61 (F := Ideal) x0 x1 x2 x5 x7) (fun b h c d => D b h c d)) :
    Hd (val_main_v76 (F := Ideal) x0 x1 x2 x3 x4 x5 x6 x7)
      (fun b h n d => sav 3 (scc (Q b) (C b h) h n) (fun _ => 1) (fun c => D b h c d)) := fun j => by
  have hm : ∀ i : S8x8x784.Idx, ∃ M : ℝ, val_main_v67 (F := Ideal) x0 x1 x2 x3 x4 x6 i = (M : EReal) := fun i => by
    rw [val_main_v67_apply, val_main_v66_apply, neg_inf_8]
    unfold val_main_v65
    have r : S8x8x784x3.Reduces [3] S8x8x784 := by decide
    exact (shift_real _ (neg_inf_7 _) (scc (Q (i 0).val) (C (i 0).val (i 1).val) (i 1).val (i 2).val) (fun _ => True) (⟨0, by norm_num⟩ : Fin 3) trivial (val_main_v64 (F := Ideal) x0 x1 x2 x3 x4 x6 ∘ r.lift i) (fun k => (hs _).trans (if_pos trivial).symm)).imp
      fun M hM => (congrArg (max ⊥) (Host.reduce_eq_fold_single (max : EReal → EReal → EReal) _ _ _ r _ _)).trans hM
  obtain ⟨M, hM⟩ := hm (idx_main_v68 (idx_main_v69 (lidx_main_v76 j ⟨0, by norm_num⟩)))
  have he : ∀ k : Fin 3, val_main_v71 (F := Ideal) x0 x1 x2 x3 x4 x6 (lidx_main_v76 j k)
      = Ideal.exp (val_main_v64 (F := Ideal) x0 x1 x2 x3 x4 x6 (lidx_main_v76 j k) - (M : EReal)) := fun k => by
    rw [val_main_v71_apply, val_main_v70_apply, val_main_v69_apply, val_main_v68_apply]
    exact congrArg (fun m => Ideal.exp (val_main_v64 (F := Ideal) x0 x1 x2 x3 x4 x6 (lidx_main_v76 j k) - m)) hM
  have hd : ∀ k : Fin 3, val_main_v74 (F := Ideal) x0 x1 x2 x3 x4 x6 (lidx_main_v76 j k)
      = ((0 : ℝ) : EReal) + ∑ m : Fin 3, Ideal.exp (val_main_v64 (F := Ideal) x0 x1 x2 x3 x4 x6 (lidx_main_v76 j m) - (M : EReal)) := fun k => by
    rw [val_main_v74_apply, val_main_v73_apply, val_main_v72_apply, val_main_cst_9_apply]
    exact congrArg₂ (· + ·) w_zero (Finset.sum_congr rfl fun m _ => he m)
  rw [val_main_v76_apply]
  refine (Finset.sum_congr rfl fun k _ => ?_).trans ((soft_row (scc (Q (j 0).val) (C (j 0).val (j 1).val) (j 1).val (j 2).val)
    (fun c => D (j 0).val (j 1).val c (j 3).val) (fun _ => True) (⟨0, by norm_num⟩ : Fin 3) trivial
    (fun k => val_main_v64 (F := Ideal) x0 x1 x2 x3 x4 x6 (lidx_main_v76 j k)) (fun k => val_main_v61 (F := Ideal) x0 x1 x2 x5 x7 (ridx_main_v76 j k))
    (fun k => (hs _).trans (if_pos trivial).symm) (fun k => hv _) M).trans ?_)
  · rw [val_main_v75_apply, he, hd]; rfl
  · rw [show (fun m : ℕ => one ((fun _ : ℕ => True) m)) = fun _ => 1 from funext fun _ => one_true trivial]

/-- The scores. -/
theorem v79_read (hq : Hd (val_main_v36 (F := Ideal) x0 x1 x2 x3) (fun b h n d => Q b n (64 * h + d)))
    (hk : Hd (val_main_v39 (F := Ideal) x0 x1 x2 x4) (fun b h n d => K b n (64 * h + d))) :
    R4 (φ := .f32) (a := 8) (b := 8) (c := 784) (d := 784) (val_main_v79 (F := Ideal) x0 x1 x2 x3 x4) (fun b h n m => sc (Q b) (K b) h n m) := fun j => by
  rw [val_main_v79_apply, val_main_v77_apply, val_main_v78_apply, val_main_cst_10_apply,
    sum_real (fun k => Q (j 0).val (j 2).val (64 * (j 1).val + k) * K (j 0).val (j 3).val (64 * (j 1).val + k)) fun k => by
      rw [hq, hk, ← EReal.coe_mul]]
  show _ * Ideal.ofBits .f32 0x3E000000#32 = _
  rw [w_eighth, ← EReal.coe_mul]
  rfl

/-- The scores of the halves. -/
theorem v84_read (hq : Hd (val_main_v36 (F := Ideal) x0 x1 x2 x3) (fun b h n d => Q b n (64 * h + d)))
    (hk : Hd (val_main_v39 (F := Ideal) x0 x1 x2 x4) (fun b h n d => K b n (64 * h + d))) :
    R4 (φ := .f32) (a := 8) (b := 8) (c := 784) (d := 2) (val_main_v84 (F := Ideal) x0 x1 x2 x3 x4) (fun b h n s => im (Q b) (K b) h n s) := fun j => by
  have hmean : R4 (φ := .f32) (a := 8) (b := 8) (c := 2) (d := 64) (val_main_v83 (F := Ideal) x0 x1 x2 x4)
      (fun b h s d => pm (K b) (392 * s) (64 * h + d)) := fun i => by
    have h0 : (i 0).val < 8 := (i 0).isLt
    have h1 : (i 1).val < 8 := (i 1).isLt
    have h2 : (i 2).val < 2 := (i 2).isLt
    have h3 : (i 3).val < 64 := (i 3).isLt
    rw [val_main_v83_apply, val_main_v81_apply, val_main_v82_apply, val_main_cst_11_apply, val_main_cst_12_apply,
      sum_real (fun r => K (i 0).val (392 * (i 2).val + r) (64 * (i 1).val + (i 3).val)) fun k => ?_]
    · show Ideal.div (Ideal.ofBits .f32 0x00000000#32 + _) (Ideal.ofBits .f32 0x43C40000#32) = _
      rw [w_zero, w_392, ← EReal.coe_add, zero_add, div_real (by norm_num)]
      rfl
    · have hk' : k.val < 392 := k.isLt
      have e0 : (((((i 0).val * 8 + (i 1).val) * 2 + (i 2).val) * 392 + k.val) * 64 + (i 3).val) / 401408 = (i 0).val := by omega
      have e1 : (((((i 0).val * 8 + (i 1).val) * 2 + (i 2).val) * 392 + k.val) * 64 + (i 3).val) / 50176 % 8 = (i 1).val := by omega
      have e2 : (((((i 0).val * 8 + (i 1).val) * 2 + (i 2).val) * 392 + k.val) * 64 + (i 3).val) / 64 % 784 = 392 * (i 2).val + k.val := by omega
      have e3 : (((((i 0).val * 8 + (i 1).val) * 2 + (i 2).val) * 392 + k.val) * 64 + (i 3).val) % 64 = (i 3).val := by omega
      rw [val_main_v80_apply]
      exact at4 hk _ e0 e1 e2 e3
  rw [val_main_v84_apply]
  refine sum_real (fun k => Q (j 0).val (j 2).val (64 * (j 1).val + k) * pm (K (j 0).val) (392 * (j 3).val) (64 * (j 1).val + k)) fun k => ?_
  rw [hq, hmean, ← EReal.coe_mul]

/-- The half each row selects. -/
theorem v91_read (hi : R4 (φ := .f32) (a := 8) (b := 8) (c := 784) (d := 2) (val_main_v84 (F := Ideal) x0 x1 x2 x3 x4) (fun b h n s => im (Q b) (K b) h n s))
    (i : S8x8x784.Idx) : val_main_v91 (F := Ideal) x0 x1 x2 x3 x4 i
      = BitVec.ofNat 32 (if im (Q (i 0).val) (K (i 0).val) (i 1).val (i 2).val 0 < im (Q (i 0).val) (K (i 0).val) (i 1).val (i 2).val 1 then 1 else 0) := by
  have hm : ∀ i : S8x8x784.Idx, val_main_v85 (F := Ideal) x0 x1 x2 x3 x4 i
      = ((max (im (Q (i 0).val) (K (i 0).val) (i 1).val (i 2).val 0) (im (Q (i 0).val) (K (i 0).val) (i 1).val (i 2).val 1) : ℝ) : EReal) := fun i => by
    unfold val_main_v85
    refine (Host.reduce_eq_fold_single (max : EReal → EReal → EReal) _ _ _ (by decide) _ _).trans
      ((congrArg (fun z : EReal => Finset.fold max z _ _) (neg_inf_13 _)).trans ?_)
    exact max_two _ _ _ (hi _) (hi _)
  unfold val_main_v91
  refine (Host.reduce_eq_fold_single IntOp.minsi _ _ _ (by decide) _ _).trans (first_max _ _ _ fun k => ?_)
  refine (val_main_v90_apply _ _ _ _ _ _).trans ?_
  rw [val_main_v88_apply, val_main_v87_apply, val_main_v86_apply, hm, hi, val_main_call2_v1_apply, val_main_call2_v2_apply]
  refine congrArg (fun c => Scalar.select c (BitVec.ofNat 32 k.val) 2#32) ?_
  show BitVec.ofBool (decide ((_ : EReal) = _)) = _
  congr 1
  refine decide_eq_decide.2 (EReal.coe_eq_coe_iff.trans ?_)
  match k with
  | ⟨0, _⟩ => exact Iff.rfl
  | ⟨1, _⟩ => exact Iff.rfl

/-- The scores masked outside the selected half. -/
theorem v99_read (hs : R4 (φ := .f32) (a := 8) (b := 8) (c := 784) (d := 784) (val_main_v79 (F := Ideal) x0 x1 x2 x3 x4) (fun b h n m => sc (Q b) (K b) h n m))
    (hi : R4 (φ := .f32) (a := 8) (b := 8) (c := 784) (d := 2) (val_main_v84 (F := Ideal) x0 x1 x2 x3 x4) (fun b h n s => im (Q b) (K b) h n s))
    (j : S8x8x784x784.Idx) : val_main_v99 (F := Ideal) x0 x1 x2 x3 x4 j
      = if Sel (Q (j 0).val) (K (j 0).val) (j 1).val (j 2).val (j 3).val then
          ((sc (Q (j 0).val) (K (j 0).val) (j 1).val (j 2).val (j 3).val : ℝ) : EReal) else ⊥ := by
  have hf : ∀ i : S784.Idx, val_main_v93 (F := Ideal) i = BitVec.ofNat 32 ((i 0).val / 392) := fun i => by
    rw [val_main_v93_apply, val_main_call3_v11_apply, val_main_call3_v13_apply, val_main_call3_v6_apply, val_main_call3_v10_apply,
      val_main_call3_v5_apply, val_main_call3_v2_apply, val_main_call3_v8_apply, val_main_call3_v1_apply, val_main_call3_v7_apply,
      val_main_call3_v9_apply, val_main_call3_v12_apply]
    exact floor_word ⟨_, (i 0).isLt⟩
  rw [val_main_v99_apply, val_main_v98_apply, val_main_v96_apply, val_main_v94_apply, val_main_v97_apply, val_main_v95_apply, v91_read hi, hf, hs,
    val_main_call4_v1_apply, val_main_call4_v0_apply, neg_inf_17]
  refine (congrArg (fun c => Scalar.select c _ _) (sel_word (Q (j 0).val) (K (j 0).val) (j 1).val (j 2).val (j 3).val (j 3).isLt)).trans ?_
  exact (select_ofBool _ _ _).trans (by simp only [decide_eq_true_eq])

/-- The scores masked outside the band. -/
theorem v122_read (hs : R4 (φ := .f32) (a := 8) (b := 8) (c := 784) (d := 784) (val_main_v79 (F := Ideal) x0 x1 x2 x3 x4) (fun b h n m => sc (Q b) (K b) h n m))
    (j : S8x8x784x784.Idx) : val_main_v122 (F := Ideal) x0 x1 x2 x3 x4 j
      = if Band (j 2).val (j 3).val then ((sc (Q (j 0).val) (K (j 0).val) (j 1).val (j 2).val (j 3).val : ℝ) : EReal) else ⊥ := by
  rw [val_main_v122_apply, val_main_call5_v1_apply, val_main_v121_apply, val_main_v120_apply, val_main_v118_apply, val_main_v117_apply,
    val_main_v115_apply, val_main_v116_apply, val_main_v113_apply, val_main_v114_apply, val_main_v119_apply, hs,
    val_main_call5_v2_apply, val_main_call5_v0_apply, neg_inf_22]
  refine (congrArg (fun c => Scalar.select c _ _) (band_word (j 2).isLt (j 3).isLt)).trans ?_
  exact (select_ofBool _ _ _).trans (by simp only [decide_eq_true_eq]; exact if_congr Iff.rfl rfl rfl)

/-- Some row of the selected half is seen. -/
theorem sel_seen (Q K : Mat) (h n : ℕ) : ∃ k : Fin 784, Sel Q K h n k.val := by
  by_cases c : im Q K h n 0 < im Q K h n 1
  · exact ⟨⟨392, by norm_num⟩, by unfold Sel; rw [if_pos c]⟩
  · exact ⟨⟨0, by norm_num⟩, by unfold Sel; rw [if_neg c]; norm_num⟩

/-- Attention to the selected half. -/
theorem v111_read {S : ℕ → ℕ → ℕ → ℕ → Prop} {T : ℕ → ℕ → Mat} (hw : ∀ b h n, ∃ k : Fin 784, S b h n k.val)
    (hs : ∀ j : S8x8x784x784.Idx, val_main_v99 (F := Ideal) x0 x1 x2 x3 x4 j
      = if S (j 0).val (j 1).val (j 2).val (j 3).val then ((T (j 0).val (j 1).val (j 2).val (j 3).val : ℝ) : EReal) else ⊥)
    (hv : Hd (val_main_v42 (F := Ideal) x0 x1 x2 x5) (fun b h n d => V b n (64 * h + d))) :
    Hd (val_main_v111 (F := Ideal) x0 x1 x2 x3 x4 x5)
      (fun b h n d => sav 784 (T b h n) (fun m => one (S b h n m)) (fun m => V b m (64 * h + d))) := fun j => by
  obtain ⟨s, e⟩ : ∃ s, s = val_main_v99 (F := Ideal) x0 x1 x2 x3 x4 := ⟨_, rfl⟩
  rw [← e] at hs
  have hm : ∀ i : S8x8x784.Idx, ∃ M : ℝ, val_main_v102 (F := Ideal) x0 x1 x2 x3 x4 i = (M : EReal) := fun i => by
    obtain ⟨k, hk⟩ := hw (i 0).val (i 1).val (i 2).val
    rw [val_main_v102_apply, val_main_v101_apply, neg_inf_19]
    unfold val_main_v100
    rw [← e]
    have r : S8x8x784x784.Reduces [3] S8x8x784 := by decide
    exact (shift_real _ (neg_inf_18 _) (T (i 0).val (i 1).val (i 2).val) (fun m => S (i 0).val (i 1).val (i 2).val m) k hk (s ∘ r.lift i) (fun k => hs _)).imp
      fun M hM => (congrArg (max ⊥) (Host.reduce_eq_fold_single (max : EReal → EReal → EReal) _ _ _ r _ _)).trans hM
  obtain ⟨M, hM⟩ := hm (idx_main_v103 (idx_main_v104 (lidx_main_v111 j ⟨0, by norm_num⟩)))
  obtain ⟨k, hk⟩ := hw (j 0).val (j 1).val (j 2).val
  have he : ∀ k : Fin 784, val_main_v106 (F := Ideal) x0 x1 x2 x3 x4 (lidx_main_v111 j k)
      = Ideal.exp (s (lidx_main_v111 j k) - (M : EReal)) := fun k => by
    rw [val_main_v106_apply, val_main_v105_apply, val_main_v104_apply, val_main_v103_apply, ← e]
    exact congrArg (fun m => Ideal.exp (s (lidx_main_v111 j k) - m)) hM
  have hd : ∀ k : Fin 784, val_main_v109 (F := Ideal) x0 x1 x2 x3 x4 (lidx_main_v111 j k)
      = ((0 : ℝ) : EReal) + ∑ m : Fin 784, Ideal.exp (s (lidx_main_v111 j m) - (M : EReal)) := fun k => by
    rw [val_main_v109_apply, val_main_v108_apply, val_main_v107_apply, val_main_cst_20_apply]
    exact congrArg₂ (· + ·) w_zero (Finset.sum_congr rfl fun m _ => he m)
  rw [val_main_v111_apply]
  refine (Finset.sum_congr rfl fun k _ => ?_).trans (soft_row (T (j 0).val (j 1).val (j 2).val)
    (fun m => V (j 0).val m (64 * (j 1).val + (j 3).val)) (fun m => S (j 0).val (j 1).val (j 2).val m) k hk
    (fun k => s (lidx_main_v111 j k)) (fun k => val_main_v42 (F := Ideal) x0 x1 x2 x5 (ridx_main_v111 j k))
    (fun k => hs _) (fun k => hv _) M)
  rw [val_main_v110_apply, he, hd]; rfl

/-- Attention to the band. -/
theorem v134_read (hs : ∀ j : S8x8x784x784.Idx, val_main_v122 (F := Ideal) x0 x1 x2 x3 x4 j
      = if Band (j 2).val (j 3).val then ((sc (Q (j 0).val) (K (j 0).val) (j 1).val (j 2).val (j 3).val : ℝ) : EReal) else ⊥)
    (hv : Hd (val_main_v42 (F := Ideal) x0 x1 x2 x5) (fun b h n d => V b n (64 * h + d))) :
    Hd (val_main_v134 (F := Ideal) x0 x1 x2 x3 x4 x5)
      (fun b h n d => sav 784 (sc (Q b) (K b) h n) (fun m => one (Band n m)) (fun m => V b m (64 * h + d))) := fun j => by
  have hw : ∀ n, Band n n := fun n => ⟨by omega, by omega⟩
  have hm : ∀ i : S8x8x784.Idx, ∃ M : ℝ, val_main_v125 (F := Ideal) x0 x1 x2 x3 x4 i = (M : EReal) := fun i => by
    rw [val_main_v125_apply, val_main_v124_apply, neg_inf_24]
    unfold val_main_v123
    have r : S8x8x784x784.Reduces [3] S8x8x784 := by decide
    exact (shift_real _ (neg_inf_23 _) (sc (Q (i 0).val) (K (i 0).val) (i 1).val (i 2).val) (fun m => Band (i 2).val m) ⟨(i 2).val, (i 2).isLt⟩ (hw (i 2).val) (val_main_v122 (F := Ideal) x0 x1 x2 x3 x4 ∘ r.lift i) (fun k => hs _)).imp
      fun M hM => (congrArg (max ⊥) (Host.reduce_eq_fold_single (max : EReal → EReal → EReal) _ _ _ r _ _)).trans hM
  obtain ⟨M, hM⟩ := hm (idx_main_v126 (idx_main_v127 (lidx_main_v134 j ⟨0, by norm_num⟩)))
  have he : ∀ k : Fin 784, val_main_v129 (F := Ideal) x0 x1 x2 x3 x4 (lidx_main_v134 j k)
      = Ideal.exp (val_main_v122 (F := Ideal) x0 x1 x2 x3 x4 (lidx_main_v134 j k) - (M : EReal)) := fun k => by
    rw [val_main_v129_apply, val_main_v128_apply, val_main_v127_apply, val_main_v126_apply]
    exact congrArg (fun m => Ideal.exp (val_main_v122 (F := Ideal) x0 x1 x2 x3 x4 (lidx_main_v134 j k) - m)) hM
  have hd : ∀ k : Fin 784, val_main_v132 (F := Ideal) x0 x1 x2 x3 x4 (lidx_main_v134 j k)
      = ((0 : ℝ) : EReal) + ∑ m : Fin 784, Ideal.exp (val_main_v122 (F := Ideal) x0 x1 x2 x3 x4 (lidx_main_v134 j m) - (M : EReal)) := fun k => by
    rw [val_main_v132_apply, val_main_v131_apply, val_main_v130_apply, val_main_cst_25_apply]
    exact congrArg₂ (· + ·) w_zero (Finset.sum_congr rfl fun m _ => he m)
  rw [val_main_v134_apply]
  refine (Finset.sum_congr rfl fun k _ => ?_).trans (soft_row (sc (Q (j 0).val) (K (j 0).val) (j 1).val (j 2).val)
    (fun m => V (j 0).val m (64 * (j 1).val + (j 3).val)) (fun m => Band (j 2).val m) (⟨(j 2).val, (j 2).isLt⟩ : Fin 784) (hw (j 2).val)
    (fun k => val_main_v122 (F := Ideal) x0 x1 x2 x3 x4 (lidx_main_v134 j k)) (fun k => val_main_v42 (F := Ideal) x0 x1 x2 x5 (ridx_main_v134 j k))
    (fun k => hs _) (fun k => hv _) M)
  rw [val_main_v133_apply, he, hd]; rfl

end

end Cert.Ref

end
-- ==== Proof.RefC.lean ====
/- The first layer of the reference read at real arguments: the gates, the heads and the output projection. -/
module

public import proofs.«01_k».proof.Proof.RefB

@[expose] public section

noncomputable section

namespace Cert.Ref

open Cert.ReferenceIdeal Cert.ReferenceIdeal.Gen Cert.ReferenceIdeal.Read Idealize.ShloMosaic Idealize.ShloMosaic.ValueIdx Cert.Kit Cert.Spec Cert.Layer Finset

/-- Images whose tokens are the rows of matrices. -/
abbrev Img (x : FVec Ideal S8x512x28x28 .f32) (X : ℕ → Mat) : Prop :=
  R4 (φ := .f32) (a := 8) (b := 512) (c := 28) (d := 28) x (fun b ch h w => X b (28 * h + w) ch)

section
variable {X : ℕ → Mat}
  {x0 : FVec Ideal S8x512x28x28 .f32} {x1 : FVec Ideal S784 .f32} {x2 : FVec Ideal S2x512 .f32} {x3 x4 x5 : FVec Ideal S2x512x512 .f32}
  {x6 x7 : FVec Ideal S2x64x64 .f32} {x8 : FVec Ideal S2x512x24 .f32} {x9 : FVec Ideal S2x512x512 .f32}

/-- The tokens of the images. -/
theorem v4_read (hx : Img (val_main_v2 (F := Ideal) x0 x1) X) : Tok (val_main_v4 (F := Ideal) x0 x1) X := fun j => by
  have h0 : (j 0).val < 8 := (j 0).isLt
  have h1 : (j 1).val < 784 := (j 1).isLt
  have h2 : (j 2).val < 512 := (j 2).isLt
  have e0 : (((j 0).val * 512 + (j 2).val) * 784 + (j 1).val) / 401408 = (j 0).val := by omega
  have e1 : (((j 0).val * 512 + (j 2).val) * 784 + (j 1).val) / 784 % 512 = (j 2).val := by omega
  have e2 : 28 * ((((j 0).val * 512 + (j 2).val) * 784 + (j 1).val) / 28 % 28) + (((j 0).val * 512 + (j 2).val) * 784 + (j 1).val) % 28 = (j 1).val := by omega
  rw [val_main_v4_apply, val_main_v3_apply, hx]
  show ((X ((((j 0).val * 512 + (j 2).val) * 784 + (j 1).val) / 401408)
    (28 * ((((j 0).val * 512 + (j 2).val) * 784 + (j 1).val) / 28 % 28) + (((j 0).val * 512 + (j 2).val) * 784 + (j 1).val) % 28)
    ((((j 0).val * 512 + (j 2).val) * 784 + (j 1).val) / 784 % 512) : ℝ) : EReal) = _
  rw [e0, e1, e2]

/-- The gates. -/
theorem v143_read {T : ℕ → Mat} (hx : Tok (val_main_v33 (F := Ideal) x0 x1 x2) T) {w : Mat}
    (hw : R2 (φ := .f32) (a := 512) (b := 24) (val_main_v18 (F := Ideal) x8) w) :
    R4 (φ := .f32) (a := 8) (b := 8) (c := 784) (d := 3) (val_main_v143 (F := Ideal) x0 x1 x2 x8) (fun b h n c => gate (T b) w n (3 * h + c)) := fun j => by
  have h0 : (j 0).val < 8 := (j 0).isLt
  have h1 : (j 1).val < 8 := (j 1).isLt
  have h2 : (j 2).val < 784 := (j 2).isLt
  have h3 : (j 3).val < 3 := (j 3).isLt
  have e0 : ((((j 0).val * 784 + (j 2).val) * 8 + (j 1).val) * 3 + (j 3).val) / 18816 = (j 0).val := by omega
  have e1 : ((((j 0).val * 784 + (j 2).val) * 8 + (j 1).val) * 3 + (j 3).val) / 24 % 784 = (j 2).val := by omega
  have e2 : ((((j 0).val * 784 + (j 2).val) * 8 + (j 1).val) * 3 + (j 3).val) % 24 = 3 * (j 1).val + (j 3).val := by omega
  rw [val_main_v143_apply, val_main_v142_apply, val_main_v141_apply, val_main_v140_apply, val_main_v139_apply, val_main_v138_apply, val_main_v137_apply,
    val_main_v136_apply, val_main_v135_apply, val_main_cst_26_apply, val_main_cst_27_apply,
    sum_real (fun d => T (j 0).val (j 2).val d * w d (3 * (j 1).val + (j 3).val)) fun k => ?_]
  · show Ideal.div (Ideal.ofBits .f32 0x3F800000#32) (Ideal.ofBits .f32 0x3F800000#32 + Ideal.exp (-(((pr (T (j 0).val) w (j 2).val (3 * (j 1).val + (j 3).val) : ℝ) : EReal)))) = _
    rw [w_one, ← EReal.coe_neg, Ideal.exp_coe, ← EReal.coe_add, div_real (by positivity), one_div]
    rfl
  · rw [EReal.coe_mul]
    exact congrArg₂ _ (at3 hx _ e0 e1 rfl) ((hw _).trans (congrArg (fun e : ℕ => ((w k.val e : ℝ) : EReal)) e2))

/-- The heads: three attentions mixed by the gates. -/
theorem v154_read {G A B C : ℕ → ℕ → Mat}
    (hg : R4 (φ := .f32) (a := 8) (b := 8) (c := 784) (d := 3) (val_main_v143 (F := Ideal) x0 x1 x2 x8) G)
    (ha : Hd (val_main_v76 (F := Ideal) x0 x1 x2 x3 x4 x5 x6 x7) A) (hb : Hd (val_main_v111 (F := Ideal) x0 x1 x2 x3 x4 x5) B)
    (hc : Hd (val_main_v134 (F := Ideal) x0 x1 x2 x3 x4 x5) C) :
    Hd (val_main_v154 (F := Ideal) x0 x1 x2 x3 x4 x5 x6 x7 x8) (fun b h n d => G b h n 0 * A b h n d + G b h n 1 * B b h n d + G b h n 2 * C b h n d) := fun j => by
  rw [val_main_v154_apply, val_main_v150_apply, val_main_v146_apply, val_main_v149_apply, val_main_v153_apply, val_main_v145_apply, val_main_v148_apply,
    val_main_v152_apply, val_main_v144_apply, val_main_v147_apply, val_main_v151_apply, hg, hg, hg, ha, hb, hc]
  show (_ : EReal) * _ + _ * _ + _ * _ = _
  rw [← EReal.coe_mul, ← EReal.coe_mul, ← EReal.coe_mul, ← EReal.coe_add, ← EReal.coe_add]
  rfl

/-- The attention block with its residual. -/
theorem v160_read {H : ℕ → ℕ → Mat} {w : Mat} (hh : Hd (val_main_v154 (F := Ideal) x0 x1 x2 x3 x4 x5 x6 x7 x8) H)
    (hw : R2 (φ := .f32) (a := 512) (b := 512) (val_main_v20 (F := Ideal) x9) w) (hx : Tok (val_main_v4 (F := Ideal) x0 x1) X) :
    Img (val_main_v160 (F := Ideal) x0 x1 x2 x3 x4 x5 x6 x7 x8 x9)
      (fun b n d => pr (fun n j => H b (j / 64) n (j % 64)) w n d + X b n d) := fun j => by
  have h0 : (j 0).val < 8 := (j 0).isLt
  have h1 : (j 1).val < 512 := (j 1).isLt
  have h2 : (j 2).val < 28 := (j 2).isLt
  have h3 : (j 3).val < 28 := (j 3).isLt
  have hd : Tok (val_main_v156 (F := Ideal) x0 x1 x2 x3 x4 x5 x6 x7 x8) (fun b n j => H b (j / 64) n (j % 64)) := fun i => by
    have h0 : (i 0).val < 8 := (i 0).isLt
    have h1 : (i 1).val < 784 := (i 1).isLt
    have h2 : (i 2).val < 512 := (i 2).isLt
    have e0 : (((i 0).val * 784 + (i 1).val) * 512 + (i 2).val) / 401408 = (i 0).val := by omega
    have e1 : (((i 0).val * 784 + (i 1).val) * 512 + (i 2).val) / 512 % 784 = (i 1).val := by omega
    have e2 : (((i 0).val * 784 + (i 1).val) * 512 + (i 2).val) / 64 % 8 = (i 2).val / 64 := by omega
    have e3 : (((i 0).val * 784 + (i 1).val) * 512 + (i 2).val) % 64 = (i 2).val % 64 := by omega
    rw [val_main_v156_apply, val_main_v155_apply]
    exact at4 hh _ e0 e2 e1 e3
  have hp : Tok (val_main_v158 (F := Ideal) x0 x1 x2 x3 x4 x5 x6 x7 x8 x9) (fun b n d => pr (fun n j => H b (j / 64) n (j % 64)) w n d + X b n d) := fun i => by
    rw [val_main_v158_apply, val_main_v157_apply, hx,
      sum_real (fun d => H (i 0).val (d / 64) (i 1).val (d % 64) * w d (i 2).val) fun k => by rw [hd, hw, ← EReal.coe_mul]]
    show (_ : EReal) + _ = _
    rw [← EReal.coe_add]
    rfl
  have e0 : ((((j 0).val * 512 + (j 1).val) * 28 + (j 2).val) * 28 + (j 3).val) / 401408 = (j 0).val := by omega
  have e1 : ((((j 0).val * 512 + (j 1).val) * 28 + (j 2).val) * 28 + (j 3).val) / 784 % 512 = (j 1).val := by omega
  have e2 : ((((j 0).val * 512 + (j 1).val) * 28 + (j 2).val) * 28 + (j 3).val) % 784 = 28 * (j 2).val + (j 3).val := by omega
  rw [val_main_v160_apply, val_main_v159_apply]
  exact at3 hp _ e0 e2 e1

end

end Cert.Ref

end
-- ==== Proof.RefD.lean ====
/- The first layer of the reference read at real arguments: the layer normalisation and the feed-forward block. -/
module

public import proofs.«01_k».proof.Proof.RefC

@[expose] public section

noncomputable section

namespace Cert.Ref

open Cert.ReferenceIdeal Cert.ReferenceIdeal.Gen Cert.ReferenceIdeal.Read Idealize.ShloMosaic Idealize.ShloMosaic.ValueIdx Cert.Kit Cert.Spec Cert.Layer Finset

/-- One number per token. -/
abbrev Per (x : FVec Ideal S8x1x28x28 .f32) (f : ℕ → ℕ → ℝ) : Prop :=
  R4 (φ := .f32) (a := 8) (b := 1) (c := 28) (d := 28) x (fun b _ h w => f b (28 * h + w))

/-- The variance's divisor. -/
theorem divisor_read (i : S_.Idx) : val_main_call6_v8 (F := Ideal) i = ((512 : ℝ) : EReal) := by
  rw [val_main_call6_v8_apply, val_main_call6_cst_1_apply, val_main_call6_v7_apply, val_main_c_30_apply]
  show Ideal.ofBits .f32 0x44000000#32 - (((0#32 : BitVec 32).toInt : ℝ) : EReal) = _
  rw [w_512, ← EReal.coe_sub]
  norm_num

/-- The variance's divisor is positive. -/
theorem divisor_pos (i : S_.Idx) : val_main_call6_v13 (F := Ideal) i = 1#1 := by
  rw [val_main_call6_v13_apply, divisor_read, val_main_call6_cst_3_apply]
  show BitVec.ofBool (decide (Ideal.ofBits .f32 0x00000000#32 < ((512 : ℝ) : EReal))) = 1#1
  rw [w_zero, decide_eq_true (EReal.coe_lt_coe_iff.2 (by norm_num))]
  rfl

section
variable {Y : ℕ → Mat}
  {x0 : FVec Ideal S8x512x28x28 .f32} {x1 : FVec Ideal S784 .f32} {x2 : FVec Ideal S2x512 .f32} {x3 x4 x5 : FVec Ideal S2x512x512 .f32}
  {x6 x7 : FVec Ideal S2x64x64 .f32} {x8 : FVec Ideal S2x512x24 .f32} {x9 : FVec Ideal S2x512x512 .f32} {x10 x11 : FVec Ideal S2x512 .f32}
  {x12 : FVec Ideal S2x2048x512 .f32} {x13 : FVec Ideal S2x2048 .f32} {x14 : FVec Ideal S2x512x2048 .f32} {x15 : FVec Ideal S2x512 .f32}

/-- The means. -/
theorem v168_read (hy : Img (val_main_v160 (F := Ideal) x0 x1 x2 x3 x4 x5 x6 x7 x8 x9) Y) :
    Per (val_main_v168 (F := Ideal) x0 x1 x2 x3 x4 x5 x6 x7 x8 x9) (fun b => mu (Y b)) := fun j => by
  rw [val_main_v168_apply, val_main_v167_apply, val_main_v166_apply, val_main_v165_apply, val_main_cst_28_apply, val_main_cst_29_apply,
    sum_real (fun d => Y (j 0).val (28 * (j 2).val + (j 3).val) d) fun k => hy _]
  show Ideal.div (Ideal.ofBits .f32 0x00000000#32 + _) (Ideal.ofBits .f32 0x44000000#32) = _
  rw [w_zero, w_512, ← EReal.coe_add, zero_add, div_real (by norm_num)]
  rfl

/-- The mean inside the variance is the mean. -/
theorem c6v3_eq : val_main_call6_v3 (F := Ideal) x0 x1 x2 x3 x4 x5 x6 x7 x8 x9 = val_main_v168 x0 x1 x2 x3 x4 x5 x6 x7 x8 x9 := rfl

/-- The variances. -/
theorem v169_read (hy : Img (val_main_v160 (F := Ideal) x0 x1 x2 x3 x4 x5 x6 x7 x8 x9) Y) :
    Per (val_main_v169 (F := Ideal) x0 x1 x2 x3 x4 x5 x6 x7 x8 x9) (fun b => var (Y b)) := fun j => by
  have hv : val_main_call6_v12 (F := Ideal) x0 x1 x2 x3 x4 x5 x6 x7 x8 x9 j = ((var (Y (j 0).val) (28 * (j 2).val + (j 3).val) : ℝ) : EReal) := by
    rw [val_main_call6_v12_apply, val_main_call6_v11_apply, divisor_read, val_main_call6_v10_apply, val_main_call6_v9_apply, val_main_call6_cst_2_apply,
      sum_real (fun d => (Y (j 0).val (28 * (j 2).val + (j 3).val) d - mu (Y (j 0).val) (28 * (j 2).val + (j 3).val))
        * (Y (j 0).val (28 * (j 2).val + (j 3).val) d - mu (Y (j 0).val) (28 * (j 2).val + (j 3).val))) fun k => ?_]
    · show Ideal.div (Ideal.ofBits .f32 0x00000000#32 + _) _ = _
      rw [w_zero, ← EReal.coe_add, zero_add, div_real (by norm_num)]
      rfl
    · rw [val_main_call6_v6_apply, val_main_call6_v5_apply, val_main_call6_v4_apply, c6v3_eq, v168_read hy, hy, Ideal.subf_def, Ideal.mulf_def,
        ← EReal.coe_sub, ← EReal.coe_mul]
  refine Eq.trans (congrArg (fun c => Scalar.select c _ _)
    ((broadcastInDim_apply _ bcast_S_S8x1x28x28 (val_main_call6_v13 (F := Ideal)) j (fun a => a.elim0) (fun a => a.elim0)).trans (divisor_pos _))) ?_
  exact hv

/-- The layer normalisation. -/
theorem v182_read {g b : ℕ → ℝ} (hy : Img (val_main_v160 (F := Ideal) x0 x1 x2 x3 x4 x5 x6 x7 x8 x9) Y)
    (hg : R1 (φ := .f32) (a := 512) (val_main_v162 (F := Ideal) x10) g) (hb : R1 (φ := .f32) (a := 512) (val_main_v164 (F := Ideal) x11) b) :
    Img (val_main_v182 (F := Ideal) x0 x1 x2 x3 x4 x5 x6 x7 x8 x9 x10 x11) (fun i => ln g b (Y i)) := fun j => by
  rw [val_main_v182_apply, val_main_v181_apply, val_main_v180_apply, val_main_v179_apply, val_main_v178_apply, val_main_v177_apply, val_main_v176_apply,
    val_main_v175_apply, val_main_v174_apply, val_main_v173_apply, val_main_v172_apply, val_main_v171_apply, val_main_v170_apply, val_main_cst_31_apply,
    hy, hg, hb, v168_read hy, v169_read hy]
  rw [Ideal.addf_def, Ideal.mulf_def, Ideal.hostDivf_def, Ideal.subf_def, Ideal.hostUnary_sqrt_def, Ideal.addf_def, Ideal.ofBits_def, w_e2, ← EReal.coe_add, sqrt_real (add_pos_of_nonneg_of_pos (var_nonneg _ _) e2_pos).le, ← EReal.coe_sub,
    div_real (Real.sqrt_pos.2 (add_pos_of_nonneg_of_pos (var_nonneg _ _) e2_pos)).ne', ← EReal.coe_mul, ← EReal.coe_add]
  rfl

/-- The first feed-forward product. -/
theorem v195_read {L : ℕ → Mat} {w : Mat} {b : ℕ → ℝ} (hl : Img (val_main_v182 (F := Ideal) x0 x1 x2 x3 x4 x5 x6 x7 x8 x9 x10 x11) L)
    (hw : R2 (φ := .f32) (a := 2048) (b := 512) (val_main_v184 (F := Ideal) x12) w) (hb : R1 (φ := .f32) (a := 2048) (val_main_v186 (F := Ideal) x13) b) :
    R4 (φ := .f32) (a := 8) (b := 2048) (c := 28) (d := 28) (val_main_v195 (F := Ideal) x0 x1 x2 x3 x4 x5 x6 x7 x8 x9 x10 x11 x12 x13)
      (fun i f h v => hid (L i) w b (28 * h + v) f) := fun j => by
  rw [val_main_v195_apply, val_main_v192_apply, val_main_v194_apply, val_main_v193_apply, val_main_v191_apply, hb,
    sum_real (fun d => L (j 0).val (28 * (j 2).val + (j 3).val) d * w (j 1).val d) fun k => by rw [hl, hw, mul_comm, ← EReal.coe_mul]]
  show (_ : EReal) + _ = _
  rw [← EReal.coe_add]
  rfl

/-- The activation. -/
theorem v208_read {t : ℕ → ℕ → ℕ → ℕ → ℝ}
    (ht : R4 (φ := .f32) (a := 8) (b := 2048) (c := 28) (d := 28) (val_main_v195 (F := Ideal) x0 x1 x2 x3 x4 x5 x6 x7 x8 x9 x10 x11 x12 x13) t) :
    R4 (φ := .f32) (a := 8) (b := 2048) (c := 28) (d := 28) (val_main_v208 (F := Ideal) x0 x1 x2 x3 x4 x5 x6 x7 x8 x9 x10 x11 x12 x13)
      (fun i f h v => gelu (t i f h v)) := fun j => by
  rw [val_main_v208_apply, val_main_v207_apply, val_main_v206_apply, val_main_v205_apply, val_main_v204_apply, val_main_v203_apply, val_main_v202_apply,
    val_main_v201_apply, val_main_v200_apply, val_main_v199_apply, val_main_v198_apply, val_main_v197_apply, val_main_v196_apply, val_main_cst_32_apply,
    val_main_cst_33_apply, val_main_cst_34_apply, val_main_cst_35_apply, ht]
  simp only [Ideal.addf_def, Ideal.mulf_def, Ideal.hostUnary_tanh_def, Ideal.ofBits_def]
  rw [w_half, w_one, w_k1, w_k2, ← EReal.coe_mul, ← EReal.coe_mul, ← EReal.coe_mul, ← EReal.coe_add, ← EReal.coe_mul, Ideal.tanh_coe, ← EReal.coe_add,
    ← EReal.coe_mul, ← EReal.coe_mul]
  rfl

/-- The feed-forward block with its residual. -/
theorem v214_read {a : ℕ → ℕ → ℕ → ℝ} {w : Mat} {b : ℕ → ℝ}
    (ha : R4 (φ := .f32) (a := 8) (b := 2048) (c := 28) (d := 28) (val_main_v208 (F := Ideal) x0 x1 x2 x3 x4 x5 x6 x7 x8 x9 x10 x11 x12 x13)
      (fun i f h v => a i (28 * h + v) f))
    (hw : R2 (φ := .f32) (a := 512) (b := 2048) (val_main_v188 (F := Ideal) x14) w) (hb : R1 (φ := .f32) (a := 512) (val_main_v190 (F := Ideal) x15) b)
    (hy : Img (val_main_v160 (F := Ideal) x0 x1 x2 x3 x4 x5 x6 x7 x8 x9) Y) :
    Img (val_main_v214 (F := Ideal) x0 x1 x2 x3 x4 x5 x6 x7 x8 x9 x10 x11 x12 x13 x14 x15)
      (fun i n d => (∑ f ∈ range 2048, a i n f * w d f) + b d + Y i n d) := fun j => by
  rw [val_main_v214_apply, val_main_v213_apply, val_main_v212_apply, val_main_v211_apply, val_main_v210_apply, val_main_v209_apply, hy, hb,
    sum_real (fun f => a (j 0).val (28 * (j 2).val + (j 3).val) f * w (j 1).val f) fun k => by rw [ha, hw, mul_comm, ← EReal.coe_mul]]
  show (_ : EReal) + _ + _ = _
  rw [← EReal.coe_add, ← EReal.coe_add]

end

end Cert.Ref

end
-- ==== Proof.RefLayer.lean ====
/- The reference's two layers read at real arguments. -/
module

public import proofs.«01_k».proof.Proof.RefTwo
public import proofs.«01_k».proof.Proof.RefD

@[expose] public section

noncomputable section

namespace Cert.Ref

open Cert.ReferenceIdeal Cert.ReferenceIdeal.Gen Cert.ReferenceIdeal.Read Idealize.ShloMosaic Idealize.ShloMosaic.ValueIdx Cert.Kit Cert.Spec Cert.Layer Finset

section
variable {X : ℕ → Mat} {p : Par}
  {x0 : FVec Ideal S8x512x28x28 .f32} {x1 : FVec Ideal S784 .f32} {x2 : FVec Ideal S2x512 .f32} {x3 x4 x5 : FVec Ideal S2x512x512 .f32}
  {x6 x7 : FVec Ideal S2x64x64 .f32} {x8 : FVec Ideal S2x512x24 .f32} {x9 : FVec Ideal S2x512x512 .f32} {x10 x11 : FVec Ideal S2x512 .f32}
  {x12 : FVec Ideal S2x2048x512 .f32} {x13 : FVec Ideal S2x2048 .f32} {x14 : FVec Ideal S2x512x2048 .f32} {x15 : FVec Ideal S2x512 .f32}

/-- The first layer. -/
theorem first_read (hx : Img (val_main_v2 (F := Ideal) x0 x1) X)
    (hg : R1 (φ := .f32) (a := 512) (val_main_v6 (F := Ideal) x2) p.g)
    (hwq : R2 (φ := .f32) (a := 512) (b := 512) (val_main_v8 (F := Ideal) x3) p.wq)
    (hwk : R2 (φ := .f32) (a := 512) (b := 512) (val_main_v10 (F := Ideal) x4) p.wk)
    (hwv : R2 (φ := .f32) (a := 512) (b := 512) (val_main_v12 (F := Ideal) x5) p.wv)
    (hwkc : R2 (φ := .f32) (a := 64) (b := 64) (val_main_v14 (F := Ideal) x6) p.wkc)
    (hwvc : R2 (φ := .f32) (a := 64) (b := 64) (val_main_v16 (F := Ideal) x7) p.wvc)
    (hwg : R2 (φ := .f32) (a := 512) (b := 24) (val_main_v18 (F := Ideal) x8) p.wg)
    (hwo : R2 (φ := .f32) (a := 512) (b := 512) (val_main_v20 (F := Ideal) x9) p.wo)
    (hlng : R1 (φ := .f32) (a := 512) (val_main_v162 (F := Ideal) x10) p.lng)
    (hlnb : R1 (φ := .f32) (a := 512) (val_main_v164 (F := Ideal) x11) p.lnb)
    (hw1 : R2 (φ := .f32) (a := 2048) (b := 512) (val_main_v184 (F := Ideal) x12) p.w1)
    (hb1 : R1 (φ := .f32) (a := 2048) (val_main_v186 (F := Ideal) x13) p.b1)
    (hw2 : R2 (φ := .f32) (a := 512) (b := 2048) (val_main_v188 (F := Ideal) x14) p.w2)
    (hb2 : R1 (φ := .f32) (a := 512) (val_main_v190 (F := Ideal) x15) p.b2) :
    Img (val_main_v214 (F := Ideal) x0 x1 x2 x3 x4 x5 x6 x7 x8 x9 x10 x11 x12 x13 x14 x15) (fun b => layer p (X b)) := by
  have t4 := v4_read hx
  have t33 := v33_read t4 hg
  have q := v36_read t33 hwq
  have k := v36_read t33 hwk
  have v := v36_read t33 hwv
  have kc := v56_read (v55_read k) hwkc
  have vc := v56_read (v55_read v) hwvc
  have s := v79_read q k
  have i := v84_read q k
  have a := v76_read (v64_read q kc) vc
  have b := v111_read (S := fun b h n m => Sel (pr (xn p.g (X b)) p.wq) (pr (xn p.g (X b)) p.wk) h n m)
    (T := fun b h n m => sc (pr (xn p.g (X b)) p.wq) (pr (xn p.g (X b)) p.wk) h n m) (fun b h n => sel_seen _ _ h n) (v99_read s i) v
  have c := v134_read (v122_read s) v
  have r := v160_read (v154_read (v143_read t33 hwg) a b c) hwo t4
  exact v214_read (v208_read (v195_read (v182_read r hlng hlnb) hw1 hb1)) hw2 hb2 r

end

section
variable {a b c : ℕ} {φ : FTy}

/-- A stack of copies of a matrix. -/
def stack (w : FVec Ideal ⟨2, ![a, b]⟩ φ) : FVec Ideal ⟨3, ![c, a, b]⟩ φ := fun i => w (ix2 (i 1) (i 2))
/-- Copies of a vector under each other. -/
def under (g : FVec Ideal ⟨1, ![a]⟩ φ) : FVec Ideal ⟨2, ![c, a]⟩ φ := fun i => g (ix1 (i 1))

theorem stack_row (w : FVec Ideal ⟨2, ![a, b]⟩ φ) (h : (⟨3, ![c, a, b]⟩ : Shape).Slices ![0, 0, 0] ⟨3, ![1, a, b]⟩)
    (h' : (⟨3, ![1, a, b]⟩ : Shape).ShapeCasts ⟨2, ![a, b]⟩) :
    shapeCast ⟨2, ![a, b]⟩ (extractStridedSlice ⟨3, ![1, a, b]⟩ ![0, 0, 0] (stack w) h) h' = w := funext fun j => by
  have ho : 0 + 1 ≤ c := h.2 0
  rw [shapeCast_apply _ h' j (ix3 ⟨0, Nat.one_pos⟩ (j 0) (j 1)) (by
      rw [Shape.rowMajor_val_three, Shape.rowMajor_val_two]
      show ((0 * a + (j 0).val) * b + (j 1).val) = (j 0).val * b + (j 1).val
      rw [Nat.zero_mul, Nat.zero_add]),
    extractStridedSlice_apply ![0, 0, 0] (stack w) h _ (ix3 ⟨0, by omega⟩ (j 0) (j 1)) (by
      intro d
      match d with
      | ⟨0, _⟩ => rfl
      | ⟨1, _⟩ => exact (Nat.zero_add _).symm
      | ⟨2, _⟩ => exact (Nat.zero_add _).symm)]
  exact congrArg w (funext fun d => match d with
    | ⟨0, _⟩ => rfl
    | ⟨1, _⟩ => rfl)

theorem under_row (g : FVec Ideal ⟨1, ![a]⟩ φ) (h : (⟨2, ![c, a]⟩ : Shape).Slices ![0, 0] ⟨2, ![1, a]⟩)
    (h' : (⟨2, ![1, a]⟩ : Shape).ShapeCasts ⟨1, ![a]⟩) :
    shapeCast ⟨1, ![a]⟩ (extractStridedSlice ⟨2, ![1, a]⟩ ![0, 0] (under g) h) h' = g := funext fun j => by
  have ho : 0 + 1 ≤ c := h.2 0
  rw [shapeCast_apply _ h' j (ix2 ⟨0, Nat.one_pos⟩ (j 0)) (by
      rw [Shape.rowMajor_val_two, Shape.rowMajor_val_one]
      show 0 * a + (j 0).val = (j 0).val
      rw [Nat.zero_mul, Nat.zero_add]),
    extractStridedSlice_apply ![0, 0] (under g) h _ (ix2 ⟨0, by omega⟩ (j 0)) (by
      intro d
      match d with
      | ⟨0, _⟩ => rfl
      | ⟨1, _⟩ => exact (Nat.zero_add _).symm)]
  exact congrArg g (funext fun d => match d with
    | ⟨0, _⟩ => rfl)

end

/-- An image plus positions of zero. -/
theorem plus_zero (y : FVec Ideal S8x512x28x28 .f32) : val_main_v2 (F := Ideal) y (fun _ => 0) = y := funext fun i => by
  rw [val_main_v2_apply, val_main_v1_apply, val_main_v0_apply]
  exact add_zero (y i)

/-- One layer of the reference on any image and weights. -/
theorem layer_read {X : ℕ → Mat} {p : Par} {y : FVec Ideal S8x512x28x28 .f32} {g : FVec Ideal S512 .f32} {wq wk wv : FVec Ideal S512x512 .f32} {wkc wvc : FVec Ideal S64x64 .f32}
    {wg : FVec Ideal S512x24 .f32} {wo : FVec Ideal S512x512 .f32} {lng lnb : FVec Ideal S512 .f32} {w1 : FVec Ideal S2048x512 .f32}
    {b1 : FVec Ideal S2048 .f32} {w2 : FVec Ideal S512x2048 .f32} {b2 : FVec Ideal S512 .f32} (hy : Img y X)
    (hg : R1 (φ := .f32) (a := 512) g p.g)
    (hwq : R2 (φ := .f32) (a := 512) (b := 512) wq p.wq)
    (hwk : R2 (φ := .f32) (a := 512) (b := 512) wk p.wk)
    (hwv : R2 (φ := .f32) (a := 512) (b := 512) wv p.wv)
    (hwkc : R2 (φ := .f32) (a := 64) (b := 64) wkc p.wkc)
    (hwvc : R2 (φ := .f32) (a := 64) (b := 64) wvc p.wvc)
    (hwg : R2 (φ := .f32) (a := 512) (b := 24) wg p.wg)
    (hwo : R2 (φ := .f32) (a := 512) (b := 512) wo p.wo)
    (hlng : R1 (φ := .f32) (a := 512) lng p.lng)
    (hlnb : R1 (φ := .f32) (a := 512) lnb p.lnb)
    (hw1 : R2 (φ := .f32) (a := 2048) (b := 512) w1 p.w1)
    (hb1 : R1 (φ := .f32) (a := 2048) b1 p.b1)
    (hw2 : R2 (φ := .f32) (a := 512) (b := 2048) w2 p.w2)
    (hb2 : R1 (φ := .f32) (a := 512) b2 p.b2) :
    Img (layerOf y g wq wk wv wkc wvc wg wo lng lnb w1 b1 w2 b2) (fun b => layer p (X b)) := by
  have eg : val_main_v6 (F := Ideal) (under g) = g := under_row _ _ _
  have ewq : val_main_v8 (F := Ideal) (stack wq) = wq := stack_row _ _ _
  have ewk : val_main_v10 (F := Ideal) (stack wk) = wk := stack_row _ _ _
  have ewv : val_main_v12 (F := Ideal) (stack wv) = wv := stack_row _ _ _
  have ewkc : val_main_v14 (F := Ideal) (stack wkc) = wkc := stack_row _ _ _
  have ewvc : val_main_v16 (F := Ideal) (stack wvc) = wvc := stack_row _ _ _
  have ewg : val_main_v18 (F := Ideal) (stack wg) = wg := stack_row _ _ _
  have ewo : val_main_v20 (F := Ideal) (stack wo) = wo := stack_row _ _ _
  have elng : val_main_v162 (F := Ideal) (under lng) = lng := under_row _ _ _
  have elnb : val_main_v164 (F := Ideal) (under lnb) = lnb := under_row _ _ _
  have ew1 : val_main_v184 (F := Ideal) (stack w1) = w1 := stack_row _ _ _
  have eb1 : val_main_v186 (F := Ideal) (under b1) = b1 := under_row _ _ _
  have ew2 : val_main_v188 (F := Ideal) (stack w2) = w2 := stack_row _ _ _
  have eb2 : val_main_v190 (F := Ideal) (under b2) = b2 := under_row _ _ _
  rw [← plus_zero y] at hy ⊢
  have h := first_read hy ((congrArg (fun z => R1 (φ := .f32) (a := 512) z p.g) eg).mpr hg) ((congrArg (fun z => R2 (φ := .f32) (a := 512) (b := 512) z p.wq) ewq).mpr hwq) ((congrArg (fun z => R2 (φ := .f32) (a := 512) (b := 512) z p.wk) ewk).mpr hwk) ((congrArg (fun z => R2 (φ := .f32) (a := 512) (b := 512) z p.wv) ewv).mpr hwv) ((congrArg (fun z => R2 (φ := .f32) (a := 64) (b := 64) z p.wkc) ewkc).mpr hwkc) ((congrArg (fun z => R2 (φ := .f32) (a := 64) (b := 64) z p.wvc) ewvc).mpr hwvc) ((congrArg (fun z => R2 (φ := .f32) (a := 512) (b := 24) z p.wg) ewg).mpr hwg) ((congrArg (fun z => R2 (φ := .f32) (a := 512) (b := 512) z p.wo) ewo).mpr hwo) ((congrArg (fun z => R1 (φ := .f32) (a := 512) z p.lng) elng).mpr hlng) ((congrArg (fun z => R1 (φ := .f32) (a := 512) z p.lnb) elnb).mpr hlnb) ((congrArg (fun z => R2 (φ := .f32) (a := 2048) (b := 512) z p.w1) ew1).mpr hw1) ((congrArg (fun z => R1 (φ := .f32) (a := 2048) z p.b1) eb1).mpr hb1) ((congrArg (fun z => R2 (φ := .f32) (a := 512) (b := 2048) z p.w2) ew2).mpr hw2) ((congrArg (fun z => R1 (φ := .f32) (a := 512) z p.b2) eb2).mpr hb2)
  rw [first_layer, eg, ewq, ewk, ewv, ewkc, ewvc, ewg, ewo, elng, elnb, ew1, eb1, ew2, eb2] at h
  exact h

/-- The reference's result. -/
theorem result_read {A : Arr} {x0 : FVec Ideal S8x512x28x28 .f32} {x1 : FVec Ideal S784 .f32} {x2 : FVec Ideal S2x512 .f32} {x3 x4 x5 : FVec Ideal S2x512x512 .f32}
    {x6 x7 : FVec Ideal S2x64x64 .f32} {x8 : FVec Ideal S2x512x24 .f32} {x9 : FVec Ideal S2x512x512 .f32} {x10 x11 : FVec Ideal S2x512 .f32}
    {x12 : FVec Ideal S2x2048x512 .f32} {x13 : FVec Ideal S2x2048 .f32} {x14 : FVec Ideal S2x512x2048 .f32} {x15 : FVec Ideal S2x512 .f32}
    (H : Held A x0 x1 x2 x3 x4 x5 x6 x7 x8 x9 x10 x11 x12 x13 x14 x15) :
    Img (val_main_v426 (F := Ideal) x0 x1 x2 x3 x4 x5 x6 x7 x8 x9 x10 x11 x12 x13 x14 x15) (fun b => layer (A.par 1) (layer (A.par 0) (A.tok b))) := by
  have h0 : Img (val_main_v2 (F := Ideal) x0 x1) A.tok := fun i => by
    have i2 : (i 2).val < 28 := (i 2).isLt
    have i3 : (i 3).val < 28 := (i 3).isLt
    have e : ((0 * 1 + 0) * 28 + (i 2).val) * 28 + (i 3).val = 28 * (i 2).val + (i 3).val := by omega
    have e1 : (28 * (i 2).val + (i 3).val) / 28 = (i 2).val := by omega
    have e2 : (28 * (i 2).val + (i 3).val) % 28 = (i 3).val := by omega
    rw [val_main_v2_apply, val_main_v1_apply, val_main_v0_apply, H.x, H.pos, Ideal.addf_def, ← EReal.coe_add]
    show ((A.x (i 0).val (i 1).val (i 2).val (i 3).val + A.pos (((0 * 1 + 0) * 28 + (i 2).val) * 28 + (i 3).val) : ℝ) : EReal)
      = ((A.x (i 0).val (i 1).val ((28 * (i 2).val + (i 3).val) / 28) ((28 * (i 2).val + (i 3).val) % 28) + A.pos (28 * (i 2).val + (i 3).val) : ℝ) : EReal)
    rw [e, e1, e2]
  have h1 : Img (val_main_v214 (F := Ideal) x0 x1 x2 x3 x4 x5 x6 x7 x8 x9 x10 x11 x12 x13 x14 x15) (fun b => layer (A.par 0) (A.tok b)) :=
    first_read (p := A.par 0) h0 (R2.row H.g _ _) (R3.row H.wq _ _) (R3.row H.wk _ _) (R3.row H.wv _ _) (R3.row H.wkc _ _) (R3.row H.wvc _ _) (R3.row H.wg _ _) (R3.row H.wo _ _) (R2.row H.lng _ _) (R2.row H.lnb _ _) (R3.row H.w1 _ _) (R2.row H.b1 _ _) (R3.row H.w2 _ _) (R2.row H.b2 _ _)
  rw [second_layer]
  exact layer_read (p := A.par 1) h1 (R2.row H.g _ _) (R3.row H.wq _ _) (R3.row H.wk _ _) (R3.row H.wv _ _) (R3.row H.wkc _ _) (R3.row H.wvc _ _) (R3.row H.wg _ _) (R3.row H.wo _ _) (R2.row H.lng _ _) (R2.row H.lnb _ _) (R3.row H.w1 _ _) (R2.row H.b1 _ _) (R3.row H.w2 _ _) (R2.row H.b2 _ _)

end Cert.Ref

end
-- ==== Proof.Finite.lean ====
/- What the precondition gives: it asks that every argument be finite, so every argument holds reals, and the arrays of reals the two
   programs are read over exist. -/
module

public import proofs.«01_k».proof.Pre_finite
public import proofs.«01_k».proof.Proof.Prep
public import Idealize.ShloMosaic.Lib.ReduceAll
public import Idealize.ShloMosaic.Lib.Affine
public import Idealize.ShloMosaic.Lib.Decide

@[expose] public section

noncomputable section

namespace Cert.Finite

open Idealize.ShloMosaic Cert.Kit

/-- The side conditions of the precondition's operations. -/
instance facts : Cert.Pre_finite.Facts where
  bcast_S_S8x512x28x28 := by decide
  reducesTo_S8x512x28x28_S_d0_1_2_3 := by decide
  h_S_ := by decide
  bcast_S_S784 := by decide
  reducesTo_S784_S_d0 := by decide
  bcast_S_S2x512 := by decide
  reducesTo_S2x512_S_d0_1 := by decide
  bcast_S_S2x512x512 := by decide
  reducesTo_S2x512x512_S_d0_1_2 := by decide
  bcast_S_S2x64x64 := by decide
  reducesTo_S2x64x64_S_d0_1_2 := by decide
  bcast_S_S2x512x24 := by decide
  reducesTo_S2x512x24_S_d0_1_2 := by decide
  bcast_S_S2x2048x512 := by decide
  reducesTo_S2x2048x512_S_d0_1_2 := by decide
  bcast_S_S2x2048 := by decide
  reducesTo_S2x2048_S_d0_1 := by decide
  bcast_S_S2x512x2048 := by decide
  reducesTo_S2x512x2048_S_d0_1_2 := by decide

/-- One index of rank 0. -/
instance one_index : Subsingleton (Shape.Idx ⟨0, ![]⟩) := ⟨fun a b => funext fun k => k.elim0⟩

/-- An extended real whose absolute value is below infinity is a real. -/
theorem real_of_abs_lt (x : EReal) (h : max x (-x) < ⊤) : ∃ r : ℝ, x = (r : EReal) := by
  induction x using EReal.rec with
  | bot => simp at h
  | top => simp at h
  | coe r => exact ⟨r, rfl⟩

/-- One argument's test: the conjunction over the array of |x| < ∞. -/
def test {s : Shape} {axes : List (Fin s.rank)} (x : FVec Ideal s .f32) (dims : Fin 0 → Fin s.rank)
    (hb : (⟨0, ![]⟩ : Shape).BroadcastsInDim s dims) (hr : s.ReducesTo axes ⟨0, ![]⟩) (h0 : 0 < (⟨0, ![]⟩ : Shape).numel) : IVec ⟨0, ![]⟩ 1 :=
  Host.reduce IntOp.andi (cmpf .olt (Host.absf x) (broadcastInDim s dims hb (constant (F := Ideal) ⟨0, ![]⟩ .f32 0x7F800000#32)))
    (constantI ⟨0, ![]⟩ 1 1#1) hr h0

/-- A test that is one says that the argument holds reals. -/
theorem test_real {s : Shape} {axes : List (Fin s.rank)} {x : FVec Ideal s .f32} {dims : Fin 0 → Fin s.rank}
    {hb : (⟨0, ![]⟩ : Shape).BroadcastsInDim s dims} {hr : s.ReducesTo axes ⟨0, ![]⟩} {h0 : 0 < (⟨0, ![]⟩ : Shape).numel}
    {j : (⟨0, ![]⟩ : Shape).Idx} (e : test x dims hb hr h0 j = 1#1) (i : s.Idx) : ∃ r : ℝ, x i = (r : EReal) := by
  have h := Host.reduce_andi_all _ _ hr h0 j e i
  have h' : BitVec.ofBool (decide (max (x i) (-(x i)) < Ideal.ofBits .f32 0x7F800000#32)) = 1#1 := h
  rw [w_top] at h'
  refine real_of_abs_lt _ ?_
  by_contra hn
  rw [decide_eq_false hn] at h'
  exact absurd h' (by decide)

/-- Reals at every index of a rank-1 array, by coordinates. -/
theorem reals1 {a : ℕ} (x : FVec Ideal ⟨1, ![a]⟩ .f32) (h : ∀ i, ∃ r : ℝ, x i = (r : EReal)) : ∃ f, R1 x f := by
  choose r hr using h
  have inj : Function.Injective (fun j : (⟨1, ![a]⟩ : Shape).Idx => (j 0).val) := fun p q e => by
    funext k; match k with | ⟨0, _⟩ => exact Fin.ext e
  exact ⟨Function.extend (fun j : (⟨1, ![a]⟩ : Shape).Idx => (j 0).val) r 0, fun j => by rw [hr, ← inj.extend_apply r 0 j]⟩

/-- The same at rank 2. -/
theorem reals2 {a b : ℕ} (x : FVec Ideal ⟨2, ![a, b]⟩ .f32) (h : ∀ i, ∃ r : ℝ, x i = (r : EReal)) : ∃ f, R2 x f := by
  choose r hr using h
  have inj : Function.Injective (fun j : (⟨2, ![a, b]⟩ : Shape).Idx => ((j 0).val, (j 1).val)) := fun p q e => by
    have e := Prod.mk.inj e
    funext k; match k with | ⟨0, _⟩ => exact Fin.ext e.1 | ⟨1, _⟩ => exact Fin.ext e.2
  exact ⟨fun p q => Function.extend (fun j : (⟨2, ![a, b]⟩ : Shape).Idx => ((j 0).val, (j 1).val)) r 0 (p, q),
    fun j => by rw [hr, ← inj.extend_apply r 0 j]⟩

/-- The same at rank 3. -/
theorem reals3 {a b c : ℕ} (x : FVec Ideal ⟨3, ![a, b, c]⟩ .f32) (h : ∀ i, ∃ r : ℝ, x i = (r : EReal)) : ∃ f, R3 x f := by
  choose r hr using h
  have inj : Function.Injective (fun j : (⟨3, ![a, b, c]⟩ : Shape).Idx => ((j 0).val, (j 1).val, (j 2).val)) := fun p q e => by
    obtain ⟨e0, e⟩ := Prod.mk.inj e
    have e := Prod.mk.inj e
    funext k; match k with | ⟨0, _⟩ => exact Fin.ext e0 | ⟨1, _⟩ => exact Fin.ext e.1 | ⟨2, _⟩ => exact Fin.ext e.2
  exact ⟨fun p q s => Function.extend (fun j : (⟨3, ![a, b, c]⟩ : Shape).Idx => ((j 0).val, (j 1).val, (j 2).val)) r 0 (p, q, s),
    fun j => by rw [hr, ← inj.extend_apply r 0 j]⟩

/-- The same at rank 4. -/
theorem reals4 {a b c d : ℕ} (x : FVec Ideal ⟨4, ![a, b, c, d]⟩ .f32) (h : ∀ i, ∃ r : ℝ, x i = (r : EReal)) : ∃ f, R4 x f := by
  choose r hr using h
  have inj : Function.Injective (fun j : (⟨4, ![a, b, c, d]⟩ : Shape).Idx => ((j 0).val, (j 1).val, (j 2).val, (j 3).val)) := fun p q e => by
    obtain ⟨e0, e⟩ := Prod.mk.inj e
    obtain ⟨e1, e⟩ := Prod.mk.inj e
    have e := Prod.mk.inj e
    funext k
    match k with | ⟨0, _⟩ => exact Fin.ext e0 | ⟨1, _⟩ => exact Fin.ext e1 | ⟨2, _⟩ => exact Fin.ext e.1 | ⟨3, _⟩ => exact Fin.ext e.2
  exact ⟨fun p q s t => Function.extend (fun j : (⟨4, ![a, b, c, d]⟩ : Shape).Idx => ((j 0).val, (j 1).val, (j 2).val, (j 3).val)) r 0 (p, q, s, t),
    fun j => by rw [hr, ← inj.extend_apply r 0 j]⟩

/-- A conjunction of bits that is one has both sides one. -/
theorem both {x y : IVec ⟨0, ![]⟩ 1} {j : (⟨0, ![]⟩ : Shape).Idx} (h : andi x y j = 1#1) : x j = 1#1 ∧ y j = 1#1 :=
  IntOp.andi_eq_one.1 h

open Cert.Pre_finite in
/-- Arguments the precondition holds of are the reals of some arrays. -/
theorem held (x0 : FVec Ideal S8x512x28x28 .f32) (x1 : FVec Ideal S784 .f32) (x2 : FVec Ideal S2x512 .f32) (x3 x4 x5 : FVec Ideal S2x512x512 .f32)
    (x6 x7 : FVec Ideal S2x64x64 .f32) (x8 : FVec Ideal S2x512x24 .f32) (x9 : FVec Ideal S2x512x512 .f32) (x10 x11 : FVec Ideal S2x512 .f32)
    (x12 : FVec Ideal S2x2048x512 .f32) (x13 : FVec Ideal S2x2048 .f32) (x14 : FVec Ideal S2x512x2048 .f32) (x15 : FVec Ideal S2x512 .f32)
    (h : Cert.Pre_finite.fn (F := Ideal) x0 x1 x2 x3 x4 x5 x6 x7 x8 x9 x10 x11 x12 x13 x14 x15 = fun _ => 1#1) :
    ∃ A : Arr, Held A x0 x1 x2 x3 x4 x5 x6 x7 x8 x9 x10 x11 x12 x13 x14 x15 := by
  have h := congrFun h (fun k => k.elim0)
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  obtain ⟨f0, r0⟩ := reals4 x0 (test_real h0)
  obtain ⟨f1, r1⟩ := reals1 x1 (test_real h1)
  obtain ⟨f2, r2⟩ := reals2 x2 (test_real h2)
  obtain ⟨f3, r3⟩ := reals3 x3 (test_real h3)
  obtain ⟨f4, r4⟩ := reals3 x4 (test_real h4)
  obtain ⟨f5, r5⟩ := reals3 x5 (test_real h5)
  obtain ⟨f6, r6⟩ := reals3 x6 (test_real h6)
  obtain ⟨f7, r7⟩ := reals3 x7 (test_real h7)
  obtain ⟨f8, r8⟩ := reals3 x8 (test_real h8)
  obtain ⟨f9, r9⟩ := reals3 x9 (test_real h9)
  obtain ⟨f10, r10⟩ := reals2 x10 (test_real h10)
  obtain ⟨f11, r11⟩ := reals2 x11 (test_real h11)
  obtain ⟨f12, r12⟩ := reals3 x12 (test_real h12)
  obtain ⟨f13, r13⟩ := reals2 x13 (test_real h13)
  obtain ⟨f14, r14⟩ := reals3 x14 (test_real h14)
  obtain ⟨f15, r15⟩ := reals2 x15 (test_real h15)
  exact ⟨⟨f0, f1, f2, f3, f4, f5, f6, f7, f8, f9, f10, f11, f12, f13, f14, f15⟩,
    ⟨r0, r1, r2, r3, r4, r5, r6, r7, r8, r9, r10, r11, r12, r13, r14, r15⟩⟩

end Cert.Finite

end
-- ==== Proof.lean ====
/- The claims of this certificate: each of the three programs runs, leaves its arguments unchanged and ends with every counter at zero;
   the kernel with its named constants is the printed kernel; and over the reals the kernel and the reference end with the same array. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Host
public import proofs.«01_k».proof.Proof.RefLayer
public import proofs.«01_k».proof.Proof.Finite
public import Idealize.ShloMosaic.Lib.Quiescent

@[expose] public section

noncomputable section

namespace Cert.Proof

open Idealize.ShloMosaic Idealize.SL.Sem

/-- The kernel as printed runs, keeps its arguments, and leaves every counter at zero. -/
theorem frame_Kernel : Cert.quiescent_Kernel := fun m ρ _ => Cert.Kernel.Gen.frame m ρ

/-- So does the kernel over the reals. -/
theorem frame_KernelIdeal : Cert.quiescent_KernelIdeal := fun m ρ _ => Cert.KernelIdeal.Gen.frame m ρ

/-- So does the reference over the reals: it is a straight line of host operations and declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants stand for the words the kernel prints. -/
theorem named : Cert.preserves_Kernel_KernelIdeal :=
  ⟨IdealRules.named_const.statement Cert.KernelIdeal.κ "gelu_cubic" .bf16 0x3D37#16 _ rfl,
   IdealRules.named_const.statement Cert.KernelIdeal.κ "sqrt_two_over_pi" .bf16 0x3F4C#16 _ rfl⟩

/-- Over the reals the kernel and the reference end with the same array: both are the two layers of the arguments' tokens. -/
theorem value : Cert.algebraic_KernelIdeal_ReferenceIdeal_pre_finite := fun m g m' g' hpre hag => by
  refine ⟨fun c => Cert.KernelIdeal.Gen.W5 m g c (Proc.devRef .tc Cert.KernelIdeal.main_v0), Cert.Layer.run m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v426_eq (StableHlo.launchContents m' c)).trans ?_
  obtain ⟨A, H⟩ := Cert.Finite.held _ _ _ _ _ _ _ _ _ _ _ _ _ _ _ _ (hpre c)
  obtain ⟨e0, e1, e2, e3, e4, e5, e6, e7, e8, e9, e10, e11, e12, e13, e14, e15⟩ := hag c
  have HR : Cert.Kit.Held A (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := by
    rw [e0, e1, e2, e3, e4, e5, e6, e7, e8, e9, e10, e11, e12, e13, e14, e15]
    exact H
  have HK : Cert.Layer.HeldIn A (Cert.KernelIdeal.Gen.W0 m g c) := H
  funext j
  exact (Cert.Ref.result_read HR j).trans (Cert.Layer.result_read HK j).symm

/-- The claims together. -/
theorem claim : Cert.Claim :=
  ⟨Cert.Kernel.Gen.facts, Cert.KernelIdeal.Gen.facts, Cert.ReferenceIdeal.Gen.facts, Cert.Finite.facts, frame_Kernel, frame_KernelIdeal,
    fun m ρ _ => Cert.KernelIdeal.Gen.frame m ρ, frame_ReferenceIdeal, fun m ρ _ => frame_ReferenceIdeal m ρ trivial, named, value⟩

end Cert.Proof

end
